-- ==== Defs.lean ====
def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_finite_weights [hPre_finite_weights : Cert.Pre_finite_weights.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_finite_weights.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_finite_weights [hPre_finite_weights : Cert.Pre_finite_weights.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_finite_weights.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerIdeal_finite_weights [hPre_finite_weights : Cert.Pre_finite_weights.Facts] (m : (ℓ : Loc Cert.InnerIdeal.nD Cert.InnerIdeal.τ Cert.InnerIdeal.sig) → Buf (Elt Ideal) ℓ) : Prop :=
  ∀ c : Dev Cert.InnerIdeal.nD,
    (Cert.Pre_finite_weights.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6))) = (fun _ => 1#1)

def Pre_InnerRefIdeal (m : (ℓ : Loc Cert.InnerRefIdeal.nD Cert.InnerRefIdeal.τ Cert.InnerRefIdeal.sig) → Buf (Elt Ideal) ℓ) : Prop :=
  True

def Pre_InnerRefIdeal_finite_weights [hPre_finite_weights : Cert.Pre_finite_weights.Facts] (m : (ℓ : Loc Cert.InnerRefIdeal.nD Cert.InnerRefIdeal.τ Cert.InnerRefIdeal.sig) → Buf (Elt Ideal) ℓ) : Prop :=
  ∀ c : Dev Cert.InnerRefIdeal.nD,
    (Cert.Pre_finite_weights.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gla [hPre_finite_gla : Cert.Pre_finite_gla.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gla [hPre_finite_gla : Cert.Pre_finite_gla.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3))) = (fun _ => 1#1)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsIdeal_pre_finite_weights [hExpertsIdeal : Cert.ExpertsIdeal.Facts] [hPre_finite_weights : Cert.Pre_finite_weights.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_finite_weights m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_finite_weights [hExpertsRefIdeal : Cert.ExpertsRefIdeal.Facts] [hPre_finite_weights : Cert.Pre_finite_weights.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_finite_weights m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ r.2.sem = fun _ => 0)

def quiescent_InnerIdeal_pre_finite_weights [hInnerIdeal : Cert.InnerIdeal.Facts] [hPre_finite_weights : Cert.Pre_finite_weights.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal_finite_weights m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6))
      ∧ r.2.sem = fun _ => 0)

def quiescent_InnerRefIdeal_pre_finite_weights [hInnerRefIdeal : Cert.InnerRefIdeal.Facts] [hPre_finite_weights : Cert.Pre_finite_weights.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal_finite_weights m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaIdeal_pre_finite_gla [hGlaIdeal : Cert.GlaIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gla m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_GlaRefIdeal_pre_finite_gla [hGlaRefIdeal : Cert.GlaRefIdeal.Facts] [hPre_finite_gla : Cert.Pre_finite_gla.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gla m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def preserves_Experts_ExpertsIdeal : Prop :=
  True

def algebraic_ExpertsIdeal_ExpertsRefIdeal_pre_finite_weights [hExpertsIdeal : Cert.ExpertsIdeal.Facts] [hExpertsRefIdeal : Cert.ExpertsRefIdeal.Facts] [hPre_finite_weights : Cert.Pre_finite_weights.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_finite_weights m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v255) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v3)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v38) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v56) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v14) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_Inner_InnerIdeal : Prop :=
  True

def algebraic_InnerIdeal_InnerRefIdeal_pre_finite_weights [hInnerIdeal : Cert.InnerIdeal.Facts] [hInnerRefIdeal : Cert.InnerRefIdeal.Facts] [hPre_finite_weights : Cert.Pre_finite_weights.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal_finite_weights m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)
      ∧ m' ((c.tc : Thread Cert.InnerRefIdeal.nD Cert.InnerRefIdeal.τ).loc Cert.InnerRefIdeal.main_arg5) = m ((c.tc : Thread Cert.InnerIdeal.nD Cert.InnerIdeal.τ).loc Cert.InnerIdeal.main_arg5)
      ∧ m' ((c.tc : Thread Cert.InnerRefIdeal.nD Cert.InnerRefIdeal.τ).loc Cert.InnerRefIdeal.main_arg6) = m ((c.tc : Thread Cert.InnerIdeal.nD Cert.InnerIdeal.τ).loc Cert.InnerIdeal.main_arg6)) →
    ∃ (v0 : (c : Dev Cert.InnerIdeal.nD) → Buf (Elt Ideal) ((c.tc : Thread Cert.InnerIdeal.nD Cert.InnerIdeal.τ).loc Cert.InnerIdeal.main_v4)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v4) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v242) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4)
          ∧ r.2.mem ((c.tc : Thread Cert.InnerRefIdeal.nD Cert.InnerRefIdeal.τ).loc Cert.InnerRefIdeal.main_arg5) = m' ((c.tc : Thread Cert.InnerRefIdeal.nD Cert.InnerRefIdeal.τ).loc Cert.InnerRefIdeal.main_arg5)
          ∧ r.2.mem ((c.tc : Thread Cert.InnerRefIdeal.nD Cert.InnerRefIdeal.τ).loc Cert.InnerRefIdeal.main_arg6) = m' ((c.tc : Thread Cert.InnerRefIdeal.nD Cert.InnerRefIdeal.τ).loc Cert.InnerRefIdeal.main_arg6))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v14) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v31) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Router_RouterIdeal : Prop :=
  True

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v7_0)) (v1 : (c : Dev Cert.RouterIdeal.nD) → Buf (Elt Ideal) ((c.tc : Thread Cert.RouterIdeal.nD Cert.RouterIdeal.τ).loc Cert.RouterIdeal.main_v7_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v7_0) = v0 c
          ∧ r.2.mem ((c.tc : Thread Cert.RouterIdeal.nD Cert.RouterIdeal.τ).loc Cert.RouterIdeal.main_v7_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v59) = v0 c
          ∧ r.2.mem ((c.tc : Thread Cert.RouterRefIdeal.nD Cert.RouterRefIdeal.τ).loc Cert.RouterRefIdeal.main_v60) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5))

def preserves_Gla_GlaIdeal : Prop :=
  True

def algebraic_GlaIdeal_GlaRefIdeal_pre_finite_gla [hGlaIdeal : Cert.GlaIdeal.Facts] [hGlaRefIdeal : Cert.GlaRefIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gla m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v32)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v32) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v54) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def Claim : Prop :=
  ∃ (hExperts : Cert.Experts.Facts) (hExpertsIdeal : Cert.ExpertsIdeal.Facts) (hExpertsRefIdeal : Cert.ExpertsRefIdeal.Facts) (hCross : Cert.Cross.Facts) (hCrossIdeal : Cert.CrossIdeal.Facts) (hCrossRefIdeal : Cert.CrossRefIdeal.Facts) (hMerge : Cert.Merge.Facts) (hMergeIdeal : Cert.MergeIdeal.Facts) (hMergeRefIdeal : Cert.MergeRefIdeal.Facts) (hProject : Cert.Project.Facts) (hProjectIdeal : Cert.ProjectIdeal.Facts) (hProjectRefIdeal : Cert.ProjectRefIdeal.Facts) (hInner : Cert.Inner.Facts) (hInnerIdeal : Cert.InnerIdeal.Facts) (hInnerRefIdeal : Cert.InnerRefIdeal.Facts) (hMemory : Cert.Memory.Facts) (hMemoryIdeal : Cert.MemoryIdeal.Facts) (hMemoryRefIdeal : Cert.MemoryRefIdeal.Facts) (hConv : Cert.Conv.Facts) (hConvIdeal : Cert.ConvIdeal.Facts) (hConvRefIdeal : Cert.ConvRefIdeal.Facts) (hRouter : Cert.Router.Facts) (hRouterIdeal : Cert.RouterIdeal.Facts) (hRouterRefIdeal : Cert.RouterRefIdeal.Facts) (hGla : Cert.Gla.Facts) (hGlaIdeal : Cert.GlaIdeal.Facts) (hGlaRefIdeal : Cert.GlaRefIdeal.Facts) (hPre_finite_weights : Cert.Pre_finite_weights.Facts) (hPre_finite_router : Cert.Pre_finite_router.Facts) (hPre_finite_gla : Cert.Pre_finite_gla.Facts),
    quiescent_Experts (hExperts := hExperts)
    ∧ quiescent_ExpertsIdeal (hExpertsIdeal := hExpertsIdeal)
    ∧ quiescent_ExpertsIdeal_pre_finite_weights (hExpertsIdeal := hExpertsIdeal) (hPre_finite_weights := hPre_finite_weights)
    ∧ quiescent_ExpertsRefIdeal (hExpertsRefIdeal := hExpertsRefIdeal)
    ∧ quiescent_ExpertsRefIdeal_pre_finite_weights (hExpertsRefIdeal := hExpertsRefIdeal) (hPre_finite_weights := hPre_finite_weights)
    ∧ quiescent_Cross (hCross := hCross)
    ∧ quiescent_CrossIdeal (hCrossIdeal := hCrossIdeal)
    ∧ quiescent_CrossRefIdeal (hCrossRefIdeal := hCrossRefIdeal)
    ∧ quiescent_Merge (hMerge := hMerge)
    ∧ quiescent_MergeIdeal (hMergeIdeal := hMergeIdeal)
    ∧ quiescent_MergeRefIdeal (hMergeRefIdeal := hMergeRefIdeal)
    ∧ quiescent_Project (hProject := hProject)
    ∧ quiescent_ProjectIdeal (hProjectIdeal := hProjectIdeal)
    ∧ quiescent_ProjectRefIdeal (hProjectRefIdeal := hProjectRefIdeal)
    ∧ quiescent_Inner (hInner := hInner)
    ∧ quiescent_InnerIdeal (hInnerIdeal := hInnerIdeal)
    ∧ quiescent_InnerIdeal_pre_finite_weights (hInnerIdeal := hInnerIdeal) (hPre_finite_weights := hPre_finite_weights)
    ∧ quiescent_InnerRefIdeal (hInnerRefIdeal := hInnerRefIdeal)
    ∧ quiescent_InnerRefIdeal_pre_finite_weights (hInnerRefIdeal := hInnerRefIdeal) (hPre_finite_weights := hPre_finite_weights)
    ∧ quiescent_Memory (hMemory := hMemory)
    ∧ quiescent_MemoryIdeal (hMemoryIdeal := hMemoryIdeal)
    ∧ quiescent_MemoryRefIdeal (hMemoryRefIdeal := hMemoryRefIdeal)
    ∧ quiescent_Conv (hConv := hConv)
    ∧ quiescent_ConvIdeal (hConvIdeal := hConvIdeal)
    ∧ quiescent_ConvRefIdeal (hConvRefIdeal := hConvRefIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ quiescent_Gla (hGla := hGla)
    ∧ quiescent_GlaIdeal (hGlaIdeal := hGlaIdeal)
    ∧ quiescent_GlaIdeal_pre_finite_gla (hGlaIdeal := hGlaIdeal) (hPre_finite_gla := hPre_finite_gla)
    ∧ quiescent_GlaRefIdeal (hGlaRefIdeal := hGlaRefIdeal)
    ∧ quiescent_GlaRefIdeal_pre_finite_gla (hGlaRefIdeal := hGlaRefIdeal) (hPre_finite_gla := hPre_finite_gla)
    ∧ preserves_Experts_ExpertsIdeal
    ∧ algebraic_ExpertsIdeal_ExpertsRefIdeal_pre_finite_weights (hExpertsIdeal := hExpertsIdeal) (hExpertsRefIdeal := hExpertsRefIdeal) (hPre_finite_weights := hPre_finite_weights)
    ∧ preserves_Cross_CrossIdeal
    ∧ algebraic_CrossIdeal_CrossRefIdeal (hCrossIdeal := hCrossIdeal) (hCrossRefIdeal := hCrossRefIdeal)
    ∧ preserves_Merge_MergeIdeal
    ∧ algebraic_MergeIdeal_MergeRefIdeal (hMergeIdeal := hMergeIdeal) (hMergeRefIdeal := hMergeRefIdeal)
    ∧ preserves_Project_ProjectIdeal
    ∧ algebraic_ProjectIdeal_ProjectRefIdeal (hProjectIdeal := hProjectIdeal) (hProjectRefIdeal := hProjectRefIdeal)
    ∧ preserves_Inner_InnerIdeal
    ∧ algebraic_InnerIdeal_InnerRefIdeal_pre_finite_weights (hInnerIdeal := hInnerIdeal) (hInnerRefIdeal := hInnerRefIdeal) (hPre_finite_weights := hPre_finite_weights)
    ∧ preserves_Memory_MemoryIdeal
    ∧ algebraic_MemoryIdeal_MemoryRefIdeal (hMemoryIdeal := hMemoryIdeal) (hMemoryRefIdeal := hMemoryRefIdeal)
    ∧ preserves_Conv_ConvIdeal
    ∧ algebraic_ConvIdeal_ConvRefIdeal (hConvIdeal := hConvIdeal) (hConvRefIdeal := hConvRefIdeal)
    ∧ preserves_Router_RouterIdeal
    ∧ algebraic_RouterIdeal_RouterRefIdeal_pre_finite_router (hRouterIdeal := hRouterIdeal) (hRouterRefIdeal := hRouterRefIdeal) (hPre_finite_router := hPre_finite_router)
    ∧ preserves_Gla_GlaIdeal
    ∧ algebraic_GlaIdeal_GlaRefIdeal_pre_finite_gla (hGlaIdeal := hGlaIdeal) (hGlaRefIdeal := hGlaRefIdeal) (hPre_finite_gla := hPre_finite_gla)
-- ==== Pre_finite_gla.lean ====
abbrev S8x4096x7168 : Shape := ⟨3, ![8, 4096, 7168]⟩
abbrev S16x256 : Shape := ⟨2, ![16, 256]⟩
abbrev S256 : Shape := ⟨1, ![256]⟩
abbrev S_ : Shape := ⟨0, ![]⟩

class Facts : Prop where
  bcast_S_S8x4096x7168 : S_.BroadcastsInDim S8x4096x7168 (![] : Fin 0 → Fin S8x4096x7168.rank)
  reducesTo_S8x4096x7168_S_d0_1_2 : S8x4096x7168.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8x4096x7168 .bf16) (main_arg1 : FVec F S16x256 .f32) (main_arg2 : FVec F S256 .f32) (main_arg3 : FVec F S256 .f32) : IVec S_ 1 :=
  let main_v0 : FVec F S8x4096x7168 .bf16 := Host.absf main_arg0
  let main_cst : FVec F S_ .bf16 := constant S_ .bf16 0x7F80#16
  let main_v1 : FVec F S8x4096x7168 .bf16 := broadcastInDim S8x4096x7168 ![] bcast_S_S8x4096x7168 main_cst
  let main_v2 : IVec S8x4096x7168 1 := cmpf .olt main_v0 main_v1
  let main_c : IVec S_ 1 := constantI S_ 1 1#1
  let main_v3 : IVec S_ 1 := (fun x v => Host.reduce IntOp.andi x v reducesTo_S8x4096x7168_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Pre_finite_router.lean ====
abbrev S32768x1024 : Shape := ⟨2, ![32768, 1024]⟩
abbrev S1024 : Shape := ⟨1, ![1024]⟩
abbrev S1024x16 : Shape := ⟨2, ![1024, 16]⟩
abbrev S16 : Shape := ⟨1, ![16]⟩
abbrev S1024x4 : Shape := ⟨2, ![1024, 4]⟩
abbrev S4 : Shape := ⟨1, ![4]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S1024x4 1) : IVec S_ 1 :=
  let main_c_5 : IVec S_ 1 := constantI S_ 1 1#1
  let main_v17 : IVec S_ 1 := (fun x v => Host.reduce IntOp.andi x v reducesTo_S1024x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S32768x1024 .f32) (main_arg1 : FVec F S1024 .f32) (main_arg2 : FVec F S1024x16 .f32) (main_arg3 : FVec F S16 .f32) (main_arg4 : FVec F S1024x4 .f32) (main_arg5 : FVec F S4 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := Host.absf main_arg2
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1024x4 .f32 := Host.absf main_arg4
  let main_cst_4 : FVec F S_ .f32 := constant S_ .f32 0x7F800000#32
  let main_v15 : FVec F S1024x4 .f32 := broadcastInDim S1024x4 ![] bcast_S_S1024x4 main_cst_4
  let main_v16 : IVec S1024x4 1 := cmpf .olt main_v14 main_v15
  fn_part1 (F := F) main_arg5 main_v13 main_v16
-- ==== Pre_finite_weights.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S32768x16 : Shape := ⟨2, ![32768, 16]⟩
abbrev S_ : Shape := ⟨0, ![]⟩

class Facts : Prop where
  slices_S32768x128_S32768x16_0_0 : S32768x128.Slices ![0, 0] S32768x16
  bcast_S_S32768x16 : S_.BroadcastsInDim S32768x16 (![] : Fin 0 → Fin S32768x16.rank)

variable [Facts]

def fn {F : FTy → Type} [FloatOps F] (main_arg0 : FVec F S32768x1024 .f32) (main_arg1 : FVec F S32768x1024 .bf16) (main_arg2 : FVec F S32768x128 .f32) (main_arg3 : FVec F S16x1024x512 .f32) (main_arg4 : FVec F S16x1024x512 .f32) (main_arg5 : FVec F S16x512x1024 .f32) (main_arg6 : FVec F S1024 .f32) : IVec S32768x16 1 :=
  let main_v0 : FVec F S32768x16 .f32 := (extractStridedSlice S32768x16 ![0, 0] · slices_S32768x128_S32768x16_0_0) main_arg2
  let main_cst : FVec F S_ .f32 := constant S_ .f32 0x00000000#32
  let main_v1 : FVec F S32768x16 .f32 := broadcastInDim S32768x16 ![] bcast_S_S32768x16 main_cst
  let main_v2 : IVec S32768x16 1 := cmpf .oge main_v0 main_v1
  let main_cst_0 : FVec F S_ .f32 := constant S_ .f32 0x7F800000#32
  let main_v3 : FVec F S32768x16 .f32 := broadcastInDim S32768x16 ![] bcast_S_S32768x16 main_cst_0
  let main_v4 : IVec S32768x16 1 := cmpf .olt main_v0 main_v3
  let main_v5 : IVec S32768x16 1 := andi main_v2 main_v4
  main_v5
-- ==== Experts.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S16x1024x512, .bf16⟩
  | .hbm, ⟨8, _⟩ => ⟨S16x1024x512, .bf16⟩
  | .hbm, ⟨9, _⟩ => ⟨S16x512x1024, .bf16⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v38 : BitVec 1 := Scalar.cmpi .eq arg1 c15_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩
abbrev S32768x512 : Shape := ⟨2, ![32768, 512]⟩
abbrev S32768x1 : Shape := ⟨2, ![32768, 1]⟩
abbrev S1x512x1024 : Shape := ⟨3, ![1, 512, 1024]⟩
abbrev S512x1024 : Shape := ⟨2, ![512, 1024]⟩
abbrev S32768 : Shape := ⟨1, ![32768]⟩
abbrev S1x1024 : Shape := ⟨2, ![1, 1024]⟩

abbrev nBuf : Space → Nat
  | .hbm => 395
  | .vmem => 0
  | .smem => 0
  | _ => 0

abbrev hbmTy0_0 (i : Nat) : BufTy := match i % 128 with
  | 0 => ⟨S32768x1024, .f32⟩
  | 1 => ⟨S32768x1024, .bf16⟩
  | 2 => ⟨S32768x128, .f32⟩
  | 3 => ⟨S16x1024x512, .f32⟩
  | 4 => ⟨S16x1024x512, .f32⟩
  | 5 => ⟨S16x512x1024, .f32⟩
  | 6 => ⟨S1024, .f32⟩
  | 7 => ⟨S32768x1024, .f32⟩
  | 8 => ⟨S_, .f32⟩
  | 9 => ⟨S32768x1024, .f32⟩
  | 10 => ⟨S1x1024x512, .f32⟩
  | 11 => ⟨S1024x512, .f32⟩
  | 12 => ⟨S32768x512, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S_, .f32⟩
  | 19 => ⟨S32768x512, .f32⟩
  | 20 => ⟨S32768x512, .f32⟩
  | 21 => ⟨S32768x512, .f32⟩
  | 22 => ⟨S1x1024x512, .f32⟩
  | 23 => ⟨S1024x512, .f32⟩
  | 24 => ⟨S32768x512, .f32⟩
  | 25 => ⟨S32768x512, .f32⟩
  | 26 => ⟨S32768x1, .f32⟩
  | 27 => ⟨S1x512x1024, .f32⟩
  | 28 => ⟨S512x1024, .f32⟩
  | 29 => ⟨S32768x1024, .f32⟩
  | 30 => ⟨S32768x1024, .f32⟩
  | 31 => ⟨S32768x1024, .f32⟩
  | 32 => ⟨S32768x1024, .f32⟩
  | 33 => ⟨S1x1024x512, .f32⟩
  | 34 => ⟨S1024x512, .f32⟩
  | 35 => ⟨S32768x512, .f32⟩
  | 36 => ⟨S32768x512, .f32⟩
  | 37 => ⟨S32768x512, .f32⟩
  | 38 => ⟨S_, .f32⟩
  | 39 => ⟨S32768x512, .f32⟩
  | 40 => ⟨S32768x512, .f32⟩
  | 41 => ⟨S_, .f32⟩
  | 42 => ⟨S32768x512, .f32⟩
  | 43 => ⟨S32768x512, .f32⟩
  | 44 => ⟨S32768x512, .f32⟩
  | 45 => ⟨S1x1024x512, .f32⟩
  | 46 => ⟨S1024x512, .f32⟩
  | 47 => ⟨S32768x512, .f32⟩
  | 48 => ⟨S32768x512, .f32⟩
  | 49 => ⟨S32768x1, .f32⟩
  | 50 => ⟨S1x512x1024, .f32⟩
  | 51 => ⟨S512x1024, .f32⟩
  | 52 => ⟨S32768x1024, .f32⟩
  | 53 => ⟨S32768x1024, .f32⟩
  | 54 => ⟨S32768x1024, .f32⟩
  | 55 => ⟨S32768x1024, .f32⟩
  | 56 => ⟨S1x1024x512, .f32⟩
  | 57 => ⟨S1024x512, .f32⟩
  | 58 => ⟨S32768x512, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S32768x512, .f32⟩
  | 68 => ⟨S1x1024x512, .f32⟩
  | 69 => ⟨S1024x512, .f32⟩
  | 70 => ⟨S32768x512, .f32⟩
  | 71 => ⟨S32768x512, .f32⟩
  | 72 => ⟨S32768x1, .f32⟩
  | 73 => ⟨S1x512x1024, .f32⟩
  | 74 => ⟨S512x1024, .f32⟩
  | 75 => ⟨S32768x1024, .f32⟩
  | 76 => ⟨S32768x1024, .f32⟩
  | 77 => ⟨S32768x1024, .f32⟩
  | 78 => ⟨S32768x1024, .f32⟩
  | 79 => ⟨S1x1024x512, .f32⟩
  | 80 => ⟨S1024x512, .f32⟩
  | 81 => ⟨S32768x512, .f32⟩
  | 82 => ⟨S32768x512, .f32⟩
  | 83 => ⟨S32768x512, .f32⟩
  | 84 => ⟨S_, .f32⟩
  | 85 => ⟨S32768x512, .f32⟩
  | 86 => ⟨S32768x512, .f32⟩
  | 87 => ⟨S_, .f32⟩
  | 88 => ⟨S32768x512, .f32⟩
  | 89 => ⟨S32768x512, .f32⟩
  | 90 => ⟨S32768x512, .f32⟩
  | 91 => ⟨S1x1024x512, .f32⟩
  | 92 => ⟨S1024x512, .f32⟩
  | 93 => ⟨S32768x512, .f32⟩
  | 94 => ⟨S32768x512, .f32⟩
  | 95 => ⟨S32768x1, .f32⟩
  | 96 => ⟨S1x512x1024, .f32⟩
  | 97 => ⟨S512x1024, .f32⟩
  | 98 => ⟨S32768x1024, .f32⟩
  | 99 => ⟨S32768x1024, .f32⟩
  | 100 => ⟨S32768x1024, .f32⟩
  | 101 => ⟨S32768x1024, .f32⟩
  | 102 => ⟨S1x1024x512, .f32⟩
  | 103 => ⟨S1024x512, .f32⟩
  | 104 => ⟨S32768x512, .f32⟩
  | 105 => ⟨S32768x512, .f32⟩
  | 106 => ⟨S32768x512, .f32⟩
  | 107 => ⟨S_, .f32⟩
  | 108 => ⟨S32768x512, .f32⟩
  | 109 => ⟨S32768x512, .f32⟩
  | 110 => ⟨S_, .f32⟩
  | 111 => ⟨S32768x512, .f32⟩
  | 112 => ⟨S32768x512, .f32⟩
  | 113 => ⟨S32768x512, .f32⟩
  | 114 => ⟨S1x1024x512, .f32⟩
  | 115 => ⟨S1024x512, .f32⟩
  | 116 => ⟨S32768x512, .f32⟩
  | 117 => ⟨S32768x512, .f32⟩
  | 118 => ⟨S32768x1, .f32⟩
  | 119 => ⟨S1x512x1024, .f32⟩
  | 120 => ⟨S512x1024, .f32⟩
  | 121 => ⟨S32768x1024, .f32⟩
  | 122 => ⟨S32768x1024, .f32⟩
  | 123 => ⟨S32768x1024, .f32⟩
  | 124 => ⟨S32768x1024, .f32⟩
  | 125 => ⟨S1x1024x512, .f32⟩
  | 126 => ⟨S1024x512, .f32⟩
  | 127 => ⟨S32768x512, .f32⟩
  | _ => ⟨S32768x1024, .f32⟩

abbrev hbmTy0_1 (i : Nat) : BufTy := match i % 128 with
  | 0 => ⟨S32768x512, .f32⟩
  | 1 => ⟨S32768x512, .f32⟩
  | 2 => ⟨S_, .f32⟩
  | 3 => ⟨S32768x512, .f32⟩
  | 4 => ⟨S32768x512, .f32⟩
  | 5 => ⟨S_, .f32⟩
  | 6 => ⟨S32768x512, .f32⟩
  | 7 => ⟨S32768x512, .f32⟩
  | 8 => ⟨S32768x512, .f32⟩
  | 9 => ⟨S1x1024x512, .f32⟩
  | 10 => ⟨S1024x512, .f32⟩
  | 11 => ⟨S32768x512, .f32⟩
  | 12 => ⟨S32768x512, .f32⟩
  | 13 => ⟨S32768x1, .f32⟩
  | 14 => ⟨S1x512x1024, .f32⟩
  | 15 => ⟨S512x1024, .f32⟩
  | 16 => ⟨S32768x1024, .f32⟩
  | 17 => ⟨S32768x1024, .f32⟩
  | 18 => ⟨S32768x1024, .f32⟩
  | 19 => ⟨S32768x1024, .f32⟩
  | 20 => ⟨S1x1024x512, .f32⟩
  | 21 => ⟨S1024x512, .f32⟩
  | 22 => ⟨S32768x512, .f32⟩
  | 23 => ⟨S32768x512, .f32⟩
  | 24 => ⟨S32768x512, .f32⟩
  | 25 => ⟨S_, .f32⟩
  | 26 => ⟨S32768x512, .f32⟩
  | 27 => ⟨S32768x512, .f32⟩
  | 28 => ⟨S_, .f32⟩
  | 29 => ⟨S32768x512, .f32⟩
  | 30 => ⟨S32768x512, .f32⟩
  | 31 => ⟨S32768x512, .f32⟩
  | 32 => ⟨S1x1024x512, .f32⟩
  | 33 => ⟨S1024x512, .f32⟩
  | 34 => ⟨S32768x512, .f32⟩
  | 35 => ⟨S32768x512, .f32⟩
  | 36 => ⟨S32768x1, .f32⟩
  | 37 => ⟨S1x512x1024, .f32⟩
  | 38 => ⟨S512x1024, .f32⟩
  | 39 => ⟨S32768x1024, .f32⟩
  | 40 => ⟨S32768x1024, .f32⟩
  | 41 => ⟨S32768x1024, .f32⟩
  | 42 => ⟨S32768x1024, .f32⟩
  | 43 => ⟨S1x1024x512, .f32⟩
  | 44 => ⟨S1024x512, .f32⟩
  | 45 => ⟨S32768x512, .f32⟩
  | 46 => ⟨S32768x512, .f32⟩
  | 47 => ⟨S32768x512, .f32⟩
  | 48 => ⟨S_, .f32⟩
  | 49 => ⟨S32768x512, .f32⟩
  | 50 => ⟨S32768x512, .f32⟩
  | 51 => ⟨S_, .f32⟩
  | 52 => ⟨S32768x512, .f32⟩
  | 53 => ⟨S32768x512, .f32⟩
  | 54 => ⟨S32768x512, .f32⟩
  | 55 => ⟨S1x1024x512, .f32⟩
  | 56 => ⟨S1024x512, .f32⟩
  | 57 => ⟨S32768x512, .f32⟩
  | 58 => ⟨S32768x512, .f32⟩
  | 59 => ⟨S32768x1, .f32⟩
  | 60 => ⟨S1x512x1024, .f32⟩
  | 61 => ⟨S512x1024, .f32⟩
  | 62 => ⟨S32768x1024, .f32⟩
  | 63 => ⟨S32768x1024, .f32⟩
  | 64 => ⟨S32768x1024, .f32⟩
  | 65 => ⟨S32768x1024, .f32⟩
  | 66 => ⟨S1x1024x512, .f32⟩
  | 67 => ⟨S1024x512, .f32⟩
  | 68 => ⟨S32768x512, .f32⟩
  | 69 => ⟨S32768x512, .f32⟩
  | 70 => ⟨S32768x512, .f32⟩
  | 71 => ⟨S_, .f32⟩
  | 72 => ⟨S32768x512, .f32⟩
  | 73 => ⟨S32768x512, .f32⟩
  | 74 => ⟨S_, .f32⟩
  | 75 => ⟨S32768x512, .f32⟩
  | 76 => ⟨S32768x512, .f32⟩
  | 77 => ⟨S32768x512, .f32⟩
  | 78 => ⟨S1x1024x512, .f32⟩
  | 79 => ⟨S1024x512, .f32⟩
  | 80 => ⟨S32768x512, .f32⟩
  | 81 => ⟨S32768x512, .f32⟩
  | 82 => ⟨S32768x1, .f32⟩
  | 83 => ⟨S1x512x1024, .f32⟩
  | 84 => ⟨S512x1024, .f32⟩
  | 85 => ⟨S32768x1024, .f32⟩
  | 86 => ⟨S32768x1024, .f32⟩
  | 87 => ⟨S32768x1024, .f32⟩
  | 88 => ⟨S32768x1024, .f32⟩
  | 89 => ⟨S1x1024x512, .f32⟩
  | 90 => ⟨S1024x512, .f32⟩
  | 91 => ⟨S32768x512, .f32⟩
  | 92 => ⟨S32768x512, .f32⟩
  | 93 => ⟨S32768x512, .f32⟩
  | 94 => ⟨S_, .f32⟩
  | 95 => ⟨S32768x512, .f32⟩
  | 96 => ⟨S32768x512, .f32⟩
  | 97 => ⟨S_, .f32⟩
  | 98 => ⟨S32768x512, .f32⟩
  | 99 => ⟨S32768x512, .f32⟩
  | 100 => ⟨S32768x512, .f32⟩
  | 101 => ⟨S1x1024x512, .f32⟩
  | 102 => ⟨S1024x512, .f32⟩
  | 103 => ⟨S32768x512, .f32⟩
  | 104 => ⟨S32768x512, .f32⟩
  | 105 => ⟨S32768x1, .f32⟩
  | 106 => ⟨S1x512x1024, .f32⟩
  | 107 => ⟨S512x1024, .f32⟩
  | 108 => ⟨S32768x1024, .f32⟩
  | 109 => ⟨S32768x1024, .f32⟩
  | 110 => ⟨S32768x1024, .f32⟩
  | 111 => ⟨S32768x1024, .f32⟩
  | 112 => ⟨S1x1024x512, .f32⟩
  | 113 => ⟨S1024x512, .f32⟩
  | 114 => ⟨S32768x512, .f32⟩
  | 115 => ⟨S32768x512, .f32⟩
  | 116 => ⟨S32768x512, .f32⟩
  | 117 => ⟨S_, .f32⟩
  | 118 => ⟨S32768x512, .f32⟩
  | 119 => ⟨S32768x512, .f32⟩
  | 120 => ⟨S_, .f32⟩
  | 121 => ⟨S32768x512, .f32⟩
  | 122 => ⟨S32768x512, .f32⟩
  | 123 => ⟨S32768x512, .f32⟩
  | 124 => ⟨S1x1024x512, .f32⟩
  | 125 => ⟨S1024x512, .f32⟩
  | 126 => ⟨S32768x512, .f32⟩
  | 127 => ⟨S32768x512, .f32⟩
  | _ => ⟨S32768x1024, .f32⟩

abbrev hbmTy0_2 (i : Nat) : BufTy := match i % 128 with
  | 0 => ⟨S32768x1, .f32⟩
  | 1 => ⟨S1x512x1024, .f32⟩
  | 2 => ⟨S512x1024, .f32⟩
  | 3 => ⟨S32768x1024, .f32⟩
  | 4 => ⟨S32768x1024, .f32⟩
  | 5 => ⟨S32768x1024, .f32⟩
  | 6 => ⟨S32768x1024, .f32⟩
  | 7 => ⟨S1x1024x512, .f32⟩
  | 8 => ⟨S1024x512, .f32⟩
  | 9 => ⟨S32768x512, .f32⟩
  | 10 => ⟨S32768x512, .f32⟩
  | 11 => ⟨S32768x512, .f32⟩
  | 12 => ⟨S_, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S32768x512, .f32⟩
  | 19 => ⟨S1x1024x512, .f32⟩
  | 20 => ⟨S1024x512, .f32⟩
  | 21 => ⟨S32768x512, .f32⟩
  | 22 => ⟨S32768x512, .f32⟩
  | 23 => ⟨S32768x1, .f32⟩
  | 24 => ⟨S1x512x1024, .f32⟩
  | 25 => ⟨S512x1024, .f32⟩
  | 26 => ⟨S32768x1024, .f32⟩
  | 27 => ⟨S32768x1024, .f32⟩
  | 28 => ⟨S32768x1024, .f32⟩
  | 29 => ⟨S32768x1024, .f32⟩
  | 30 => ⟨S1x1024x512, .f32⟩
  | 31 => ⟨S1024x512, .f32⟩
  | 32 => ⟨S32768x512, .f32⟩
  | 33 => ⟨S32768x512, .f32⟩
  | 34 => ⟨S32768x512, .f32⟩
  | 35 => ⟨S_, .f32⟩
  | 36 => ⟨S32768x512, .f32⟩
  | 37 => ⟨S32768x512, .f32⟩
  | 38 => ⟨S_, .f32⟩
  | 39 => ⟨S32768x512, .f32⟩
  | 40 => ⟨S32768x512, .f32⟩
  | 41 => ⟨S32768x512, .f32⟩
  | 42 => ⟨S1x1024x512, .f32⟩
  | 43 => ⟨S1024x512, .f32⟩
  | 44 => ⟨S32768x512, .f32⟩
  | 45 => ⟨S32768x512, .f32⟩
  | 46 => ⟨S32768x1, .f32⟩
  | 47 => ⟨S1x512x1024, .f32⟩
  | 48 => ⟨S512x1024, .f32⟩
  | 49 => ⟨S32768x1024, .f32⟩
  | 50 => ⟨S32768x1024, .f32⟩
  | 51 => ⟨S32768x1024, .f32⟩
  | 52 => ⟨S32768x1024, .f32⟩
  | 53 => ⟨S1x1024x512, .f32⟩
  | 54 => ⟨S1024x512, .f32⟩
  | 55 => ⟨S32768x512, .f32⟩
  | 56 => ⟨S32768x512, .f32⟩
  | 57 => ⟨S32768x512, .f32⟩
  | 58 => ⟨S_, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S32768x512, .f32⟩
  | 65 => ⟨S1x1024x512, .f32⟩
  | 66 => ⟨S1024x512, .f32⟩
  | 67 => ⟨S32768x512, .f32⟩
  | 68 => ⟨S32768x512, .f32⟩
  | 69 => ⟨S32768x1, .f32⟩
  | 70 => ⟨S1x512x1024, .f32⟩
  | 71 => ⟨S512x1024, .f32⟩
  | 72 => ⟨S32768x1024, .f32⟩
  | 73 => ⟨S32768x1024, .f32⟩
  | 74 => ⟨S32768x1024, .f32⟩
  | 75 => ⟨S32768x1024, .f32⟩
  | 76 => ⟨S1x1024x512, .f32⟩
  | 77 => ⟨S1024x512, .f32⟩
  | 78 => ⟨S32768x512, .f32⟩
  | 79 => ⟨S32768x512, .f32⟩
  | 80 => ⟨S32768x512, .f32⟩
  | 81 => ⟨S_, .f32⟩
  | 82 => ⟨S32768x512, .f32⟩
  | 83 => ⟨S32768x512, .f32⟩
  | 84 => ⟨S_, .f32⟩
  | 85 => ⟨S32768x512, .f32⟩
  | 86 => ⟨S32768x512, .f32⟩
  | 87 => ⟨S32768x512, .f32⟩
  | 88 => ⟨S1x1024x512, .f32⟩
  | 89 => ⟨S1024x512, .f32⟩
  | 90 => ⟨S32768x512, .f32⟩
  | 91 => ⟨S32768x512, .f32⟩
  | 92 => ⟨S32768x1, .f32⟩
  | 93 => ⟨S1x512x1024, .f32⟩
  | 94 => ⟨S512x1024, .f32⟩
  | 95 => ⟨S32768x1024, .f32⟩
  | 96 => ⟨S32768x1024, .f32⟩
  | 97 => ⟨S32768x1024, .f32⟩
  | 98 => ⟨S32768x1024, .f32⟩
  | 99 => ⟨S1x1024x512, .f32⟩
  | 100 => ⟨S1024x512, .f32⟩
  | 101 => ⟨S32768x512, .f32⟩
  | 102 => ⟨S32768x512, .f32⟩
  | 103 => ⟨S32768x512, .f32⟩
  | 104 => ⟨S_, .f32⟩
  | 105 => ⟨S32768x512, .f32⟩
  | 106 => ⟨S32768x512, .f32⟩
  | 107 => ⟨S_, .f32⟩
  | 108 => ⟨S32768x512, .f32⟩
  | 109 => ⟨S32768x512, .f32⟩
  | 110 => ⟨S32768x512, .f32⟩
  | 111 => ⟨S1x1024x512, .f32⟩
  | 112 => ⟨S1024x512, .f32⟩
  | 113 => ⟨S32768x512, .f32⟩
  | 114 => ⟨S32768x512, .f32⟩
  | 115 => ⟨S32768x1, .f32⟩
  | 116 => ⟨S1x512x1024, .f32⟩
  | 117 => ⟨S512x1024, .f32⟩
  | 118 => ⟨S32768x1024, .f32⟩
  | 119 => ⟨S32768x1024, .f32⟩
  | 120 => ⟨S32768x1024, .f32⟩
  | 121 => ⟨S32768x1024, .f32⟩
  | 122 => ⟨S32768x1024, .f32⟩
  | 123 => ⟨S32768x1024, .f32⟩
  | 124 => ⟨S_, .f32⟩
  | 125 => ⟨S32768, .f32⟩
  | 126 => ⟨S32768x1, .f32⟩
  | 127 => ⟨S_, .f32⟩
  | _ => ⟨S32768x1024, .f32⟩

abbrev hbmTy0_3 (i : Nat) : BufTy := match i % 128 with
  | 0 => ⟨S32768x1, .f32⟩
  | 1 => ⟨S32768x1, .f32⟩
  | 2 => ⟨S_, .f32⟩
  | 3 => ⟨S32768x1, .f32⟩
  | 4 => ⟨S32768x1, .f32⟩
  | 5 => ⟨S32768x1, .f32⟩
  | 6 => ⟨S32768x1024, .f32⟩
  | 7 => ⟨S32768x1024, .f32⟩
  | 8 => ⟨S1x1024, .f32⟩
  | 9 => ⟨S32768x1024, .f32⟩
  | 10 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | 3 => hbmTy0_3 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call4_v0 : Ref sig .tc := ⟨.hbm, 105, rfl⟩
abbrev main_call4_v1 : Ref sig .tc := ⟨.hbm, 106, rfl⟩
abbrev main_call4_cst : Ref sig .tc := ⟨.hbm, 107, rfl⟩
abbrev main_call4_v2 : Ref sig .tc := ⟨.hbm, 108, rfl⟩
abbrev main_call4_v3 : Ref sig .tc := ⟨.hbm, 109, rfl⟩
abbrev main_call4_cst_0 : Ref sig .tc := ⟨.hbm, 110, rfl⟩
abbrev main_call4_v4 : Ref sig .tc := ⟨.hbm, 111, rfl⟩
abbrev main_call4_v5 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_call7_v0 : Ref sig .tc := ⟨.hbm, 174, rfl⟩
abbrev main_call7_v1 : Ref sig .tc := ⟨.hbm, 175, rfl⟩
abbrev main_call7_cst : Ref sig .tc := ⟨.hbm, 176, rfl⟩
abbrev main_call7_v2 : Ref sig .tc := ⟨.hbm, 177, rfl⟩
abbrev main_call7_v3 : Ref sig .tc := ⟨.hbm, 178, rfl⟩
abbrev main_call7_cst_0 : Ref sig .tc := ⟨.hbm, 179, rfl⟩
abbrev main_call7_v4 : Ref sig .tc := ⟨.hbm, 180, rfl⟩
abbrev main_call7_v5 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_call8_v0 : Ref sig .tc := ⟨.hbm, 197, rfl⟩
abbrev main_call8_v1 : Ref sig .tc := ⟨.hbm, 198, rfl⟩
abbrev main_call8_cst : Ref sig .tc := ⟨.hbm, 199, rfl⟩
abbrev main_call8_v2 : Ref sig .tc := ⟨.hbm, 200, rfl⟩
abbrev main_call8_v3 : Ref sig .tc := ⟨.hbm, 201, rfl⟩
abbrev main_call8_cst_0 : Ref sig .tc := ⟨.hbm, 202, rfl⟩
abbrev main_call8_v4 : Ref sig .tc := ⟨.hbm, 203, rfl⟩
abbrev main_call8_v5 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_call9_v0 : Ref sig .tc := ⟨.hbm, 220, rfl⟩
abbrev main_call9_v1 : Ref sig .tc := ⟨.hbm, 221, rfl⟩
abbrev main_call9_cst : Ref sig .tc := ⟨.hbm, 222, rfl⟩
abbrev main_call9_v2 : Ref sig .tc := ⟨.hbm, 223, rfl⟩
abbrev main_call9_v3 : Ref sig .tc := ⟨.hbm, 224, rfl⟩
abbrev main_call9_cst_0 : Ref sig .tc := ⟨.hbm, 225, rfl⟩
abbrev main_call9_v4 : Ref sig .tc := ⟨.hbm, 226, rfl⟩
abbrev main_call9_v5 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_call10_v0 : Ref sig .tc := ⟨.hbm, 243, rfl⟩
abbrev main_call10_v1 : Ref sig .tc := ⟨.hbm, 244, rfl⟩
abbrev main_call10_cst : Ref sig .tc := ⟨.hbm, 245, rfl⟩
abbrev main_call10_v2 : Ref sig .tc := ⟨.hbm, 246, rfl⟩
abbrev main_call10_v3 : Ref sig .tc := ⟨.hbm, 247, rfl⟩
abbrev main_call10_cst_0 : Ref sig .tc := ⟨.hbm, 248, rfl⟩
abbrev main_call10_v4 : Ref sig .tc := ⟨.hbm, 249, rfl⟩
abbrev main_call10_v5 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_call11_v0 : Ref sig .tc := ⟨.hbm, 266, rfl⟩
abbrev main_call11_v1 : Ref sig .tc := ⟨.hbm, 267, rfl⟩
abbrev main_call11_cst : Ref sig .tc := ⟨.hbm, 268, rfl⟩
abbrev main_call11_v2 : Ref sig .tc := ⟨.hbm, 269, rfl⟩
abbrev main_call11_v3 : Ref sig .tc := ⟨.hbm, 270, rfl⟩
abbrev main_call11_cst_0 : Ref sig .tc := ⟨.hbm, 271, rfl⟩
abbrev main_call11_v4 : Ref sig .tc := ⟨.hbm, 272, rfl⟩
abbrev main_call11_v5 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_call12_v0 : Ref sig .tc := ⟨.hbm, 289, rfl⟩
abbrev main_call12_v1 : Ref sig .tc := ⟨.hbm, 290, rfl⟩
abbrev main_call12_cst : Ref sig .tc := ⟨.hbm, 291, rfl⟩
abbrev main_call12_v2 : Ref sig .tc := ⟨.hbm, 292, rfl⟩
abbrev main_call12_v3 : Ref sig .tc := ⟨.hbm, 293, rfl⟩
abbrev main_call12_cst_0 : Ref sig .tc := ⟨.hbm, 294, rfl⟩
abbrev main_call12_v4 : Ref sig .tc := ⟨.hbm, 295, rfl⟩
abbrev main_call12_v5 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_call13_v0 : Ref sig .tc := ⟨.hbm, 312, rfl⟩
abbrev main_call13_v1 : Ref sig .tc := ⟨.hbm, 313, rfl⟩
abbrev main_call13_cst : Ref sig .tc := ⟨.hbm, 314, rfl⟩
abbrev main_call13_v2 : Ref sig .tc := ⟨.hbm, 315, rfl⟩
abbrev main_call13_v3 : Ref sig .tc := ⟨.hbm, 316, rfl⟩
abbrev main_call13_cst_0 : Ref sig .tc := ⟨.hbm, 317, rfl⟩
abbrev main_call13_v4 : Ref sig .tc := ⟨.hbm, 318, rfl⟩
abbrev main_call13_v5 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_call14_v0 : Ref sig .tc := ⟨.hbm, 335, rfl⟩
abbrev main_call14_v1 : Ref sig .tc := ⟨.hbm, 336, rfl⟩
abbrev main_call14_cst : Ref sig .tc := ⟨.hbm, 337, rfl⟩
abbrev main_call14_v2 : Ref sig .tc := ⟨.hbm, 338, rfl⟩
abbrev main_call14_v3 : Ref sig .tc := ⟨.hbm, 339, rfl⟩
abbrev main_call14_cst_0 : Ref sig .tc := ⟨.hbm, 340, rfl⟩
abbrev main_call14_v4 : Ref sig .tc := ⟨.hbm, 341, rfl⟩
abbrev main_call14_v5 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_call15_v0 : Ref sig .tc := ⟨.hbm, 358, rfl⟩
abbrev main_call15_v1 : Ref sig .tc := ⟨.hbm, 359, rfl⟩
abbrev main_call15_cst : Ref sig .tc := ⟨.hbm, 360, rfl⟩
abbrev main_call15_v2 : Ref sig .tc := ⟨.hbm, 361, rfl⟩
abbrev main_call15_v3 : Ref sig .tc := ⟨.hbm, 362, rfl⟩
abbrev main_call15_cst_0 : Ref sig .tc := ⟨.hbm, 363, rfl⟩
abbrev main_call15_v4 : Ref sig .tc := ⟨.hbm, 364, rfl⟩
abbrev main_call15_v5 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_cst_0 : Ref sig .tc := ⟨.hbm, 380, rfl⟩
abbrev main_v244 : Ref sig .tc := ⟨.hbm, 381, rfl⟩
abbrev main_v245 : Ref sig .tc := ⟨.hbm, 382, rfl⟩
abbrev main_cst_1 : Ref sig .tc := ⟨.hbm, 383, rfl⟩
abbrev main_v246 : Ref sig .tc := ⟨.hbm, 384, rfl⟩
abbrev main_v247 : Ref sig .tc := ⟨.hbm, 385, rfl⟩
abbrev main_cst_2 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩

abbrev nD : Nat := 1
abbrev τ : Topo := Topo.v7x

variable {F : FTy → Type} [FloatOps F]
-- ==== Cross.lean ====
abbrev S8x4096x1024 : Shape := ⟨3, ![8, 4096, 1024]⟩
abbrev S1024 : Shape := ⟨1, ![1024]⟩
abbrev S1024x512 : Shape := ⟨2, ![1024, 512]⟩
abbrev S8x256x1024 : Shape := ⟨3, ![8, 256, 1024]⟩
abbrev S512x1024 : Shape := ⟨2, ![512, 1024]⟩
abbrev S1x1024 : Shape := ⟨2, ![1, 1024]⟩
abbrev S1x512x1024 : Shape := ⟨3, ![1, 512, 1024]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x512, .f32⟩
  | .hbm, ⟨3, _⟩ => ⟨S8x256x1024, .bf16⟩
  | .hbm, ⟨4, _⟩ => ⟨S512x1024, .f32⟩
  | .hbm, ⟨5, _⟩ => ⟨S1x1024, .f32⟩
  | .hbm, ⟨6, _⟩ => ⟨S1024x512, .bf16⟩
  | .hbm, ⟨7, _⟩ => ⟨S512x1024, .bf16⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossRefIdeal.lean ====
abbrev S8x4096x1024 : Shape := ⟨3, ![8, 4096, 1024]⟩
abbrev S1024 : Shape := ⟨1, ![1024]⟩
abbrev S1024x512 : Shape := ⟨2, ![1024, 512]⟩
abbrev S8x256x1024 : Shape := ⟨3, ![8, 256, 1024]⟩
abbrev S512x1024 : Shape := ⟨2, ![512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩
abbrev S8x4096x4x128 : Shape := ⟨4, ![8, 4096, 4, 128]⟩
abbrev S8x256x512 : Shape := ⟨3, ![8, 256, 512]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x512, .f32⟩
  | .hbm, ⟨3, _⟩ => ⟨S8x256x1024, .bf16⟩
  | .hbm, ⟨4, _⟩ => ⟨S512x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x512, .f32⟩
  | .hbm, ⟨22, _⟩ => ⟨S8x4096x4x128, .f32⟩
  | .hbm, ⟨23, _⟩ => ⟨S8x256x1024, .f32⟩
  | .hbm, ⟨24, _⟩ => ⟨S8x256x512, .f32⟩
  | .hbm, ⟨25, _⟩ => ⟨S8x256x512, .f32⟩
  | .hbm, ⟨26, _⟩ => ⟨S8x256x4x128, .f32⟩
  | .hbm, ⟨27, _⟩ => ⟨S8x256x4x128, .f32⟩
  | .hbm, ⟨28, _⟩ => ⟨S8x4x4096x256, .f32⟩
  | .hbm, ⟨29, _⟩ => ⟨S_, .f32⟩
  | .hbm, ⟨30, _⟩ => ⟨S8x4x4096x256, .f32⟩
  | .hbm, ⟨31, _⟩ => ⟨S8x4x4096x256, .f32⟩
  | .hbm, ⟨32, _⟩ => ⟨S_, .f32⟩
  | .hbm, ⟨33, _⟩ => ⟨S8x4x4096, .f32⟩
  | .hbm, ⟨34, _⟩ => ⟨S_, .f32⟩
  | .hbm, ⟨35, _⟩ => ⟨S8x4x4096, .f32⟩
  | .hbm, ⟨36, _⟩ => ⟨S8x4x4096, .f32⟩
  | .hbm, ⟨37, _⟩ => ⟨S8x4x4096x1, .f32⟩
  | .hbm, ⟨38, _⟩ => ⟨S8x4x4096x256, .f32⟩
  | .hbm, ⟨39, _⟩ => ⟨S8x4x4096x256, .f32⟩
  | .hbm, ⟨40, _⟩ => ⟨S8x4x4096x256, .f32⟩
  | .hbm, ⟨41, _⟩ => ⟨S_, .f32⟩
  | .hbm, ⟨42, _⟩ => ⟨S8x4x4096, .f32⟩
  | .hbm, ⟨43, _⟩ => ⟨S8x4x4096x1, .f32⟩
  | .hbm, ⟨44, _⟩ => ⟨S8x4x4096x256, .f32⟩
  | .hbm, ⟨45, _⟩ => ⟨S8x4x4096x256, .f32⟩
  | .hbm, ⟨46, _⟩ => ⟨S8x4x128x4096, .f32⟩
  | .hbm, ⟨47, _⟩ => ⟨S8x4096x4x128, .f32⟩
  | .hbm, ⟨48, _⟩ => ⟨S8x4096x512, .f32⟩
  | .hbm, ⟨49, _⟩ => ⟨S8x4096x1024, .f32⟩
  | .hbm, ⟨50, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Merge.lean ====
abbrev S32768x1024 : Shape := ⟨2, ![32768, 1024]⟩
abbrev S32768x256 : Shape := ⟨2, ![32768, 256]⟩
abbrev S32768x7168 : Shape := ⟨2, ![32768, 7168]⟩
abbrev S4x256x1024 : Shape := ⟨3, ![4, 256, 1024]⟩
abbrev S1024x1024 : Shape := ⟨2, ![1024, 1024]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x7168, .bf16⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S4x256x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S32768x1024 : Shape := ⟨2, ![32768, 1024]⟩
abbrev S32768x256 : Shape := ⟨2, ![32768, 256]⟩
abbrev S32768x7168 : Shape := ⟨2, ![32768, 7168]⟩
abbrev S4x256x1024 : Shape := ⟨3, ![4, 256, 1024]⟩
abbrev S1024x1024 : Shape := ⟨2, ![1024, 1024]⟩
abbrev S32768x4096 : Shape := ⟨2, ![32768, 4096]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x7168, .bf16⟩
  | .hbm, ⟨6, _⟩ => ⟨S4x256x1024, .f32⟩
  | .hbm, ⟨7, _⟩ => ⟨S1024x1024, .f32⟩
  | .hbm, ⟨8, _⟩ => ⟨S32768x4096, .bf16⟩
  | .hbm, ⟨9, _⟩ => ⟨S32768x4096, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S1x256x1024, .f32⟩
  | .hbm, ⟨29, _⟩ => ⟨S256x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S1x256x1024, .f32⟩
  | .hbm, ⟨42, _⟩ => ⟨S256x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S1x256x1024, .f32⟩
  | .hbm, ⟨55, _⟩ => ⟨S256x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S1x256x1024, .f32⟩
  | .hbm, ⟨68, _⟩ => ⟨S256x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Project.lean ====
abbrev S32768x1024 : Shape := ⟨2, ![32768, 1024]⟩
abbrev S1024 : Shape := ⟨1, ![1024]⟩
abbrev S1024x7168 : Shape := ⟨2, ![1024, 7168]⟩
abbrev S1x1024 : Shape := ⟨2, ![1, 1024]⟩
abbrev S32768x7168 : Shape := ⟨2, ![32768, 7168]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S1x1024, .f32⟩
  | .hbm, ⟨4, _⟩ => ⟨S1024x7168, .bf16⟩
  | .hbm, ⟨5, _⟩ => ⟨S32768x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectRefIdeal.lean ====
abbrev S32768x1024 : Shape := ⟨2, ![32768, 1024]⟩
abbrev S1024 : Shape := ⟨1, ![1024]⟩
abbrev S1024x7168 : Shape := ⟨2, ![1024, 7168]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7168 : Shape := ⟨2, ![32768, 7168]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7168, .f32⟩
  | .hbm, ⟨20, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Inner.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S16x1024x512, .bf16⟩
  | .hbm, ⟨8, _⟩ => ⟨S16x1024x512, .bf16⟩
  | .hbm, ⟨9, _⟩ => ⟨S16x512x1024, .bf16⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v38 : BitVec 1 := Scalar.cmpi .eq arg1 c15_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InnerRefIdeal.lean ====
abbrev S32768x1024 : Shape := ⟨2, ![32768, 1024]⟩
abbrev S32768x128 : Shape := ⟨2, ![32768, 128]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩
abbrev S32768x512 : Shape := ⟨2, ![32768, 512]⟩
abbrev S32768x1 : Shape := ⟨2, ![32768, 1]⟩
abbrev S1x512x1024 : Shape := ⟨3, ![1, 512, 1024]⟩
abbrev S512x1024 : Shape := ⟨2, ![512, 1024]⟩

abbrev nBuf : Space → Nat
  | .hbm => 379
  | .vmem => 0
  | .smem => 0
  | _ => 0

abbrev hbmTy0_0 (i : Nat) : BufTy := match i % 128 with
  | 0 => ⟨S32768x1024, .f32⟩
  | 1 => ⟨S32768x1024, .bf16⟩
  | 2 => ⟨S32768x128, .f32⟩
  | 3 => ⟨S16x1024x512, .f32⟩
  | 4 => ⟨S16x1024x512, .f32⟩
  | 5 => ⟨S16x512x1024, .f32⟩
  | 6 => ⟨S1024, .f32⟩
  | 7 => ⟨S32768x1024, .f32⟩
  | 8 => ⟨S_, .f32⟩
  | 9 => ⟨S32768x1024, .f32⟩
  | 10 => ⟨S1x1024x512, .f32⟩
  | 11 => ⟨S1024x512, .f32⟩
  | 12 => ⟨S32768x512, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S_, .f32⟩
  | 19 => ⟨S32768x512, .f32⟩
  | 20 => ⟨S32768x512, .f32⟩
  | 21 => ⟨S32768x512, .f32⟩
  | 22 => ⟨S1x1024x512, .f32⟩
  | 23 => ⟨S1024x512, .f32⟩
  | 24 => ⟨S32768x512, .f32⟩
  | 25 => ⟨S32768x512, .f32⟩
  | 26 => ⟨S32768x1, .f32⟩
  | 27 => ⟨S1x512x1024, .f32⟩
  | 28 => ⟨S512x1024, .f32⟩
  | 29 => ⟨S32768x1024, .f32⟩
  | 30 => ⟨S32768x1024, .f32⟩
  | 31 => ⟨S32768x1024, .f32⟩
  | 32 => ⟨S32768x1024, .f32⟩
  | 33 => ⟨S1x1024x512, .f32⟩
  | 34 => ⟨S1024x512, .f32⟩
  | 35 => ⟨S32768x512, .f32⟩
  | 36 => ⟨S32768x512, .f32⟩
  | 37 => ⟨S32768x512, .f32⟩
  | 38 => ⟨S_, .f32⟩
  | 39 => ⟨S32768x512, .f32⟩
  | 40 => ⟨S32768x512, .f32⟩
  | 41 => ⟨S_, .f32⟩
  | 42 => ⟨S32768x512, .f32⟩
  | 43 => ⟨S32768x512, .f32⟩
  | 44 => ⟨S32768x512, .f32⟩
  | 45 => ⟨S1x1024x512, .f32⟩
  | 46 => ⟨S1024x512, .f32⟩
  | 47 => ⟨S32768x512, .f32⟩
  | 48 => ⟨S32768x512, .f32⟩
  | 49 => ⟨S32768x1, .f32⟩
  | 50 => ⟨S1x512x1024, .f32⟩
  | 51 => ⟨S512x1024, .f32⟩
  | 52 => ⟨S32768x1024, .f32⟩
  | 53 => ⟨S32768x1024, .f32⟩
  | 54 => ⟨S32768x1024, .f32⟩
  | 55 => ⟨S32768x1024, .f32⟩
  | 56 => ⟨S1x1024x512, .f32⟩
  | 57 => ⟨S1024x512, .f32⟩
  | 58 => ⟨S32768x512, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S32768x512, .f32⟩
  | 68 => ⟨S1x1024x512, .f32⟩
  | 69 => ⟨S1024x512, .f32⟩
  | 70 => ⟨S32768x512, .f32⟩
  | 71 => ⟨S32768x512, .f32⟩
  | 72 => ⟨S32768x1, .f32⟩
  | 73 => ⟨S1x512x1024, .f32⟩
  | 74 => ⟨S512x1024, .f32⟩
  | 75 => ⟨S32768x1024, .f32⟩
  | 76 => ⟨S32768x1024, .f32⟩
  | 77 => ⟨S32768x1024, .f32⟩
  | 78 => ⟨S32768x1024, .f32⟩
  | 79 => ⟨S1x1024x512, .f32⟩
  | 80 => ⟨S1024x512, .f32⟩
  | 81 => ⟨S32768x512, .f32⟩
  | 82 => ⟨S32768x512, .f32⟩
  | 83 => ⟨S32768x512, .f32⟩
  | 84 => ⟨S_, .f32⟩
  | 85 => ⟨S32768x512, .f32⟩
  | 86 => ⟨S32768x512, .f32⟩
  | 87 => ⟨S_, .f32⟩
  | 88 => ⟨S32768x512, .f32⟩
  | 89 => ⟨S32768x512, .f32⟩
  | 90 => ⟨S32768x512, .f32⟩
  | 91 => ⟨S1x1024x512, .f32⟩
  | 92 => ⟨S1024x512, .f32⟩
  | 93 => ⟨S32768x512, .f32⟩
  | 94 => ⟨S32768x512, .f32⟩
  | 95 => ⟨S32768x1, .f32⟩
  | 96 => ⟨S1x512x1024, .f32⟩
  | 97 => ⟨S512x1024, .f32⟩
  | 98 => ⟨S32768x1024, .f32⟩
  | 99 => ⟨S32768x1024, .f32⟩
  | 100 => ⟨S32768x1024, .f32⟩
  | 101 => ⟨S32768x1024, .f32⟩
  | 102 => ⟨S1x1024x512, .f32⟩
  | 103 => ⟨S1024x512, .f32⟩
  | 104 => ⟨S32768x512, .f32⟩
  | 105 => ⟨S32768x512, .f32⟩
  | 106 => ⟨S32768x512, .f32⟩
  | 107 => ⟨S_, .f32⟩
  | 108 => ⟨S32768x512, .f32⟩
  | 109 => ⟨S32768x512, .f32⟩
  | 110 => ⟨S_, .f32⟩
  | 111 => ⟨S32768x512, .f32⟩
  | 112 => ⟨S32768x512, .f32⟩
  | 113 => ⟨S32768x512, .f32⟩
  | 114 => ⟨S1x1024x512, .f32⟩
  | 115 => ⟨S1024x512, .f32⟩
  | 116 => ⟨S32768x512, .f32⟩
  | 117 => ⟨S32768x512, .f32⟩
  | 118 => ⟨S32768x1, .f32⟩
  | 119 => ⟨S1x512x1024, .f32⟩
  | 120 => ⟨S512x1024, .f32⟩
  | 121 => ⟨S32768x1024, .f32⟩
  | 122 => ⟨S32768x1024, .f32⟩
  | 123 => ⟨S32768x1024, .f32⟩
  | 124 => ⟨S32768x1024, .f32⟩
  | 125 => ⟨S1x1024x512, .f32⟩
  | 126 => ⟨S1024x512, .f32⟩
  | 127 => ⟨S32768x512, .f32⟩
  | _ => ⟨S32768x1024, .f32⟩

abbrev hbmTy0_1 (i : Nat) : BufTy := match i % 128 with
  | 0 => ⟨S32768x512, .f32⟩
  | 1 => ⟨S32768x512, .f32⟩
  | 2 => ⟨S_, .f32⟩
  | 3 => ⟨S32768x512, .f32⟩
  | 4 => ⟨S32768x512, .f32⟩
  | 5 => ⟨S_, .f32⟩
  | 6 => ⟨S32768x512, .f32⟩
  | 7 => ⟨S32768x512, .f32⟩
  | 8 => ⟨S32768x512, .f32⟩
  | 9 => ⟨S1x1024x512, .f32⟩
  | 10 => ⟨S1024x512, .f32⟩
  | 11 => ⟨S32768x512, .f32⟩
  | 12 => ⟨S32768x512, .f32⟩
  | 13 => ⟨S32768x1, .f32⟩
  | 14 => ⟨S1x512x1024, .f32⟩
  | 15 => ⟨S512x1024, .f32⟩
  | 16 => ⟨S32768x1024, .f32⟩
  | 17 => ⟨S32768x1024, .f32⟩
  | 18 => ⟨S32768x1024, .f32⟩
  | 19 => ⟨S32768x1024, .f32⟩
  | 20 => ⟨S1x1024x512, .f32⟩
  | 21 => ⟨S1024x512, .f32⟩
  | 22 => ⟨S32768x512, .f32⟩
  | 23 => ⟨S32768x512, .f32⟩
  | 24 => ⟨S32768x512, .f32⟩
  | 25 => ⟨S_, .f32⟩
  | 26 => ⟨S32768x512, .f32⟩
  | 27 => ⟨S32768x512, .f32⟩
  | 28 => ⟨S_, .f32⟩
  | 29 => ⟨S32768x512, .f32⟩
  | 30 => ⟨S32768x512, .f32⟩
  | 31 => ⟨S32768x512, .f32⟩
  | 32 => ⟨S1x1024x512, .f32⟩
  | 33 => ⟨S1024x512, .f32⟩
  | 34 => ⟨S32768x512, .f32⟩
  | 35 => ⟨S32768x512, .f32⟩
  | 36 => ⟨S32768x1, .f32⟩
  | 37 => ⟨S1x512x1024, .f32⟩
  | 38 => ⟨S512x1024, .f32⟩
  | 39 => ⟨S32768x1024, .f32⟩
  | 40 => ⟨S32768x1024, .f32⟩
  | 41 => ⟨S32768x1024, .f32⟩
  | 42 => ⟨S32768x1024, .f32⟩
  | 43 => ⟨S1x1024x512, .f32⟩
  | 44 => ⟨S1024x512, .f32⟩
  | 45 => ⟨S32768x512, .f32⟩
  | 46 => ⟨S32768x512, .f32⟩
  | 47 => ⟨S32768x512, .f32⟩
  | 48 => ⟨S_, .f32⟩
  | 49 => ⟨S32768x512, .f32⟩
  | 50 => ⟨S32768x512, .f32⟩
  | 51 => ⟨S_, .f32⟩
  | 52 => ⟨S32768x512, .f32⟩
  | 53 => ⟨S32768x512, .f32⟩
  | 54 => ⟨S32768x512, .f32⟩
  | 55 => ⟨S1x1024x512, .f32⟩
  | 56 => ⟨S1024x512, .f32⟩
  | 57 => ⟨S32768x512, .f32⟩
  | 58 => ⟨S32768x512, .f32⟩
  | 59 => ⟨S32768x1, .f32⟩
  | 60 => ⟨S1x512x1024, .f32⟩
  | 61 => ⟨S512x1024, .f32⟩
  | 62 => ⟨S32768x1024, .f32⟩
  | 63 => ⟨S32768x1024, .f32⟩
  | 64 => ⟨S32768x1024, .f32⟩
  | 65 => ⟨S32768x1024, .f32⟩
  | 66 => ⟨S1x1024x512, .f32⟩
  | 67 => ⟨S1024x512, .f32⟩
  | 68 => ⟨S32768x512, .f32⟩
  | 69 => ⟨S32768x512, .f32⟩
  | 70 => ⟨S32768x512, .f32⟩
  | 71 => ⟨S_, .f32⟩
  | 72 => ⟨S32768x512, .f32⟩
  | 73 => ⟨S32768x512, .f32⟩
  | 74 => ⟨S_, .f32⟩
  | 75 => ⟨S32768x512, .f32⟩
  | 76 => ⟨S32768x512, .f32⟩
  | 77 => ⟨S32768x512, .f32⟩
  | 78 => ⟨S1x1024x512, .f32⟩
  | 79 => ⟨S1024x512, .f32⟩
  | 80 => ⟨S32768x512, .f32⟩
  | 81 => ⟨S32768x512, .f32⟩
  | 82 => ⟨S32768x1, .f32⟩
  | 83 => ⟨S1x512x1024, .f32⟩
  | 84 => ⟨S512x1024, .f32⟩
  | 85 => ⟨S32768x1024, .f32⟩
  | 86 => ⟨S32768x1024, .f32⟩
  | 87 => ⟨S32768x1024, .f32⟩
  | 88 => ⟨S32768x1024, .f32⟩
  | 89 => ⟨S1x1024x512, .f32⟩
  | 90 => ⟨S1024x512, .f32⟩
  | 91 => ⟨S32768x512, .f32⟩
  | 92 => ⟨S32768x512, .f32⟩
  | 93 => ⟨S32768x512, .f32⟩
  | 94 => ⟨S_, .f32⟩
  | 95 => ⟨S32768x512, .f32⟩
  | 96 => ⟨S32768x512, .f32⟩
  | 97 => ⟨S_, .f32⟩
  | 98 => ⟨S32768x512, .f32⟩
  | 99 => ⟨S32768x512, .f32⟩
  | 100 => ⟨S32768x512, .f32⟩
  | 101 => ⟨S1x1024x512, .f32⟩
  | 102 => ⟨S1024x512, .f32⟩
  | 103 => ⟨S32768x512, .f32⟩
  | 104 => ⟨S32768x512, .f32⟩
  | 105 => ⟨S32768x1, .f32⟩
  | 106 => ⟨S1x512x1024, .f32⟩
  | 107 => ⟨S512x1024, .f32⟩
  | 108 => ⟨S32768x1024, .f32⟩
  | 109 => ⟨S32768x1024, .f32⟩
  | 110 => ⟨S32768x1024, .f32⟩
  | 111 => ⟨S32768x1024, .f32⟩
  | 112 => ⟨S1x1024x512, .f32⟩
  | 113 => ⟨S1024x512, .f32⟩
  | 114 => ⟨S32768x512, .f32⟩
  | 115 => ⟨S32768x512, .f32⟩
  | 116 => ⟨S32768x512, .f32⟩
  | 117 => ⟨S_, .f32⟩
  | 118 => ⟨S32768x512, .f32⟩
  | 119 => ⟨S32768x512, .f32⟩
  | 120 => ⟨S_, .f32⟩
  | 121 => ⟨S32768x512, .f32⟩
  | 122 => ⟨S32768x512, .f32⟩
  | 123 => ⟨S32768x512, .f32⟩
  | 124 => ⟨S1x1024x512, .f32⟩
  | 125 => ⟨S1024x512, .f32⟩
  | 126 => ⟨S32768x512, .f32⟩
  | 127 => ⟨S32768x512, .f32⟩
  | _ => ⟨S32768x1024, .f32⟩

abbrev hbmTy0_2 (i : Nat) : BufTy := match i % 128 with
  | 0 => ⟨S32768x1, .f32⟩
  | 1 => ⟨S1x512x1024, .f32⟩
  | 2 => ⟨S512x1024, .f32⟩
  | 3 => ⟨S32768x1024, .f32⟩
  | 4 => ⟨S32768x1024, .f32⟩
  | 5 => ⟨S32768x1024, .f32⟩
  | 6 => ⟨S32768x1024, .f32⟩
  | 7 => ⟨S1x1024x512, .f32⟩
  | 8 => ⟨S1024x512, .f32⟩
  | 9 => ⟨S32768x512, .f32⟩
  | 10 => ⟨S32768x512, .f32⟩
  | 11 => ⟨S32768x512, .f32⟩
  | 12 => ⟨S_, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S32768x512, .f32⟩
  | 19 => ⟨S1x1024x512, .f32⟩
  | 20 => ⟨S1024x512, .f32⟩
  | 21 => ⟨S32768x512, .f32⟩
  | 22 => ⟨S32768x512, .f32⟩
  | 23 => ⟨S32768x1, .f32⟩
  | 24 => ⟨S1x512x1024, .f32⟩
  | 25 => ⟨S512x1024, .f32⟩
  | 26 => ⟨S32768x1024, .f32⟩
  | 27 => ⟨S32768x1024, .f32⟩
  | 28 => ⟨S32768x1024, .f32⟩
  | 29 => ⟨S32768x1024, .f32⟩
  | 30 => ⟨S1x1024x512, .f32⟩
  | 31 => ⟨S1024x512, .f32⟩
  | 32 => ⟨S32768x512, .f32⟩
  | 33 => ⟨S32768x512, .f32⟩
  | 34 => ⟨S32768x512, .f32⟩
  | 35 => ⟨S_, .f32⟩
  | 36 => ⟨S32768x512, .f32⟩
  | 37 => ⟨S32768x512, .f32⟩
  | 38 => ⟨S_, .f32⟩
  | 39 => ⟨S32768x512, .f32⟩
  | 40 => ⟨S32768x512, .f32⟩
  | 41 => ⟨S32768x512, .f32⟩
  | 42 => ⟨S1x1024x512, .f32⟩
  | 43 => ⟨S1024x512, .f32⟩
  | 44 => ⟨S32768x512, .f32⟩
  | 45 => ⟨S32768x512, .f32⟩
  | 46 => ⟨S32768x1, .f32⟩
  | 47 => ⟨S1x512x1024, .f32⟩
  | 48 => ⟨S512x1024, .f32⟩
  | 49 => ⟨S32768x1024, .f32⟩
  | 50 => ⟨S32768x1024, .f32⟩
  | 51 => ⟨S32768x1024, .f32⟩
  | 52 => ⟨S32768x1024, .f32⟩
  | 53 => ⟨S1x1024x512, .f32⟩
  | 54 => ⟨S1024x512, .f32⟩
  | 55 => ⟨S32768x512, .f32⟩
  | 56 => ⟨S32768x512, .f32⟩
  | 57 => ⟨S32768x512, .f32⟩
  | 58 => ⟨S_, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S32768x512, .f32⟩
  | 65 => ⟨S1x1024x512, .f32⟩
  | 66 => ⟨S1024x512, .f32⟩
  | 67 => ⟨S32768x512, .f32⟩
  | 68 => ⟨S32768x512, .f32⟩
  | 69 => ⟨S32768x1, .f32⟩
  | 70 => ⟨S1x512x1024, .f32⟩
  | 71 => ⟨S512x1024, .f32⟩
  | 72 => ⟨S32768x1024, .f32⟩
  | 73 => ⟨S32768x1024, .f32⟩
  | 74 => ⟨S32768x1024, .f32⟩
  | 75 => ⟨S32768x1024, .f32⟩
  | 76 => ⟨S1x1024x512, .f32⟩
  | 77 => ⟨S1024x512, .f32⟩
  | 78 => ⟨S32768x512, .f32⟩
  | 79 => ⟨S32768x512, .f32⟩
  | 80 => ⟨S32768x512, .f32⟩
  | 81 => ⟨S_, .f32⟩
  | 82 => ⟨S32768x512, .f32⟩
  | 83 => ⟨S32768x512, .f32⟩
  | 84 => ⟨S_, .f32⟩
  | 85 => ⟨S32768x512, .f32⟩
  | 86 => ⟨S32768x512, .f32⟩
  | 87 => ⟨S32768x512, .f32⟩
  | 88 => ⟨S1x1024x512, .f32⟩
  | 89 => ⟨S1024x512, .f32⟩
  | 90 => ⟨S32768x512, .f32⟩
  | 91 => ⟨S32768x512, .f32⟩
  | 92 => ⟨S32768x1, .f32⟩
  | 93 => ⟨S1x512x1024, .f32⟩
  | 94 => ⟨S512x1024, .f32⟩
  | 95 => ⟨S32768x1024, .f32⟩
  | 96 => ⟨S32768x1024, .f32⟩
  | 97 => ⟨S32768x1024, .f32⟩
  | 98 => ⟨S32768x1024, .f32⟩
  | 99 => ⟨S1x1024x512, .f32⟩
  | 100 => ⟨S1024x512, .f32⟩
  | 101 => ⟨S32768x512, .f32⟩
  | 102 => ⟨S32768x512, .f32⟩
  | 103 => ⟨S32768x512, .f32⟩
  | 104 => ⟨S_, .f32⟩
  | 105 => ⟨S32768x512, .f32⟩
  | 106 => ⟨S32768x512, .f32⟩
  | 107 => ⟨S_, .f32⟩
  | 108 => ⟨S32768x512, .f32⟩
  | 109 => ⟨S32768x512, .f32⟩
  | 110 => ⟨S32768x512, .f32⟩
  | 111 => ⟨S1x1024x512, .f32⟩
  | 112 => ⟨S1024x512, .f32⟩
  | 113 => ⟨S32768x512, .f32⟩
  | 114 => ⟨S32768x512, .f32⟩
  | 115 => ⟨S32768x1, .f32⟩
  | 116 => ⟨S1x512x1024, .f32⟩
  | 117 => ⟨S512x1024, .f32⟩
  | 118 => ⟨S32768x1024, .f32⟩
  | 119 => ⟨S32768x1024, .f32⟩
  | 120 => ⟨S32768x1024, .f32⟩
  | 121 => ⟨S32768x1024, .f32⟩
  | 122 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call4_v0 : Ref sig .tc := ⟨.hbm, 105, rfl⟩
abbrev main_call4_v1 : Ref sig .tc := ⟨.hbm, 106, rfl⟩
abbrev main_call4_cst : Ref sig .tc := ⟨.hbm, 107, rfl⟩
abbrev main_call4_v2 : Ref sig .tc := ⟨.hbm, 108, rfl⟩
abbrev main_call4_v3 : Ref sig .tc := ⟨.hbm, 109, rfl⟩
abbrev main_call4_cst_0 : Ref sig .tc := ⟨.hbm, 110, rfl⟩
abbrev main_call4_v4 : Ref sig .tc := ⟨.hbm, 111, rfl⟩
abbrev main_call4_v5 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_call7_v0 : Ref sig .tc := ⟨.hbm, 174, rfl⟩
abbrev main_call7_v1 : Ref sig .tc := ⟨.hbm, 175, rfl⟩
abbrev main_call7_cst : Ref sig .tc := ⟨.hbm, 176, rfl⟩
abbrev main_call7_v2 : Ref sig .tc := ⟨.hbm, 177, rfl⟩
abbrev main_call7_v3 : Ref sig .tc := ⟨.hbm, 178, rfl⟩
abbrev main_call7_cst_0 : Ref sig .tc := ⟨.hbm, 179, rfl⟩
abbrev main_call7_v4 : Ref sig .tc := ⟨.hbm, 180, rfl⟩
abbrev main_call7_v5 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_call8_v0 : Ref sig .tc := ⟨.hbm, 197, rfl⟩
abbrev main_call8_v1 : Ref sig .tc := ⟨.hbm, 198, rfl⟩
abbrev main_call8_cst : Ref sig .tc := ⟨.hbm, 199, rfl⟩
abbrev main_call8_v2 : Ref sig .tc := ⟨.hbm, 200, rfl⟩
abbrev main_call8_v3 : Ref sig .tc := ⟨.hbm, 201, rfl⟩
abbrev main_call8_cst_0 : Ref sig .tc := ⟨.hbm, 202, rfl⟩
abbrev main_call8_v4 : Ref sig .tc := ⟨.hbm, 203, rfl⟩
abbrev main_call8_v5 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_call9_v0 : Ref sig .tc := ⟨.hbm, 220, rfl⟩
abbrev main_call9_v1 : Ref sig .tc := ⟨.hbm, 221, rfl⟩
abbrev main_call9_cst : Ref sig .tc := ⟨.hbm, 222, rfl⟩
abbrev main_call9_v2 : Ref sig .tc := ⟨.hbm, 223, rfl⟩
abbrev main_call9_v3 : Ref sig .tc := ⟨.hbm, 224, rfl⟩
abbrev main_call9_cst_0 : Ref sig .tc := ⟨.hbm, 225, rfl⟩
abbrev main_call9_v4 : Ref sig .tc := ⟨.hbm, 226, rfl⟩
abbrev main_call9_v5 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_call10_v0 : Ref sig .tc := ⟨.hbm, 243, rfl⟩
abbrev main_call10_v1 : Ref sig .tc := ⟨.hbm, 244, rfl⟩
abbrev main_call10_cst : Ref sig .tc := ⟨.hbm, 245, rfl⟩
abbrev main_call10_v2 : Ref sig .tc := ⟨.hbm, 246, rfl⟩
abbrev main_call10_v3 : Ref sig .tc := ⟨.hbm, 247, rfl⟩
abbrev main_call10_cst_0 : Ref sig .tc := ⟨.hbm, 248, rfl⟩
abbrev main_call10_v4 : Ref sig .tc := ⟨.hbm, 249, rfl⟩
abbrev main_call10_v5 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_call11_v0 : Ref sig .tc := ⟨.hbm, 266, rfl⟩
abbrev main_call11_v1 : Ref sig .tc := ⟨.hbm, 267, rfl⟩
abbrev main_call11_cst : Ref sig .tc := ⟨.hbm, 268, rfl⟩
abbrev main_call11_v2 : Ref sig .tc := ⟨.hbm, 269, rfl⟩
abbrev main_call11_v3 : Ref sig .tc := ⟨.hbm, 270, rfl⟩
abbrev main_call11_cst_0 : Ref sig .tc := ⟨.hbm, 271, rfl⟩
abbrev main_call11_v4 : Ref sig .tc := ⟨.hbm, 272, rfl⟩
abbrev main_call11_v5 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_call12_v0 : Ref sig .tc := ⟨.hbm, 289, rfl⟩
abbrev main_call12_v1 : Ref sig .tc := ⟨.hbm, 290, rfl⟩
abbrev main_call12_cst : Ref sig .tc := ⟨.hbm, 291, rfl⟩
abbrev main_call12_v2 : Ref sig .tc := ⟨.hbm, 292, rfl⟩
abbrev main_call12_v3 : Ref sig .tc := ⟨.hbm, 293, rfl⟩
abbrev main_call12_cst_0 : Ref sig .tc := ⟨.hbm, 294, rfl⟩
abbrev main_call12_v4 : Ref sig .tc := ⟨.hbm, 295, rfl⟩
abbrev main_call12_v5 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_call13_v0 : Ref sig .tc := ⟨.hbm, 312, rfl⟩
abbrev main_call13_v1 : Ref sig .tc := ⟨.hbm, 313, rfl⟩
abbrev main_call13_cst : Ref sig .tc := ⟨.hbm, 314, rfl⟩
abbrev main_call13_v2 : Ref sig .tc := ⟨.hbm, 315, rfl⟩
abbrev main_call13_v3 : Ref sig .tc := ⟨.hbm, 316, rfl⟩
abbrev main_call13_cst_0 : Ref sig .tc := ⟨.hbm, 317, rfl⟩
abbrev main_call13_v4 : Ref sig .tc := ⟨.hbm, 318, rfl⟩
abbrev main_call13_v5 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_call14_v0 : Ref sig .tc := ⟨.hbm, 335, rfl⟩
abbrev main_call14_v1 : Ref sig .tc := ⟨.hbm, 336, rfl⟩
abbrev main_call14_cst : Ref sig .tc := ⟨.hbm, 337, rfl⟩
abbrev main_call14_v2 : Ref sig .tc := ⟨.hbm, 338, rfl⟩
abbrev main_call14_v3 : Ref sig .tc := ⟨.hbm, 339, rfl⟩
abbrev main_call14_cst_0 : Ref sig .tc := ⟨.hbm, 340, rfl⟩
abbrev main_call14_v4 : Ref sig .tc := ⟨.hbm, 341, rfl⟩
abbrev main_call14_v5 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_call15_v0 : Ref sig .tc := ⟨.hbm, 358, rfl⟩
abbrev main_call15_v1 : Ref sig .tc := ⟨.hbm, 359, rfl⟩
abbrev main_call15_cst : Ref sig .tc := ⟨.hbm, 360, rfl⟩
abbrev main_call15_v2 : Ref sig .tc := ⟨.hbm, 361, rfl⟩
abbrev main_call15_v3 : Ref sig .tc := ⟨.hbm, 362, rfl⟩
abbrev main_call15_cst_0 : Ref sig .tc := ⟨.hbm, 363, rfl⟩
abbrev main_call15_v4 : Ref sig .tc := ⟨.hbm, 364, rfl⟩
abbrev main_call15_v5 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩

abbrev nD : Nat := 1
abbrev τ : Topo := Topo.v7x

variable {F : FTy → Type} [FloatOps F]
-- ==== Memory.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryRefIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Conv.lean ====
abbrev S8x4096x7168 : Shape := ⟨3, ![8, 4096, 7168]⟩
abbrev S3x256 : Shape := ⟨2, ![3, 256]⟩
abbrev S256 : Shape := ⟨1, ![256]⟩
abbrev S1x256 : Shape := ⟨2, ![1, 256]⟩
abbrev S8x4096x256 : Shape := ⟨3, ![8, 4096, 256]⟩
abbrev S1x512x768 : Shape := ⟨3, ![1, 512, 768]⟩
abbrev S1x8x768 : Shape := ⟨3, ![1, 8, 768]⟩
abbrev S1x512x256 : Shape := ⟨3, ![1, 512, 256]⟩
abbrev S512x768 : Shape := ⟨2, ![512, 768]⟩
abbrev S512x256 : Shape := ⟨2, ![512, 256]⟩
abbrev S8x768 : Shape := ⟨2, ![8, 768]⟩
abbrev S8x256 : Shape := ⟨2, ![8, 256]⟩

abbrev nBuf : Space → Nat
  | .hbm => 5
  | .vmem => 8
  | .smem => 0
  | _ => 0

abbrev bufTy : (tb : Table) → Fin (tcTables nBuf tb) → BufTy
  | .hbm, ⟨0, _⟩ => ⟨S8x4096x7168, .bf16⟩
  | .hbm, ⟨1, _⟩ => ⟨S3x256, .f32⟩
  | .hbm, ⟨2, _⟩ => ⟨S256, .f32⟩
  | .hbm, ⟨3, _⟩ => ⟨S1x256, .f32⟩
  | .hbm, ⟨4, _⟩ => ⟨S8x4096x256, .bf16⟩
  | .local _ .vmem, ⟨0, _⟩ => ⟨S1x512x768, .bf16⟩
  | .local _ .vmem, ⟨1, _⟩ => ⟨S1x512x768, .bf16⟩
  | .local _ .vmem, ⟨2, _⟩ => ⟨S1x8x768, .bf16⟩
  | .local _ .vmem, ⟨3, _⟩ => ⟨S1x8x768, .bf16⟩
  | .local _ .vmem, ⟨4, _⟩ => ⟨S3x256, .f32⟩
  | .local _ .vmem, ⟨5, _⟩ => ⟨S1x256, .f32⟩
  | .local _ .vmem, ⟨6, _⟩ => ⟨S1x512x256, .bf16⟩
  | .local _ .vmem, ⟨7, _⟩ => ⟨S1x512x256, .bf16⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8x4096x7168 : Shape := ⟨3, ![8, 4096, 7168]⟩
abbrev S3x256 : Shape := ⟨2, ![3, 256]⟩
abbrev S256 : Shape := ⟨1, ![256]⟩
abbrev S8x4096x768 : Shape := ⟨3, ![8, 4096, 768]⟩
abbrev S8x4096x256 : Shape := ⟨3, ![8, 4096, 256]⟩
abbrev S_ : Shape := ⟨0, ![]⟩
abbrev S8x4098x256 : Shape := ⟨3, ![8, 4098, 256]⟩
abbrev S1x256 : Shape := ⟨2, ![1, 256]⟩
abbrev S1x1x256 : Shape := ⟨3, ![1, 1, 256]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x7168, .bf16⟩
  | .hbm, ⟨1, _⟩ => ⟨S3x256, .f32⟩
  | .hbm, ⟨2, _⟩ => ⟨S256, .f32⟩
  | .hbm, ⟨3, _⟩ => ⟨S8x4096x768, .bf16⟩
  | .hbm, ⟨4, _⟩ => ⟨S8x4096x768, .f32⟩
  | .hbm, ⟨5, _⟩ => ⟨S8x4096x256, .f32⟩
  | .hbm, ⟨6, _⟩ => ⟨S8x4096x256, .f32⟩
  | .hbm, ⟨7, _⟩ => ⟨S8x4096x256, .f32⟩
  | .hbm, ⟨8, _⟩ => ⟨S8x4096x256, .f32⟩
  | .hbm, ⟨9, _⟩ => ⟨S_, .i32⟩
  | .hbm, ⟨10, _⟩ => ⟨S_, .f32⟩
  | .hbm, ⟨11, _⟩ => ⟨S8x4098x256, .f32⟩
  | .hbm, ⟨12, _⟩ => ⟨S8x4096x256, .f32⟩
  | .hbm, ⟨13, _⟩ => ⟨S1x256, .f32⟩
  | .hbm, ⟨14, _⟩ => ⟨S256, .f32⟩
  | .hbm, ⟨15, _⟩ => ⟨S1x1x256, .f32⟩
  | .hbm, ⟨16, _⟩ => ⟨S8x4096x256, .f32⟩
  | .hbm, ⟨17, _⟩ => ⟨S8x4096x256, .f32⟩
  | .hbm, ⟨18, _⟩ => ⟨S8x4096x256, .f32⟩
  | .hbm, ⟨19, _⟩ => ⟨S1x256, .f32⟩
  | .hbm, ⟨20, _⟩ => ⟨S256, .f32⟩
  | .hbm, ⟨21, _⟩ => ⟨S1x1x256, .f32⟩
  | .hbm, ⟨22, _⟩ => ⟨S8x4096x256, .f32⟩
  | .hbm, ⟨23, _⟩ => ⟨S8x4096x256, .f32⟩
  | .hbm, ⟨24, _⟩ => ⟨S8x4096x256, .f32⟩
  | .hbm, ⟨25, _⟩ => ⟨S8x4096x256, .f32⟩
  | .hbm, ⟨26, _⟩ => ⟨S1x256, .f32⟩
  | .hbm, ⟨27, _⟩ => ⟨S256, .f32⟩
  | .hbm, ⟨28, _⟩ => ⟨S1x1x256, .f32⟩
  | .hbm, ⟨29, _⟩ => ⟨S8x4096x256, .f32⟩
  | .hbm, ⟨30, _⟩ => ⟨S8x4096x256, .f32⟩
  | .hbm, ⟨31, _⟩ => ⟨S8x4096x256, .f32⟩
  | .hbm, ⟨32, _⟩ => ⟨S1x1x256, .f32⟩
  | .hbm, ⟨33, _⟩ => ⟨S8x4096x256, .f32⟩
  | .hbm, ⟨34, _⟩ => ⟨S8x4096x256, .f32⟩
  | .hbm, ⟨35, _⟩ => ⟨S8x4096x256, .f32⟩
  | .hbm, ⟨36, _⟩ => ⟨S8x4096x256, .bf16⟩
  | _, _ => ⟨S8x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Router.lean ====
abbrev S32768x1024 : Shape := ⟨2, ![32768, 1024]⟩
abbrev S1024 : Shape := ⟨1, ![1024]⟩
abbrev S1024x16 : Shape := ⟨2, ![1024, 16]⟩
abbrev S16 : Shape := ⟨1, ![16]⟩
abbrev S1024x4 : Shape := ⟨2, ![1024, 4]⟩
abbrev S4 : Shape := ⟨1, ![4]⟩
abbrev S_ : Shape := ⟨0, ![]⟩
abbrev S1024x108 : Shape := ⟨2, ![1024, 108]⟩
abbrev S1024x128 : Shape := ⟨2, ![1024, 128]⟩
abbrev S1x108 : Shape := ⟨2, ![1, 108]⟩
abbrev S108 : Shape := ⟨1, ![108]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x16, .f32⟩
  | .hbm, ⟨3, _⟩ => ⟨S16, .f32⟩
  | .hbm, ⟨4, _⟩ => ⟨S1024x4, .f32⟩
  | .hbm, ⟨5, _⟩ => ⟨S4, .f32⟩
  | .hbm, ⟨6, _⟩ => ⟨S_, .f32⟩
  | .hbm, ⟨7, _⟩ => ⟨S1024x108, .f32⟩
  | .hbm, ⟨8, _⟩ => ⟨S1024x128, .f32⟩
  | .hbm, ⟨9, _⟩ => ⟨S1x108, .f32⟩
  | .hbm, ⟨10, _⟩ => ⟨S108, .f32⟩
  | .hbm, ⟨11, _⟩ => ⟨S128, .f32⟩
  | .hbm, ⟨12, _⟩ => ⟨S1x128, .f32⟩
  | .hbm, ⟨13, _⟩ => ⟨S1x1024, .f32⟩
  | .hbm, ⟨14, _⟩ => ⟨S32768x1024, .bf16⟩
  | .hbm, ⟨15, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouterRefIdeal.lean ====
abbrev S32768x1024 : Shape := ⟨2, ![32768, 1024]⟩
abbrev S1024 : Shape := ⟨1, ![1024]⟩
abbrev S1024x16 : Shape := ⟨2, ![1024, 16]⟩
abbrev S16 : Shape := ⟨1, ![16]⟩
abbrev S1024x4 : Shape := ⟨2, ![1024, 4]⟩
abbrev S4 : Shape := ⟨1, ![4]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x16 : Shape := ⟨2, ![32768, 16]⟩
abbrev S1x16 : Shape := ⟨2, ![1, 16]⟩
abbrev S32768x4x4 : Shape := ⟨3, ![32768, 4, 4]⟩
abbrev S32768x2 : Shape := ⟨2, ![32768, 2]⟩
abbrev S32768x2x1 : Shape := ⟨3, ![32768, 2, 1]⟩
abbrev S1x1x16 : Shape := ⟨3, ![1, 1, 16]⟩
abbrev S32768x2x16 : Shape := ⟨3, ![32768, 2, 16]⟩
abbrev S32768x128 : Shape := ⟨2, ![32768, 128]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x16, .f32⟩
  | .hbm, ⟨3, _⟩ => ⟨S16, .f32⟩
  | .hbm, ⟨4, _⟩ => ⟨S1024x4, .f32⟩
  | .hbm, ⟨5, _⟩ => ⟨S4, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x4, .f32⟩
  | .hbm, ⟨23, _⟩ => ⟨S1x4, .f32⟩
  | .hbm, ⟨24, _⟩ => ⟨S32768x4, .f32⟩
  | .hbm, ⟨25, _⟩ => ⟨S32768x4, .f32⟩
  | .hbm, ⟨26, _⟩ => ⟨S_, .f32⟩
  | .hbm, ⟨27, _⟩ => ⟨S32768, .f32⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x4, .f32⟩
  | .hbm, ⟨33, _⟩ => ⟨S32768x4, .f32⟩
  | .hbm, ⟨34, _⟩ => ⟨S32768x4, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S32768x4, .f32⟩
  | .hbm, ⟨39, _⟩ => ⟨S32768x4, .f32⟩
  | .hbm, ⟨40, _⟩ => ⟨S32768x1, .f32⟩
  | .hbm, ⟨41, _⟩ => ⟨S32768x1, .i32⟩
  | .hbm, ⟨42, _⟩ => ⟨S32768, .i32⟩
  | .hbm, ⟨43, _⟩ => ⟨S32768x1, .i32⟩
  | .hbm, ⟨44, _⟩ => ⟨S1x4, .i32⟩
  | .hbm, ⟨45, _⟩ => ⟨S32768x4, .i32⟩
  | .hbm, ⟨46, _⟩ => ⟨S32768x4, .i32⟩
  | .hbm, ⟨47, _⟩ => ⟨S32768x4, .i1⟩
  | .hbm, ⟨48, _⟩ => ⟨S32768x4, .f32⟩
  | .hbm, ⟨49, _⟩ => ⟨S32768x16, .f32⟩
  | .hbm, ⟨50, _⟩ => ⟨S1x16, .f32⟩
  | .hbm, ⟨51, _⟩ => ⟨S32768x16, .f32⟩
  | .hbm, ⟨52, _⟩ => ⟨S32768x16, .f32⟩
  | .hbm, ⟨53, _⟩ => ⟨S32768x4x4, .f32⟩
  | .hbm, ⟨54, _⟩ => ⟨S32768x4, .f32⟩
  | .hbm, ⟨55, _⟩ => ⟨S_, .f32⟩
  | .hbm, ⟨56, _⟩ => ⟨S32768, .f32⟩
  | .hbm, ⟨57, _⟩ => ⟨S_, .f32⟩
  | .hbm, ⟨58, _⟩ => ⟨S32768, .f32⟩
  | .hbm, ⟨59, _⟩ => ⟨S32768, .f32⟩
  | .hbm, ⟨60, _⟩ => ⟨S32768x1, .f32⟩
  | .hbm, ⟨61, _⟩ => ⟨S32768x4, .f32⟩
  | .hbm, ⟨62, _⟩ => ⟨S32768x4, .f32⟩
  | .hbm, ⟨63, _⟩ => ⟨S32768x4, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S32768x4, .f32⟩
  | .hbm, ⟨68, _⟩ => ⟨S32768x4, .f32⟩
  | .hbm, ⟨69, _⟩ => ⟨S32768x2, .f32⟩
  | .hbm, ⟨70, _⟩ => ⟨S32768x2, .i32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S32768x2, .f32⟩
  | .hbm, ⟨75, _⟩ => ⟨S32768x2, .f32⟩
  | .hbm, ⟨76, _⟩ => ⟨S_, .i32⟩
  | .hbm, ⟨77, _⟩ => ⟨S32768x1, .i32⟩
  | .hbm, ⟨78, _⟩ => ⟨S32768x1, .i32⟩
  | .hbm, ⟨79, _⟩ => ⟨S32768x2, .i32⟩
  | .hbm, ⟨80, _⟩ => ⟨S32768x2, .i32⟩
  | .hbm, ⟨81, _⟩ => ⟨S32768x2x1, .i32⟩
  | .hbm, ⟨82, _⟩ => ⟨S1x1x16, .i32⟩
  | .hbm, ⟨83, _⟩ => ⟨S32768x2x16, .i32⟩
  | .hbm, ⟨84, _⟩ => ⟨S32768x2x16, .i32⟩
  | .hbm, ⟨85, _⟩ => ⟨S32768x2x16, .i1⟩
  | .hbm, ⟨86, _⟩ => ⟨S32768x2x16, .f32⟩
  | .hbm, ⟨87, _⟩ => ⟨S32768x2, .f32⟩
  | .hbm, ⟨88, _⟩ => ⟨S32768x2, .f32⟩
  | .hbm, ⟨89, _⟩ => ⟨S32768x16, .f32⟩
  | .hbm, ⟨90, _⟩ => ⟨S32768x1024, .bf16⟩
  | .hbm, ⟨91, _⟩ => ⟨S_, .i32⟩
  | .hbm, ⟨92, _⟩ => ⟨S_, .f32⟩
  | .hbm, ⟨93, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_values : Ref sig .tc := ⟨.hbm, 40, rfl⟩
abbrev main_indices : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_values_8 : Ref sig .tc := ⟨.hbm, 69, rfl⟩
abbrev main_indices_9 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_call2_v0 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== Gla.lean ====
abbrev S8x4096x7168 : Shape := ⟨3, ![8, 4096, 7168]⟩
abbrev S16x256 : Shape := ⟨2, ![16, 256]⟩
abbrev S256 : Shape := ⟨1, ![256]⟩
abbrev S_ : Shape := ⟨0, ![]⟩
abbrev S112x256 : Shape := ⟨2, ![112, 256]⟩
abbrev S128x256 : Shape := ⟨2, ![128, 256]⟩
abbrev S1x256 : Shape := ⟨2, ![1, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S256x1 : Shape := ⟨2, ![256, 1]⟩
abbrev S256x256 : Shape := ⟨2, ![256, 256]⟩
abbrev S8x4096x256 : Shape := ⟨3, ![8, 4096, 256]⟩
abbrev S1x512x1024 : Shape := ⟨3, ![1, 512, 1024]⟩
abbrev S1x512x128 : Shape := ⟨3, ![1, 512, 128]⟩
abbrev S1x512x256 : Shape := ⟨3, ![1, 512, 256]⟩
abbrev S512x1024 : Shape := ⟨2, ![512, 1024]⟩
abbrev S512x256 : Shape := ⟨2, ![512, 256]⟩
abbrev S512x128 : Shape := ⟨2, ![512, 128]⟩
abbrev S64x256 : Shape := ⟨2, ![64, 256]⟩

abbrev nBuf : Space → Nat
  | .hbm => 106
  | .vmem => 15
  | .smem => 0
  | _ => 0

abbrev bufTy : (tb : Table) → Fin (tcTables nBuf tb) → BufTy
  | .hbm, ⟨0, _⟩ => ⟨S8x4096x7168, .bf16⟩
  | .hbm, ⟨1, _⟩ => ⟨S16x256, .f32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S112x256, .f32⟩
  | .hbm, ⟨6, _⟩ => ⟨S128x256, .f32⟩
  | .hbm, ⟨7, _⟩ => ⟨S128x256, .bf16⟩
  | .hbm, ⟨8, _⟩ => ⟨S1x256, .f32⟩
  | .hbm, ⟨9, _⟩ => ⟨S1x256, .f32⟩
  | .hbm, ⟨10, _⟩ => ⟨S512, .i32⟩
  | .hbm, ⟨11, _⟩ => ⟨S512x1, .i32⟩
  | .hbm, ⟨12, _⟩ => ⟨S512, .i32⟩
  | .hbm, ⟨13, _⟩ => ⟨S1x512, .i32⟩
  | .hbm, ⟨14, _⟩ => ⟨S_, .i32⟩
  | .hbm, ⟨15, _⟩ => ⟨S_, .i32⟩
  | .hbm, ⟨16, _⟩ => ⟨S512x1, .i32⟩
  | .hbm, ⟨17, _⟩ => ⟨S512x1, .i32⟩
  | .hbm, ⟨18, _⟩ => ⟨S512x1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S512x1, .i32⟩
  | .hbm, ⟨23, _⟩ => ⟨S512x1, .i32⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i1⟩
  | .hbm, ⟨28, _⟩ => ⟨S_, .i32⟩
  | .hbm, ⟨29, _⟩ => ⟨S512x1, .i32⟩
  | .hbm, ⟨30, _⟩ => ⟨S512x1, .i32⟩
  | .hbm, ⟨31, _⟩ => ⟨S512x1, .i32⟩
  | .hbm, ⟨32, _⟩ => ⟨S_, .i32⟩
  | .hbm, ⟨33, _⟩ => ⟨S_, .i32⟩
  | .hbm, ⟨34, _⟩ => ⟨S1x512, .i32⟩
  | .hbm, ⟨35, _⟩ => ⟨S1x512, .i32⟩
  | .hbm, ⟨36, _⟩ => ⟨S1x512, .i32⟩
  | .hbm, ⟨37, _⟩ => ⟨S_, .i32⟩
  | .hbm, ⟨38, _⟩ => ⟨S1x512, .i32⟩
  | .hbm, ⟨39, _⟩ => ⟨S1x512, .i1⟩
  | .hbm, ⟨40, _⟩ => ⟨S1x512, .i32⟩
  | .hbm, ⟨41, _⟩ => ⟨S1x512, .i32⟩
  | .hbm, ⟨42, _⟩ => ⟨S_, .i32⟩
  | .hbm, ⟨43, _⟩ => ⟨S1x512, .i32⟩
  | .hbm, ⟨44, _⟩ => ⟨S1x512, .i1⟩
  | .hbm, ⟨45, _⟩ => ⟨S1x512, .i1⟩
  | .hbm, ⟨46, _⟩ => ⟨S_, .i32⟩
  | .hbm, ⟨47, _⟩ => ⟨S1x512, .i32⟩
  | .hbm, ⟨48, _⟩ => ⟨S1x512, .i32⟩
  | .hbm, ⟨49, _⟩ => ⟨S1x512, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .i1⟩
  | .hbm, ⟨57, _⟩ => ⟨S512x512, .f32⟩
  | .hbm, ⟨58, _⟩ => ⟨S256, .i32⟩
  | .hbm, ⟨59, _⟩ => ⟨S256x1, .i32⟩
  | .hbm, ⟨60, _⟩ => ⟨S_, .i32⟩
  | .hbm, ⟨61, _⟩ => ⟨S_, .i32⟩
  | .hbm, ⟨62, _⟩ => ⟨S256x1, .i32⟩
  | .hbm, ⟨63, _⟩ => ⟨S256x1, .i32⟩
  | .hbm, ⟨64, _⟩ => ⟨S256x1, .i32⟩
  | .hbm, ⟨65, _⟩ => ⟨S_, .i32⟩
  | .hbm, ⟨66, _⟩ => ⟨S256x1, .i32⟩
  | .hbm, ⟨67, _⟩ => ⟨S256x1, .i1⟩
  | .hbm, ⟨68, _⟩ => ⟨S256x1, .i32⟩
  | .hbm, ⟨69, _⟩ => ⟨S256x1, .i32⟩
  | .hbm, ⟨70, _⟩ => ⟨S_, .i32⟩
  | .hbm, ⟨71, _⟩ => ⟨S256x1, .i32⟩
  | .hbm, ⟨72, _⟩ => ⟨S256x1, .i1⟩
  | .hbm, ⟨73, _⟩ => ⟨S256x1, .i1⟩
  | .hbm, ⟨74, _⟩ => ⟨S_, .i32⟩
  | .hbm, ⟨75, _⟩ => ⟨S256x1, .i32⟩
  | .hbm, ⟨76, _⟩ => ⟨S256x1, .i32⟩
  | .hbm, ⟨77, _⟩ => ⟨S256x1, .i32⟩
  | .hbm, ⟨78, _⟩ => ⟨S1x256, .i32⟩
  | .hbm, ⟨79, _⟩ => ⟨S_, .i32⟩
  | .hbm, ⟨80, _⟩ => ⟨S_, .i32⟩
  | .hbm, ⟨81, _⟩ => ⟨S1x256, .i32⟩
  | .hbm, ⟨82, _⟩ => ⟨S1x256, .i32⟩
  | .hbm, ⟨83, _⟩ => ⟨S1x256, .i32⟩
  | .hbm, ⟨84, _⟩ => ⟨S_, .i32⟩
  | .hbm, ⟨85, _⟩ => ⟨S1x256, .i32⟩
  | .hbm, ⟨86, _⟩ => ⟨S1x256, .i1⟩
  | .hbm, ⟨87, _⟩ => ⟨S1x256, .i32⟩
  | .hbm, ⟨88, _⟩ => ⟨S1x256, .i32⟩
  | .hbm, ⟨89, _⟩ => ⟨S_, .i32⟩
  | .hbm, ⟨90, _⟩ => ⟨S1x256, .i32⟩
  | .hbm, ⟨91, _⟩ => ⟨S1x256, .i1⟩
  | .hbm, ⟨92, _⟩ => ⟨S1x256, .i1⟩
  | .hbm, ⟨93, _⟩ => ⟨S_, .i32⟩
  | .hbm, ⟨94, _⟩ => ⟨S1x256, .i32⟩
  | .hbm, ⟨95, _⟩ => ⟨S1x256, .i32⟩
  | .hbm, ⟨96, _⟩ => ⟨S1x256, .i32⟩
  | .hbm, ⟨97, _⟩ => ⟨S256x256, .i32⟩
  | .hbm, ⟨98, _⟩ => ⟨S256x256, .i32⟩
  | .hbm, ⟨99, _⟩ => ⟨S256x256, .i1⟩
  | .hbm, ⟨100, _⟩ => ⟨S256x256, .f32⟩
  | .hbm, ⟨101, _⟩ => ⟨S512x512, .bf16⟩
  | .hbm, ⟨102, _⟩ => ⟨S512x512, .f32⟩
  | .hbm, ⟨103, _⟩ => ⟨S512x512, .bf16⟩
  | .hbm, ⟨104, _⟩ => ⟨S256x256, .bf16⟩
  | .hbm, ⟨105, _⟩ => ⟨S8x4096x256, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .bf16⟩
  | .local _ .vmem, ⟨3, _⟩ => ⟨S1x512x128, .bf16⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S512x512, .bf16⟩
  | .local _ .vmem, ⟨8, _⟩ => ⟨S512x512, .f32⟩
  | .local _ .vmem, ⟨9, _⟩ => ⟨S512x512, .bf16⟩
  | .local _ .vmem, ⟨10, _⟩ => ⟨S256x256, .f32⟩
  | .local _ .vmem, ⟨11, _⟩ => ⟨S256x256, .bf16⟩
  | .local _ .vmem, ⟨12, _⟩ => ⟨S1x512x256, .bf16⟩
  | .local _ .vmem, ⟨13, _⟩ => ⟨S1x512x256, .bf16⟩
  | .local _ .vmem, ⟨14, _⟩ => ⟨S256x256, .f32⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v21 : Ref sig .tc := ⟨.hbm, 77, rfl⟩
abbrev main_v22 : Ref sig .tc := ⟨.hbm, 78, rfl⟩
abbrev main_c_2 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GlaRefIdeal.lean ====
abbrev S8x4096x7168 : Shape := ⟨3, ![8, 4096, 7168]⟩
abbrev S16x256 : Shape := ⟨2, ![16, 256]⟩
abbrev S256 : Shape := ⟨1, ![256]⟩
abbrev S8x4096x16 : Shape := ⟨3, ![8, 4096, 16]⟩
abbrev S8x4096x256 : Shape := ⟨3, ![8, 4096, 256]⟩
abbrev S1x1x256 : Shape := ⟨3, ![1, 1, 256]⟩
abbrev S_ : Shape := ⟨0, ![]⟩
abbrev S64x64 : Shape := ⟨2, ![64, 64]⟩
abbrev S8x4x64x64 : Shape := ⟨4, ![8, 4, 64, 64]⟩
abbrev S8x64x64x4x64 : Shape := ⟨5, ![8, 64, 64, 4, 64]⟩
abbrev S64x8x64x4x64 : Shape := ⟨5, ![64, 8, 64, 4, 64]⟩
abbrev S1x8x64x4x64 : Shape := ⟨5, ![1, 8, 64, 4, 64]⟩
abbrev S8x64x4x64 : Shape := ⟨4, ![8, 64, 4, 64]⟩
abbrev S8x1x4x64 : Shape := ⟨4, ![8, 1, 4, 64]⟩
abbrev S8x4x64 : Shape := ⟨3, ![8, 4, 64]⟩
abbrev S8x4x64x1 : Shape := ⟨4, ![8, 4, 64, 1]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩

abbrev nBuf : Space → Nat
  | .hbm => 160
  | .vmem => 0
  | .smem => 0
  | _ => 0

abbrev hbmTy0_0 (i : Nat) : BufTy := match i % 128 with
  | 0 => ⟨S8x4096x7168, .bf16⟩
  | 1 => ⟨S16x256, .f32⟩
  | 2 => ⟨S256, .f32⟩
  | 3 => ⟨S256, .f32⟩
  | 4 => ⟨S8x4096x16, .bf16⟩
  | 5 => ⟨S8x4096x16, .f32⟩
  | 6 => ⟨S8x4096x256, .f32⟩
  | 7 => ⟨S1x1x256, .f32⟩
  | 8 => ⟨S8x4096x256, .f32⟩
  | 9 => ⟨S8x4096x256, .f32⟩
  | 10 => ⟨S8x4096x256, .f32⟩
  | 11 => ⟨S8x4096x256, .f32⟩
  | 12 => ⟨S_, .f32⟩
  | 13 => ⟨S8x4096x256, .f32⟩
  | 14 => ⟨S8x4096x256, .f32⟩
  | 15 => ⟨S_, .f32⟩
  | 16 => ⟨S8x4096x256, .f32⟩
  | 17 => ⟨S8x4096x256, .f32⟩
  | 18 => ⟨S8x4096x256, .f32⟩
  | 19 => ⟨S_, .f32⟩
  | 20 => ⟨S8x4096x256, .f32⟩
  | 21 => ⟨S8x4096x256, .f32⟩
  | 22 => ⟨S_, .i1⟩
  | 23 => ⟨S64x64, .i1⟩
  | 24 => ⟨S64x64, .i32⟩
  | 25 => ⟨S_, .i32⟩
  | 26 => ⟨S64x64, .i32⟩
  | 27 => ⟨S64x64, .i32⟩
  | 28 => ⟨S64x64, .i32⟩
  | 29 => ⟨S64x64, .i1⟩
  | 30 => ⟨S_, .i1⟩
  | 31 => ⟨S64x64, .i1⟩
  | 32 => ⟨S64x64, .i1⟩
  | 33 => ⟨S_, .f32⟩
  | 34 => ⟨S8x4x64x64, .f32⟩
  | 35 => ⟨S8x4096x256, .bf16⟩
  | 36 => ⟨S8x4096x256, .f32⟩
  | 37 => ⟨S8x64x64x4x64, .f32⟩
  | 38 => ⟨S64x8x64x4x64, .f32⟩
  | 39 => ⟨S8x4096x256, .bf16⟩
  | 40 => ⟨S8x4096x256, .f32⟩
  | 41 => ⟨S8x64x64x4x64, .f32⟩
  | 42 => ⟨S64x8x64x4x64, .f32⟩
  | 43 => ⟨S8x4096x256, .bf16⟩
  | 44 => ⟨S8x4096x256, .f32⟩
  | 45 => ⟨S8x64x64x4x64, .f32⟩
  | 46 => ⟨S64x8x64x4x64, .f32⟩
  | 47 => ⟨S8x64x64x4x64, .f32⟩
  | 48 => ⟨S64x8x64x4x64, .f32⟩
  | 49 => ⟨S_, .f32⟩
  | 50 => ⟨S64x8x64x4x64, .f32⟩
  | 51 => ⟨S_, .i32⟩
  | 52 => ⟨S64x8x64x4x64, .f32⟩
  | 53 => ⟨S64x8x64x4x64, .f32⟩
  | 54 => ⟨S64x8x64x4x64, .f32⟩
  | 55 => ⟨S64x8x64x4x64, .f32⟩
  | 56 => ⟨S64x64, .i1⟩
  | 57 => ⟨S_, .i32⟩
  | 58 => ⟨S8x4x64x64, .f32⟩
  | 59 => ⟨S64x8x64x4x64, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S1x8x64x4x64, .f32⟩
  | 67 => ⟨S8x64x4x64, .f32⟩
  | 68 => ⟨S_, .i32⟩
  | 69 => ⟨S_, .i32⟩
  | 70 => ⟨S_, .i32⟩
  | 71 => ⟨S_, .i32⟩
  | 72 => ⟨S1x8x64x4x64, .f32⟩
  | 73 => ⟨S8x64x4x64, .f32⟩
  | 74 => ⟨S_, .i32⟩
  | 75 => ⟨S_, .i32⟩
  | 76 => ⟨S_, .i32⟩
  | 77 => ⟨S_, .i32⟩
  | 78 => ⟨S1x8x64x4x64, .f32⟩
  | 79 => ⟨S8x64x4x64, .f32⟩
  | 80 => ⟨S_, .i32⟩
  | 81 => ⟨S_, .i32⟩
  | 82 => ⟨S_, .i32⟩
  | 83 => ⟨S_, .i32⟩
  | 84 => ⟨S1x8x64x4x64, .f32⟩
  | 85 => ⟨S8x64x4x64, .f32⟩
  | 86 => ⟨S_, .f32⟩
  | 87 => ⟨S_, .f32⟩
  | 88 => ⟨S8x64x4x64, .f32⟩
  | 89 => ⟨S8x1x4x64, .f32⟩
  | 90 => ⟨S_, .f32⟩
  | 91 => ⟨S8x64x4x64, .f32⟩
  | 92 => ⟨S8x64x4x64, .f32⟩
  | 93 => ⟨S8x64x4x64, .f32⟩
  | 94 => ⟨S8x64x4x64, .f32⟩
  | 95 => ⟨S8x64x4x64, .f32⟩
  | 96 => ⟨S8x64x4x64, .f32⟩
  | 97 => ⟨S8x64x4x64, .f32⟩
  | 98 => ⟨S8x64x4x64, .f32⟩
  | 99 => ⟨S8x64x4x64, .f32⟩
  | 100 => ⟨S8x64x4x64, .f32⟩
  | 101 => ⟨S8x64x4x64, .f32⟩
  | 102 => ⟨S8x4x64x64, .f32⟩
  | 103 => ⟨S_, .f32⟩
  | 104 => ⟨S_, .f32⟩
  | 105 => ⟨S8x4x64x64, .i1⟩
  | 106 => ⟨S8x4x64x64, .f32⟩
  | 107 => ⟨S8x4x64x64, .f32⟩
  | 108 => ⟨S8x4x64x64, .f32⟩
  | 109 => ⟨S8x64x4x64, .f32⟩
  | 110 => ⟨S8x4x64x64, .f32⟩
  | 111 => ⟨S8x64x4x64, .f32⟩
  | 112 => ⟨S8x64x4x64, .f32⟩
  | 113 => ⟨S8x4x64, .f32⟩
  | 114 => ⟨S8x4x64, .f32⟩
  | 115 => ⟨S8x4x64x1, .f32⟩
  | 116 => ⟨S8x4x64x64, .f32⟩
  | 117 => ⟨S8x4x64x64, .f32⟩
  | 118 => ⟨S8x4x64x64, .f32⟩
  | 119 => ⟨S8x4x64x64, .f32⟩
  | 120 => ⟨S1x8x64x4x64, .f32⟩
  | 121 => ⟨S_, .i32⟩
  | 122 => ⟨S_, .i32⟩
  | 123 => ⟨S_, .i32⟩
  | 124 => ⟨S_, .i32⟩
  | 125 => ⟨S64x8x64x4x64, .f32⟩
  | 126 => ⟨S_, .i32⟩
  | 127 => ⟨S_, .i32⟩
  | _ => ⟨S8x4096x7168, .bf16⟩

abbrev hbmTy0_1 (i : Nat) : BufTy := match i % 128 with
  | 0 => ⟨S8x64x64x4x64, .f32⟩
  | 1 => ⟨S8x4096x4x64, .f32⟩
  | 2 => ⟨S8x4096x4x64, .f32⟩
  | 3 => ⟨S_, .f32⟩
  | 4 => ⟨S8x4096x4, .f32⟩
  | 5 => ⟨S8x4096x4x1, .f32⟩
  | 6 => ⟨S_, .f32⟩
  | 7 => ⟨S8x4096x4x1, .f32⟩
  | 8 => ⟨S8x4096x4x1, .f32⟩
  | 9 => ⟨S_, .f32⟩
  | 10 => ⟨S8x4096x4x1, .f32⟩
  | 11 => ⟨S8x4096x4x1, .f32⟩
  | 12 => ⟨S8x4096x4x1, .f32⟩
  | 13 => ⟨S8x4096x4x64, .f32⟩
  | 14 => ⟨S8x4096x4x64, .f32⟩
  | 15 => ⟨S8x4096x256, .f32⟩
  | 16 => ⟨S1x1x256, .f32⟩
  | 17 => ⟨S8x4096x256, .f32⟩
  | 18 => ⟨S8x4096x256, .f32⟩
  | 19 => ⟨S8x4096x256, .bf16⟩
  | 20 => ⟨S8x4096x256, .f32⟩
  | 21 => ⟨S8x4096x256, .f32⟩
  | 22 => ⟨S8x4096x256, .f32⟩
  | 23 => ⟨S_, .f32⟩
  | 24 => ⟨S8x4096x256, .f32⟩
  | 25 => ⟨S8x4096x256, .f32⟩
  | 26 => ⟨S_, .f32⟩
  | 27 => ⟨S8x4096x256, .f32⟩
  | 28 => ⟨S8x4096x256, .f32⟩
  | 29 => ⟨S8x4096x256, .f32⟩
  | 30 => ⟨S8x4096x256, .f32⟩
  | 31 => ⟨S8x4096x256, .bf16⟩
  | _ => ⟨S8x4096x7168, .bf16⟩

abbrev hbmTy (i : Nat) : BufTy := match i / 128 with
  | 0 => hbmTy0_0 i
  | 1 => hbmTy0_1 i
  | _ => ⟨S8x4096x7168, .bf16⟩

abbrev bufTy : (tb : Table) → Fin (tcTables nBuf tb) → BufTy
  | .hbm, ⟨i, _⟩ => hbmTy i
  | _, _ => ⟨S8x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_c_4 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev main_v33_3 : Ref sig .tc := ⟨.hbm, 55, rfl⟩
abbrev main_v33_4 : Ref sig .tc := ⟨.hbm, 56, rfl⟩
abbrev main_v33_5 : Ref sig .tc := ⟨.hbm, 57, rfl⟩
abbrev main_v33_6 : Ref sig .tc := ⟨.hbm, 58, rfl⟩
abbrev main_v33_7 : Ref sig .tc := ⟨.hbm, 59, rfl⟩
abbrev main_while0c_c_15 : Ref sig .tc := ⟨.hbm, 60, rfl⟩
abbrev main_while0c_v55 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_c_2 : Ref sig .tc := ⟨.hbm, 65, rfl⟩
abbrev main_while0b_call1_v0 : Ref sig .tc := ⟨.hbm, 66, rfl⟩
abbrev main_while0b_v55 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_c_2 : Ref sig .tc := ⟨.hbm, 71, rfl⟩
abbrev main_while0b_call2_v0 : Ref sig .tc := ⟨.hbm, 72, rfl⟩
abbrev main_while0b_v56 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_c_2 : Ref sig .tc := ⟨.hbm, 77, rfl⟩
abbrev main_while0b_call3_v0 : Ref sig .tc := ⟨.hbm, 78, rfl⟩
abbrev main_while0b_v57 : Ref sig .tc := ⟨.hbm, 79, rfl⟩
abbrev main_while0b_call4_c : Ref sig .tc := ⟨.hbm, 80, rfl⟩
abbrev main_while0b_call4_c_0 : Ref sig .tc := ⟨.hbm, 81, rfl⟩
abbrev main_while0b_call4_c_1 : Ref sig .tc := ⟨.hbm, 82, rfl⟩
abbrev main_while0b_call4_c_2 : Ref sig .tc := ⟨.hbm, 83, rfl⟩
abbrev main_while0b_call4_v0 : Ref sig .tc := ⟨.hbm, 84, rfl⟩
abbrev main_while0b_v58 : Ref sig .tc := ⟨.hbm, 85, rfl⟩
abbrev main_while0b_call5_call0_cst : Ref sig .tc := ⟨.hbm, 86, rfl⟩
abbrev main_while0b_call5_call0_v0 : Ref sig .tc := ⟨.hbm, 87, rfl⟩
abbrev main_while0b_v59 : Ref sig .tc := ⟨.hbm, 88, rfl⟩
abbrev main_while0b_v60 : Ref sig .tc := ⟨.hbm, 89, rfl⟩
abbrev main_while0b_cst_15 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_cst_16 : Ref sig .tc := ⟨.hbm, 103, rfl⟩
abbrev main_while0b_call6_v0 : Ref sig .tc := ⟨.hbm, 104, rfl⟩
abbrev main_while0b_call6_v1 : Ref sig .tc := ⟨.hbm, 105, rfl⟩
abbrev main_while0b_call6_v2 : Ref sig .tc := ⟨.hbm, 106, rfl⟩
abbrev main_while0b_v73 : Ref sig .tc := ⟨.hbm, 107, rfl⟩
abbrev main_while0b_v74 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_v79 : Ref sig .tc := ⟨.hbm, 113, rfl⟩
abbrev main_while0b_v80 : Ref sig .tc := ⟨.hbm, 114, rfl⟩
abbrev main_while0b_v81 : Ref sig .tc := ⟨.hbm, 115, rfl⟩
abbrev main_while0b_v82 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_call7_v0 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_c_2 : Ref sig .tc := ⟨.hbm, 124, rfl⟩
abbrev main_while0b_v86 : Ref sig .tc := ⟨.hbm, 125, rfl⟩
abbrev main_while0b_c_17 : Ref sig .tc := ⟨.hbm, 126, rfl⟩
abbrev main_while0b_v87 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_cst_5 : Ref sig .tc := ⟨.hbm, 131, rfl⟩
abbrev main_v37 : Ref sig .tc := ⟨.hbm, 132, rfl⟩
abbrev main_v38 : Ref sig .tc := ⟨.hbm, 133, rfl⟩
abbrev main_cst_6 : Ref sig .tc := ⟨.hbm, 134, rfl⟩
abbrev main_v39 : Ref sig .tc := ⟨.hbm, 135, rfl⟩
abbrev main_v40 : Ref sig .tc := ⟨.hbm, 136, rfl⟩
abbrev main_cst_7 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_call8_v0 : Ref sig .tc := ⟨.hbm, 149, rfl⟩
abbrev main_call8_v1 : Ref sig .tc := ⟨.hbm, 150, rfl⟩
abbrev main_call8_cst : Ref sig .tc := ⟨.hbm, 151, rfl⟩
abbrev main_call8_v2 : Ref sig .tc := ⟨.hbm, 152, rfl⟩
abbrev main_call8_v3 : Ref sig .tc := ⟨.hbm, 153, rfl⟩
abbrev main_call8_cst_0 : Ref sig .tc := ⟨.hbm, 154, rfl⟩
abbrev main_call8_v4 : Ref sig .tc := ⟨.hbm, 155, rfl⟩
abbrev main_call8_v5 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩

abbrev nD : Nat := 1
abbrev τ : Topo := Topo.v7x

variable {F : FTy → Type} [FloatOps F]

abbrev main_while0_count : Scf.Loop 32 := ⟨0#32, 64#32, 1#32⟩
-- ==== Proof.CrossMath.lean ====
module

public import Idealize.ShloMosaic.Lib.Pointwise

/-!
The scalar mathematics the cross attention and its reference share, over the extended reals: one
attention head of one query row, and a nonnegative real scale drawn through a finite sum.
-/

@[expose] public section

noncomputable section

open Idealize.ShloMosaic Idealize.SL.Sem

namespace Cert.CrossMath

/-- The largest of 256 logits, starting from minus infinity. -/
def top (L : Fin 256 → EReal) : EReal := Finset.univ.fold max (Ideal.ofBits .f32 4286578688#32) L

/-- The softmax weight of position `m` among 256 logits. -/
def weight (L : Fin 256 → EReal) (m : Fin 256) : EReal :=
  Ideal.div (Ideal.exp (L m - top L)) (∑ k, Ideal.exp (L k - top L))

/-- One output number of one head: the softmax weights against a column of values. -/
def head (L v : Fin 256 → EReal) : EReal := ∑ m, weight L m * v m

/-- The root mean square scale of one row of 1024 numbers. -/
def scale (x : Fin 1024 → EReal) : EReal :=
  Ideal.rsqrt (Ideal.div (∑ k, x k * x k) (Ideal.ofBits .f32 1149239296#32) + Ideal.ofBits .f32 897988541#32)

/-- One entry of the normalised row times one column of the query weights. -/
def query (x g w : Fin 1024 → EReal) : EReal := ∑ k, x k * scale x * g k * w k

/-- The constant the logits are scaled by. -/
def inv : EReal := Ideal.ofBits .f32 1035273459#32

/-- The logit of one query row against one memory row. -/
def logit (q k : Fin 128 → EReal) : EReal := (∑ e, q e * k e) * inv

/-- One output number of a row: the row itself plus its four heads times a column of the output weights. -/
def out (x g : Fin 1024 → EReal) (wq : Fin 1024 → Fin 512 → EReal) (kv : Fin 256 → Fin 1024 → EReal)
    (wo : Fin 512 → EReal) (j : Fin 1024) : EReal :=
  x j + ∑ n : Fin 512, head
    (fun m => logit (fun e => query x g fun k => wq k ⟨128 * (n / 128) + e, by omega⟩)
      (fun e => kv m ⟨128 * (n / 128) + e, by omega⟩))
    (fun m => kv m ⟨512 + n, by omega⟩) * wo n

/-- The logit constant is nonnegative and finite. -/
theorem inv_nonneg : 0 ≤ inv ∧ inv ≠ ⊤ := by
  have h : inv = (((11863283 : ℝ) * (2 : ℝ) ^ (-27 : ℤ) : ℝ) : EReal) := by
    simp [inv, Ideal.ofBits, Ideal.ieee]
  rw [h]
  exact ⟨by exact_mod_cast (by positivity), EReal.coe_ne_top _⟩

/-- A nonnegative finite factor distributes over a finite sum of extended reals. -/
theorem sum_mul_of_nonneg {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, ← ih, mul_comm, EReal.left_distrib_of_nonneg_of_ne_top h0 h1,
      mul_comm c, mul_comm c]

/-- Scaling the query before the product with the memory row is scaling the logit after it. -/
theorem logit_scaled (q k : Fin 128 → EReal) : ∑ e, q e * inv * k e = logit q k := by
  rw [logit, sum_mul_of_nonneg _ _ inv_nonneg.1 inv_nonneg.2]
  exact Finset.sum_congr rfl fun e _ => mul_right_comm _ _ _

/-- Starting a maximum from minus infinity twice changes nothing. -/
theorem max_top (L : Fin 256 → EReal) : max (Ideal.ofBits .f32 4286578688#32) (top L) = top L := by
  refine max_eq_right ?_
  exact Finset.le_fold_max _ |>.2 (Or.inl le_rfl)

end Cert.CrossMath
end
-- ==== Proof.CrossBlock.lean ====
module

public import proofs.«01_k».proof.Proof.Gen.CrossIdeal.Frame
public import proofs.«01_k».proof.Proof.CrossMath
public import Idealize.ShloMosaic.Lib.Pointwise

/-!
What one grid step of the cross attention stores, read at one entry.
-/

@[expose] public section

set_option maxRecDepth 16384

noncomputable section

open Idealize.ShloMosaic Idealize.ShloMosaic.TcCoe Idealize.SL.Sem

namespace Cert.CrossIdeal.Block

open Cert.CrossIdeal Cert.CrossIdeal.Gen Cert.CrossMath

/-- The scaled queries of a block: the normalised row times the query weights, times the constant. -/
theorem queries_at (v0 : FVec Ideal S1x512x1024 .f32) (v2 : FVec Ideal S1x1024 .f32) (v17 : FVec Ideal S1024x512 .bf16)
    (r d : Fin 512) : k0_pay3 (F := Ideal) v0 v2 v17 (ix2 r d) =
      query (fun k => v0 (ix3 0 r k)) (fun k => v2 (ix2 0 k)) (fun k => v17 (ix2 k d)) * inv := by
  pointwise [k0_pay3, k0_pay2]
  rfl

/-- The keys and values of a block are the memory block itself. -/
theorem memory_at (v22 : FVec Ideal S1x256x1024 .bf16) (m : Fin 256) (k : Fin 1024) :
    k0_pay4 (F := Ideal) v22 (ix2 m k) = v22 (ix3 0 m k) := by
  pointwise [k0_pay4]

/-- The softmax weights of the first head. -/
theorem weight0_at (v0 : FVec Ideal S1x512x1024 .f32) (v2 : FVec Ideal S1x1024 .f32) (v17 : FVec Ideal S1024x512 .bf16)
    (v22 : FVec Ideal S1x256x1024 .bf16) (r : Fin 512) (m : Fin 256) :
    k0_pay5 (F := Ideal) v0 v2 v17 v22 (ix2 r m) =
      weight (fun m => ∑ e : Fin 128, k0_pay3 (F := Ideal) v0 v2 v17 (ix2 r ⟨e, by omega⟩) * k0_pay4 (F := Ideal) v22 (ix2 m ⟨e, by omega⟩)) m := by
  unfold k0_pay5
  generalize k0_pay3 (F := Ideal) v0 v2 v17 = q
  generalize k0_pay4 (F := Ideal) v22 = v23
  pointwise
  rfl

/-- The value columns of the first head. -/
theorem value0_at (v22 : FVec Ideal S1x256x1024 .bf16) (m : Fin 256) (d : Fin 128) :
    k0_pay6 (F := Ideal) v22 (ix2 m d) = k0_pay4 (F := Ideal) v22 (ix2 m ⟨512 + d, by omega⟩) := by
  unfold k0_pay6
  generalize k0_pay4 (F := Ideal) v22 = v23
  pointwise

/-- A head is its softmax weights times its value columns. -/
theorem product_at (w : FVec Ideal S512x256 .bf16) (v : FVec Ideal S256x128 .bf16) (r : Fin 512) (d : Fin 128) :
    k0_pay7 (F := Ideal) w v (constant (F := Ideal) S512x128 .f32 0x00000000#32) (ix2 r d) = ∑ m : Fin 256, w (ix2 r m) * v (ix2 m d) := by
  pointwise [k0_pay7]

/-- The second head. -/
theorem head1_at (v21 : FVec Ideal S512x512 .f32) (v23 : FVec Ideal S256x1024 .bf16)
    (r : Fin 512) (d : Fin 128) : k0_pay8 (F := Ideal) v21 v23 (ix2 r d) =
      head (fun m => ∑ e : Fin 128, v21 (ix2 r ⟨128 + e, by omega⟩) * v23 (ix2 m ⟨128 + e, by omega⟩))
        (fun m => v23 (ix2 m ⟨640 + d, by omega⟩)) := by
  pointwise [k0_pay8]
  rfl

/-- The third head. -/
theorem head2_at (v21 : FVec Ideal S512x512 .f32) (v23 : FVec Ideal S256x1024 .bf16)
    (r : Fin 512) (d : Fin 128) : k0_pay9 (F := Ideal) v21 v23 (ix2 r d) =
      head (fun m => ∑ e : Fin 128, v21 (ix2 r ⟨256 + e, by omega⟩) * v23 (ix2 m ⟨256 + e, by omega⟩))
        (fun m => v23 (ix2 m ⟨768 + d, by omega⟩)) := by
  pointwise [k0_pay9]
  rfl

/-- The softmax weights of the fourth head. -/
theorem weight3_at (v21 : FVec Ideal S512x512 .f32) (v23 : FVec Ideal S256x1024 .bf16)
    (r : Fin 512) (m : Fin 256) : k0_pay10 (F := Ideal) v21 v23 (ix2 r m) =
      weight (fun m => ∑ e : Fin 128, v21 (ix2 r ⟨384 + e, by omega⟩) * v23 (ix2 m ⟨384 + e, by omega⟩)) m := by
  pointwise [k0_pay10]
  rfl

/-- The value columns of the fourth head. -/
theorem value3_at (v23 : FVec Ideal S256x1024 .bf16) (m : Fin 256) (d : Fin 128) :
    k0_pay11 (F := Ideal) v23 (ix2 m d) = v23 (ix2 m ⟨896 + d, by omega⟩) := by
  pointwise [k0_pay11]

/-- The stored block: the input plus the four heads, side by side, times the output weights. -/
theorem joined_at (v1 : FVec Ideal S512x1024 .f32) (h0 h1 h2 : FVec Ideal S512x128 .f32) (w3 : FVec Ideal S512x256 .bf16)
    (u3 : FVec Ideal S256x128 .bf16) (wo : FVec Ideal S512x1024 .bf16) (r : Fin 512) (j : Fin 1024) (f : Fin 512 → EReal)
    (e0 : ∀ d : Fin 128, h0 (ix2 r d) = f ⟨d, by omega⟩) (e1 : ∀ d : Fin 128, h1 (ix2 r d) = f ⟨128 + d, by omega⟩)
    (e2 : ∀ d : Fin 128, h2 (ix2 r d) = f ⟨256 + d, by omega⟩)
    (e3 : ∀ d : Fin 128, ∑ m : Fin 256, w3 (ix2 r m) * u3 (ix2 m d) = f ⟨384 + d, by omega⟩) :
    k0_pay1 (F := Ideal) v1 h0 h1 h2 w3 u3 (constant (F := Ideal) S512x128 .f32 0x00000000#32) wo (ix3 0 r j) =
      v1 (ix2 r j) + ∑ n : Fin 512, f n * wo (ix2 n j) := by
  pointwise [k0_pay1]
  refine congrArg (v1 (ix2 r j) + ·) (Finset.sum_congr rfl fun n _ => congrArg (· * wo (ix2 n j)) ?_)
  split_ifs <;> first
    | exact absurd rfl ‹_›
    | exact e0 _
    | exact (e1 _).trans (congrArg f (Fin.ext (by dsimp only; omega)))
    | exact (e2 _).trans (congrArg f (Fin.ext (by dsimp only; omega)))
    | exact (e3 _).trans (congrArg f (Fin.ext (by dsimp only; omega)))

/-- What one grid step stores, at one entry: the shared row function of the step's blocks. -/
theorem stored_at (v0 : FVec Ideal S1x512x1024 .f32) (v2 : FVec Ideal S1x1024 .f32) (v17 : FVec Ideal S1024x512 .bf16)
    (v22 : FVec Ideal S1x256x1024 .bf16) (wo : FVec Ideal S512x1024 .bf16) (r : Fin 512) (j : Fin 1024) :
    k0_pay1 (F := Ideal) (k0_pay2 v0)
      (k0_pay7 (k0_pay5 v0 v2 v17 v22) (k0_pay6 v22) (constant (F := Ideal) S512x128 .f32 0x00000000#32))
      (k0_pay8 (k0_pay3 v0 v2 v17) (k0_pay4 v22)) (k0_pay9 (k0_pay3 v0 v2 v17) (k0_pay4 v22))
      (k0_pay10 (k0_pay3 v0 v2 v17) (k0_pay4 v22)) (k0_pay11 (k0_pay4 v22))
      (constant (F := Ideal) S512x128 .f32 0x00000000#32) wo (ix3 0 r j) =
    out (fun k => v0 (ix3 0 r k)) (fun k => v2 (ix2 0 k)) (fun k d => v17 (ix2 k d)) (fun m k => v22 (ix3 0 m k))
      (fun n => wo (ix2 n j)) j := by
  refine (joined_at _ _ _ _ _ _ _ r j (fun n => head
    (fun m => logit (fun e => query (fun k => v0 (ix3 0 r k)) (fun k => v2 (ix2 0 k)) fun k => v17 (ix2 k ⟨128 * (n / 128) + e, by omega⟩))
      (fun e => v22 (ix3 0 m ⟨128 * (n / 128) + e, by omega⟩)))
    (fun m => v22 (ix3 0 m ⟨512 + n, by omega⟩))) ?_ ?_ ?_ ?_).trans ?_
  · intro d
    rw [product_at]
    simp only [weight0_at, value0_at, queries_at, memory_at, logit_scaled, head]
    have q : d.val / 128 = 0 := by omega
    simp only [q, Nat.reduceMul, ← Nat.add_assoc, Nat.reduceAdd, Nat.zero_add]
  · intro d
    rw [head1_at]
    simp only [queries_at, memory_at, logit_scaled]
    have q : (128 + d.val) / 128 = 1 := by omega
    simp only [q, Nat.reduceMul, ← Nat.add_assoc, Nat.reduceAdd, Nat.zero_add]
  · intro d
    rw [head2_at]
    simp only [queries_at, memory_at, logit_scaled]
    have q : (256 + d.val) / 128 = 2 := by omega
    simp only [q, Nat.reduceMul, ← Nat.add_assoc, Nat.reduceAdd, Nat.zero_add]
  · intro d
    simp only [weight3_at, value3_at, queries_at, memory_at, logit_scaled, head]
    have q : (384 + d.val) / 128 = 3 := by omega
    simp only [q, Nat.reduceMul, ← Nat.add_assoc, Nat.reduceAdd, Nat.zero_add]
  · have e : k0_pay2 (F := Ideal) v0 (ix2 r j) = v0 (ix3 0 r j) := by pointwise [k0_pay2]
    rw [e]
    rfl

end Cert.CrossIdeal.Block
end
-- ==== Proof.CrossRef.lean ====
module

public import proofs.«01_k».proof.Proof.Gen.CrossRefIdeal.Read
public import proofs.«01_k».proof.Proof.CrossMath
public import Idealize.ShloMosaic.Lib.Pointwise

/-!
What the cross attention's reference computes, read at one entry, stage by stage.
-/

@[expose] public section

set_option maxRecDepth 16384

noncomputable section

open Idealize.ShloMosaic Idealize.ShloMosaic.TcCoe Idealize.SL.Sem

namespace Cert.CrossRefIdeal.Pure

open Cert.CrossRefIdeal Cert.CrossRefIdeal.Gen Cert.CrossRefIdeal.Read Cert.CrossMath

variable (x : FVec Ideal S8x4096x1024 .f32) (g : FVec Ideal S1024 .f32) (wq : FVec Ideal S1024x512 .f32) (kv : FVec Ideal S8x256x1024 .bf16) (wo : FVec Ideal S512x1024 .f32)

/-- The queries: the normalised row times a column of the query weights. -/
theorem queries_at (b : Fin 8) (s : Fin 4096) (h : Fin 4) (e : Fin 128) : val_main_v14 (F := Ideal) x g wq (ix4 b s h e) =
    query (fun k => x (ix3 b s k)) (fun k => g (ix1 k)) (fun k => wq (ix2 k ⟨128 * h + e, by omega⟩)) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [mul_comm 128]
  rfl

/-- The logits of one head. -/
theorem logits_at (b : Fin 8) (h : Fin 4) (s : Fin 4096) (m : Fin 256) : val_main_v22 (F := Ideal) x g wq kv (ix4 b h s m) =
    logit (fun e => val_main_v14 (F := Ideal) x g wq (ix4 b s h e)) (fun e => kv (ix3 b m ⟨128 * h + e, by omega⟩)) := by
  unfold val_main_v22 val_main_v20
  generalize val_main_v14 (F := Ideal) x g wq = Q
  pointwise [val_main_v21,val_main_cst_2, val_main_v19, val_main_v18, val_main_v17, val_main_v16, val_main_v15]
  simp only [mul_comm 128]
  rfl

/-- A row's maximum over an array of logits. -/
theorem reduced_at (L : FVec Ideal S8x4x4096x256 .f32) (c : FVec Ideal S_ .f32) (b : Fin 8) (h : Fin 4) (s : Fin 4096) :
    Host.reduce FloatOps.maximumf L c reducesTo_S8x4x4096x256_S8x4x4096_d3 h_S_ (ix3 b h s) =
      Finset.univ.fold max (c (Shape.Idx.first h_S_)) (fun m : Fin 256 => L (ix4 b h s m)) := by
  pointwise

/-- The largest logit of a row. -/
theorem top_at (b : Fin 8) (h : Fin 4) (s : Fin 4096) : val_main_v25 (F := Ideal) x g wq kv (ix3 b h s) =
    top (fun m => val_main_v22 (F := Ideal) x g wq kv (ix4 b h s m)) := by
  rw [val_main_v25_apply, val_main_v24_apply, val_main_v23, reduced_at]
  generalize val_main_v22 (F := Ideal) x g wq kv = L
  exact max_top _

/-- The exponential of a logit less its row's largest. -/
theorem exps_at (b : Fin 8) (h : Fin 4) (s : Fin 4096) (m : Fin 256) : val_main_v29 (F := Ideal) x g wq kv (ix4 b h s m) =
    Ideal.exp (val_main_v22 (F := Ideal) x g wq kv (ix4 b h s m) - top (fun m => val_main_v22 (F := Ideal) x g wq kv (ix4 b h s m))) := by
  rw [← top_at]
  unfold val_main_v29 val_main_v28 val_main_v27 val_main_v26
  generalize val_main_v22 (F := Ideal) x g wq kv = L
  generalize val_main_v25 (F := Ideal) x g wq kv = M
  pointwise

/-- The softmax weights. -/
theorem weights_at (b : Fin 8) (h : Fin 4) (s : Fin 4096) (m : Fin 256) : val_main_v33 (F := Ideal) x g wq kv (ix4 b h s m) =
    weight (fun m => val_main_v22 (F := Ideal) x g wq kv (ix4 b h s m)) m := by
  have e : val_main_v33 (F := Ideal) x g wq kv (ix4 b h s m) = Ideal.div (val_main_v29 (F := Ideal) x g wq kv (ix4 b h s m))
      (∑ k, val_main_v29 (F := Ideal) x g wq kv (ix4 b h s k)) := by
    unfold val_main_v33 val_main_v32 val_main_v31 val_main_v30
    generalize val_main_v29 (F := Ideal) x g wq kv = E
    pointwise [val_main_cst_5]
  rw [e]
  simp only [exps_at]
  rfl

/-- The result: the input plus the heads times the output weights. -/
theorem result_at (b : Fin 8) (s : Fin 4096) (j : Fin 1024) : val_main_v38 (F := Ideal) x g wq kv wo (ix3 b s j) =
    x (ix3 b s j) + ∑ n : Fin 512, (∑ m, val_main_v33 (F := Ideal) x g wq kv (ix4 b ⟨n / 128, by omega⟩ s m) * kv (ix3 b m ⟨512 + n, by omega⟩)) * wo (ix2 n j) := by
  unfold val_main_v38 val_main_v37 val_main_v36 val_main_v35 val_main_v34
  generalize val_main_v33 (F := Ideal) x g wq kv = W
  pointwise [val_main_v19, val_main_v18, val_main_v17, val_main_v16, val_main_v15]
  simp only [mul_comm (W _)]

/-- The reference's result at one entry is the shared row function. -/
theorem reference_at (b : Fin 8) (s : Fin 4096) (j : Fin 1024) : val_main_v38 (F := Ideal) x g wq kv wo (ix3 b s j) =
    out (fun k => x (ix3 b s k)) (fun k => g (ix1 k)) (fun k d => wq (ix2 k d)) (fun m k => kv (ix3 b m k)) (fun n => wo (ix2 n j)) j := by
  rw [result_at]
  simp only [weights_at, logits_at, queries_at]
  rfl

end Cert.CrossRefIdeal.Pure
end
-- ==== Proof.CrossValue.lean ====
module

public import proofs.«01_k».proof.Proof.CrossBlock
public import proofs.«01_k».proof.Proof.CrossRef
public import proofs.«01_k».proof.Proof.Gen.CrossIdeal.Value
public import Idealize.ShloMosaic.Lib.Claim
public import Idealize.ShloMosaic.Lib.Pipeline.ValueKit

/-!
The cross attention's result array after the run is the reference's result: each grid step stores the
block of the reference's result that its output window covers.
-/

@[expose] public section

set_option maxRecDepth 16384

noncomputable section

open Idealize.ShloMosaic Idealize.ShloMosaic.TcCoe Idealize.SL.Sem
open Idealize.ShloMosaic.Pipeline (Dat)

namespace Cert.CrossIdeal.Final
open Cert.CrossIdeal Cert.CrossIdeal.Gen

variable (m : (ℓ : Loc nD τ sig) → Buf (Elt Ideal) ℓ)

/-- The block each window reads or writes at a grid step. -/
theorem idx : ∀ t : Fin cfg0.N, win0_0.index t = ![(grid0.coords t 0).val, (grid0.coords t 1).val, 0] ∧
    win0_1.index t = ![0, 0] ∧ win0_2.index t = ![0, 0] ∧ win0_3.index t = ![(grid0.coords t 0).val, 0, 0] ∧
    win0_4.index t = ![0, 0] ∧ win0_5.index t = ![(grid0.coords t 0).val, (grid0.coords t 1).val, 0] :=
  (by decide +kernel : ∀ t : Fin grid0.N, _)

/-- The result array after the run is the reference's result of the argument arrays. -/
theorem final (c : Dev nD) : (dats m 0 c).arrAt 5 cfg0.N =
    Cert.CrossRefIdeal.Read.val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold_out out0_5
  frame_out
  idx_vars y
  obtain rfl : y0 = 0 := Subsingleton.elim _ _
  have g0 : (grid0.coords t 0).val < 8 := (grid0.coords t 0).isLt
  have g1 : (grid0.coords t 1).val < 8 := (grid0.coords t 1).isLt
  have e : (((View.whole main_v3).slice (win0_5.rect t)).emb (ix3 (0 : Fin 1) y1 y2)) =
      ix3 (⟨(grid0.coords t 0).val, by omega⟩ : Fin 8) (⟨(grid0.coords t 1).val * 512 + y1.val, by omega⟩ : Fin 4096) y2 := by
    blk_ext [idx t]
  refine (Cert.CrossIdeal.Block.stored_at _ _ _ _ _ _ _).trans (Eq.trans ?_ (congrArg _ e).symm)
  refine Eq.trans ?_ (Cert.CrossRefIdeal.Pure.reference_at _ _ _ _ _ _ _ _).symm
  have x0 : (fun k : Fin 1024 => (iblk m c 0 t : FVec Ideal S1x512x1024 .f32) (ix3 0 y1 k)) =
      fun k => (m ((c : Thread nD τ).loc main_arg0) : FVec Ideal S8x4096x1024 .f32)
        (ix3 (⟨(grid0.coords t 0).val, by omega⟩ : Fin 8) (⟨(grid0.coords t 1).val * 512 + y1.val, by omega⟩ : Fin 4096) k) := by
    funext k
    blk_ext [iblk, V, idx t]
  have x1 : (fun k : Fin 1024 => (iblk m c 1 t : FVec Ideal S1x1024 .f32) (ix2 0 k)) =
      fun k => (m ((c : Thread nD τ).loc main_arg1) : FVec Ideal S1024 .f32) (ix1 k) := by
    funext k
    blk_point [iblk, V, idx t]
  have x2 : (fun (k : Fin 1024) (d : Fin 512) => (iblk m c 2 t : FVec Ideal S1024x512 .bf16) (ix2 k d)) =
      fun k d => (m ((c : Thread nD τ).loc main_arg2) : FVec Ideal S1024x512 .f32) (ix2 k d) := by
    funext k d
    blk_point [iblk, V, idx t]
  have x3 : (fun (k : Fin 256) (d : Fin 1024) => (iblk m c 3 t : FVec Ideal S1x256x1024 .bf16) (ix3 0 k d)) =
      fun k d => (m ((c : Thread nD τ).loc main_arg3) : FVec Ideal S8x256x1024 .bf16)
        (ix3 (⟨(grid0.coords t 0).val, by omega⟩ : Fin 8) k d) := by
    funext k d
    blk_ext [iblk, V, idx t]
  have x4 : (fun (n : Fin 512) => (iblk m c 4 t : FVec Ideal S512x1024 .bf16) (ix2 n y2)) =
      fun n => (m ((c : Thread nD τ).loc main_arg4) : FVec Ideal S512x1024 .f32) (ix2 n y2) := by
    funext k
    blk_point [iblk, V, idx t]
  rw [x0, x1, x2, x3, x4]

end Cert.CrossIdeal.Final
end
-- ==== Proof.MergeMath.lean ====
module

public import proofs.«01_k».proof.Proof.CrossMath

/-!
The scalar mathematics the gated merge and its reference share.
-/

@[expose] public section

set_option maxRecDepth 16384

noncomputable section

open Idealize.ShloMosaic Idealize.ShloMosaic.TcCoe Idealize.SL.Sem

namespace Cert.MergeMath

open Cert.CrossMath

/-- The logistic function, as both programs spell it. -/
def gate (z : EReal) : EReal :=
  Ideal.div 1 (1 + Ideal.exp (-z))

/-- One merged number of a row: four gated branch projections, added up in order. -/
def merged (z0 z1 z2 z3 : EReal) (ya yb yc yd : Fin 256 → EReal) (b0 b1 b2 b3 : Fin 256 → EReal) : EReal :=
  gate z0 * (∑ k, ya k * b0 k) + gate z1 * (∑ k, yb k * b1 k) + gate z2 * (∑ k, yc k * b2 k) + gate z3 * (∑ k, yd k * b3 k)

end Cert.MergeMath
end
-- ==== Proof.MergeBlock.lean ====
module

public import proofs.«01_k».proof.Proof.Gen.MergeIdeal.Frame
public import proofs.«01_k».proof.Proof.MergeMath

/-!
What one grid step of the gated merge stores, read at one entry.
-/

@[expose] public section

set_option maxRecDepth 16384

noncomputable section

open Idealize.ShloMosaic Idealize.ShloMosaic.TcCoe Idealize.SL.Sem

namespace Cert.MergeIdeal.Block

open Cert.MergeIdeal Cert.MergeIdeal.Gen Cert.CrossMath Cert.MergeMath

/-- The first two branches, gated and added. -/
theorem first_at (z0 z1 : FVec Ideal S512x1024 .bf16) (y0 y1 : FVec Ideal S512x256 .bf16) (b0 b1 : FVec Ideal S1x256x1024 .bf16)
    (r : Fin 512) (n : Fin 1024) : k0_pay1 (F := Ideal) z0 y0 b0 z1 y1 b1 (ix2 r n) =
      gate (z0 (ix2 r n)) * (∑ k : Fin 256, y0 (ix2 r k) * b0 (ix3 0 k n)) +
        gate (z1 (ix2 r n)) * (∑ k : Fin 256, y1 (ix2 r k) * b1 (ix3 0 k n)) := by
  pointwise [k0_pay1]
  simp only [zero_sub, gate]

/-- The stored block: the input plus the merged rows times the output weights. -/
theorem joined_at (a : FVec Ideal S512x1024 .f32) (z2 z3 : FVec Ideal S512x1024 .bf16) (y2 y3 : FVec Ideal S512x256 .bf16)
    (b2 b3 : FVec Ideal S1x256x1024 .bf16) (x : FVec Ideal S512x1024 .f32) (wo : FVec Ideal S1024x1024 .bf16)
    (r : Fin 512) (j : Fin 1024) :
    k0_pay3 (F := Ideal) a (k0_pay2 z2) (Scalar.ofBits .f32 0x00000000#32) y2 b2 z3 y3 b3 x wo (ix2 r j) =
      x (ix2 r j) + ∑ n : Fin 1024, (a (ix2 r n) + gate (z2 (ix2 r n)) * (∑ k : Fin 256, y2 (ix2 r k) * b2 (ix3 0 k n)) +
        gate (z3 (ix2 r n)) * (∑ k : Fin 256, y3 (ix2 r k) * b3 (ix3 0 k n))) * wo (ix2 n j) := by
  pointwise [k0_pay3, k0_pay2]
  simp only [zero_sub, gate]

/-- What one grid step stores, at one entry. -/
theorem stored_at (z0 z1 z2 z3 : FVec Ideal S512x1024 .bf16) (ya yb yc yd : FVec Ideal S512x256 .bf16)
    (b0 b1 b2 b3 : FVec Ideal S1x256x1024 .bf16) (x : FVec Ideal S512x1024 .f32) (wo : FVec Ideal S1024x1024 .bf16)
    (r : Fin 512) (j : Fin 1024) :
    k0_pay3 (F := Ideal) (k0_pay1 z0 ya b0 z1 yb b1) (k0_pay2 z2) (Scalar.ofBits .f32 0x00000000#32) yc b2 z3 yd b3 x wo (ix2 r j) =
    x (ix2 r j) + ∑ n : Fin 1024, merged (z0 (ix2 r n)) (z1 (ix2 r n)) (z2 (ix2 r n)) (z3 (ix2 r n))
      (fun k => ya (ix2 r k)) (fun k => yb (ix2 r k)) (fun k => yc (ix2 r k)) (fun k => yd (ix2 r k))
      (fun k => b0 (ix3 0 k n)) (fun k => b1 (ix3 0 k n)) (fun k => b2 (ix3 0 k n)) (fun k => b3 (ix3 0 k n)) * wo (ix2 n j) := by
  rw [joined_at]
  simp only [first_at]
  rfl

end Cert.MergeIdeal.Block
end
-- ==== Proof.MergeRef.lean ====
module

public import proofs.«01_k».proof.Proof.Gen.MergeRefIdeal.Read
public import proofs.«01_k».proof.Proof.MergeMath

/-!
What the gated merge's reference computes, read at one entry, stage by stage.
-/

@[expose] public section

set_option maxRecDepth 16384

noncomputable section

open Idealize.ShloMosaic Idealize.ShloMosaic.TcCoe Idealize.SL.Sem

namespace Cert.MergeRefIdeal.Pure

open Cert.MergeRefIdeal Cert.MergeRefIdeal.Gen Cert.MergeRefIdeal.Read Cert.CrossMath Cert.MergeMath

variable (x : FVec Ideal S32768x1024 .f32) (ya yb yc yd : FVec Ideal S32768x256 .bf16) (p : FVec Ideal S32768x7168 .bf16)
  (wb : FVec Ideal S4x256x1024 .f32) (wo : FVec Ideal S1024x1024 .f32)

/-- The logistic function of gate 0. -/
theorem gate0_at (r : Fin 32768) (n : Fin 1024) : val_main_v16 (F := Ideal) p (ix2 r n) =
    gate (p (ix2 r ⟨3072 + n, by omega⟩)) := by
  pointwise [val_main_v16, val_main_v15, val_main_v14, val_main_v13, val_main_v12, val_main_v11, val_main_v2, val_main_v1, val_main_v0, val_main_cst_0, val_main_cst_1]
  rfl

/-- Branch 0 times its weights. -/
theorem branch0_at (ya : FVec Ideal S32768x256 .bf16) (r : Fin 32768) (n : Fin 1024) : val_main_v19 (F := Ideal) ya wb (ix2 r n) =
    ∑ k : Fin 256, ya (ix2 r k) * wb (ix3 0 k n) := by
  pointwise [val_main_v19, val_main_v18, val_main_v17, val_main_v6]

/-- The logistic function of gate 1. -/
theorem gate1_at (r : Fin 32768) (n : Fin 1024) : val_main_v27 (F := Ideal) p (ix2 r n) =
    gate (p (ix2 r ⟨4096 + n, by omega⟩)) := by
  pointwise [val_main_v27, val_main_v26, val_main_v25, val_main_v24, val_main_v23, val_main_v22, val_main_v3, val_main_v1, val_main_v0, val_main_cst_2, val_main_cst_3]
  simp only [← Nat.add_assoc, Nat.reduceAdd]
  rfl

/-- Branch 1 times its weights. -/
theorem branch1_at (yb : FVec Ideal S32768x256 .bf16) (r : Fin 32768) (n : Fin 1024) : val_main_v30 (F := Ideal) yb wb (ix2 r n) =
    ∑ k : Fin 256, yb (ix2 r k) * wb (ix3 1 k n) := by
  pointwise [val_main_v30, val_main_v29, val_main_v28, val_main_v7]

/-- The logistic function of gate 2. -/
theorem gate2_at (r : Fin 32768) (n : Fin 1024) : val_main_v38 (F := Ideal) p (ix2 r n) =
    gate (p (ix2 r ⟨5120 + n, by omega⟩)) := by
  pointwise [val_main_v38, val_main_v37, val_main_v36, val_main_v35, val_main_v34, val_main_v33, val_main_v4, val_main_v1, val_main_v0, val_main_cst_4, val_main_cst_5]
  simp only [← Nat.add_assoc, Nat.reduceAdd]
  rfl

/-- Branch 2 times its weights. -/
theorem branch2_at (yc : FVec Ideal S32768x256 .bf16) (r : Fin 32768) (n : Fin 1024) : val_main_v41 (F := Ideal) yc wb (ix2 r n) =
    ∑ k : Fin 256, yc (ix2 r k) * wb (ix3 2 k n) := by
  pointwise [val_main_v41, val_main_v40, val_main_v39, val_main_v8]

/-- The logistic function of gate 3. -/
theorem gate3_at (r : Fin 32768) (n : Fin 1024) : val_main_v49 (F := Ideal) p (ix2 r n) =
    gate (p (ix2 r ⟨6144 + n, by omega⟩)) := by
  pointwise [val_main_v49, val_main_v48, val_main_v47, val_main_v46, val_main_v45, val_main_v44, val_main_v5, val_main_v1, val_main_v0, val_main_cst_6, val_main_cst_7]
  simp only [← Nat.add_assoc, Nat.reduceAdd]
  rfl

/-- Branch 3 times its weights. -/
theorem branch3_at (yd : FVec Ideal S32768x256 .bf16) (r : Fin 32768) (n : Fin 1024) : val_main_v52 (F := Ideal) yd wb (ix2 r n) =
    ∑ k : Fin 256, yd (ix2 r k) * wb (ix3 3 k n) := by
  pointwise [val_main_v52, val_main_v51, val_main_v50, val_main_v9]

/-- The merged rows: the gated branches added up. -/
theorem merged_at (r : Fin 32768) (n : Fin 1024) : val_main_v54 (F := Ideal) ya yb yc yd p wb (ix2 r n) =
      val_main_v16 (F := Ideal) p (ix2 r n) * val_main_v19 (F := Ideal) ya wb (ix2 r n) +
      val_main_v27 (F := Ideal) p (ix2 r n) * val_main_v30 (F := Ideal) yb wb (ix2 r n) +
      val_main_v38 (F := Ideal) p (ix2 r n) * val_main_v41 (F := Ideal) yc wb (ix2 r n) +
      val_main_v49 (F := Ideal) p (ix2 r n) * val_main_v52 (F := Ideal) yd wb (ix2 r n) := by
  unfold val_main_v54 val_main_v53 val_main_v43 val_main_v42 val_main_v32 val_main_v31 val_main_v21 val_main_v20
  generalize val_main_v16 (F := Ideal) p = a0
  generalize val_main_v27 (F := Ideal) p = a1
  generalize val_main_v38 (F := Ideal) p = a2
  generalize val_main_v49 (F := Ideal) p = a3
  generalize val_main_v19 (F := Ideal) ya wb = b0
  generalize val_main_v30 (F := Ideal) yb wb = b1
  generalize val_main_v41 (F := Ideal) yc wb = b2
  generalize val_main_v52 (F := Ideal) yd wb = b3
  pointwise [val_main_v10, val_main_cst]

/-- The reference's result at one entry. -/
theorem reference_at (r : Fin 32768) (j : Fin 1024) : val_main_v56 (F := Ideal) x ya yb yc yd p wb wo (ix2 r j) =
    x (ix2 r j) + ∑ n : Fin 1024, merged (p (ix2 r ⟨3072 + n, by omega⟩)) (p (ix2 r ⟨4096 + n, by omega⟩))
      (p (ix2 r ⟨5120 + n, by omega⟩)) (p (ix2 r ⟨6144 + n, by omega⟩))
      (fun k => ya (ix2 r k)) (fun k => yb (ix2 r k)) (fun k => yc (ix2 r k)) (fun k => yd (ix2 r k))
      (fun k => wb (ix3 0 k n)) (fun k => wb (ix3 1 k n)) (fun k => wb (ix3 2 k n)) (fun k => wb (ix3 3 k n)) * wo (ix2 n j) := by
  have e : val_main_v56 (F := Ideal) x ya yb yc yd p wb wo (ix2 r j) =
      x (ix2 r j) + ∑ n : Fin 1024, val_main_v54 (F := Ideal) ya yb yc yd p wb (ix2 r n) * wo (ix2 n j) := by
    unfold val_main_v56 val_main_v55
    generalize val_main_v54 (F := Ideal) ya yb yc yd p wb = u
    pointwise
  rw [e]
  simp only [merged_at, gate0_at, gate1_at, gate2_at, gate3_at, branch0_at, branch1_at, branch2_at, branch3_at]
  rfl

end Cert.MergeRefIdeal.Pure
end
-- ==== Proof.MergeValue.lean ====
module

public import proofs.«01_k».proof.Proof.MergeBlock
public import proofs.«01_k».proof.Proof.MergeRef
public import proofs.«01_k».proof.Proof.Gen.MergeIdeal.Value
public import Idealize.ShloMosaic.Lib.Claim
public import Idealize.ShloMosaic.Lib.Pipeline.ValueKit

/-!
The gated merge's result array after the run is the reference's result: each grid step stores the
block of the reference's result that its output window covers.
-/

@[expose] public section

set_option maxRecDepth 16384

noncomputable section

open Idealize.ShloMosaic Idealize.ShloMosaic.TcCoe Idealize.SL.Sem
open Idealize.ShloMosaic.Pipeline (Dat)

namespace Cert.MergeIdeal.Final
open Cert.MergeIdeal Cert.MergeIdeal.Gen

variable (m : (ℓ : Loc nD τ sig) → Buf (Elt Ideal) ℓ)

/-- The block each window reads or writes at a grid step. -/
theorem idx : ∀ t : Fin cfg0.N, win0_0.index t = ![(grid0.coords t 0).val, 0] ∧
    win0_1.index t = ![(grid0.coords t 0).val, 0] ∧ win0_2.index t = ![(grid0.coords t 0).val, 0] ∧
    win0_3.index t = ![(grid0.coords t 0).val, 0] ∧ win0_4.index t = ![(grid0.coords t 0).val, 0] ∧
    win0_5.index t = ![(grid0.coords t 0).val, 3] ∧ win0_6.index t = ![(grid0.coords t 0).val, 4] ∧
    win0_7.index t = ![(grid0.coords t 0).val, 5] ∧ win0_8.index t = ![(grid0.coords t 0).val, 6] ∧
    win0_9.index t = ![0, 0, 0] ∧ win0_10.index t = ![0, 0] ∧ win0_11.index t = ![(grid0.coords t 0).val, 0] :=
  (by decide +kernel : ∀ t : Fin grid0.N, _)

set_option maxHeartbeats 1600000 in
/-- The result array after the run is the reference's result of the argument arrays. -/
theorem final (c : Dev nD) : (dats m 0 c).arrAt 11 cfg0.N =
    Cert.MergeRefIdeal.Read.val_main_v56 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  unfold out0_11
  frame_out
  idx_vars y
  have g0 : (grid0.coords t 0).val < 64 := (grid0.coords t 0).isLt
  have e : (((View.whole main_v2).slice (win0_11.rect t)).emb (ix2 y0 y1)) =
      ix2 (⟨(grid0.coords t 0).val * 512 + y0.val, by omega⟩ : Fin 32768) y1 := by
    blk_ext [idx t]
  refine (Cert.MergeIdeal.Block.stored_at _ _ _ _ _ _ _ _ _ _ _ _ _ _ _ _).trans (Eq.trans ?_ (congrArg _ e).symm)
  refine Eq.trans ?_ (Cert.MergeRefIdeal.Pure.reference_at _ _ _ _ _ _ _ _ _ _).symm
  have x0 : ∀ k : Fin 1024, (iblk m c 0 t : FVec Ideal S512x1024 .f32) (ix2 y0 k) =
      (m ((c : Thread nD τ).loc main_arg0) : FVec Ideal S32768x1024 .f32) (ix2 (⟨(grid0.coords t 0).val * 512 + y0.val, by omega⟩ : Fin 32768) k) := by
    intro k
    blk_ext [iblk, V, idx t]
  have x1 : ∀ k : Fin 256, (iblk m c 1 t : FVec Ideal S512x256 .bf16) (ix2 y0 k) =
      (m ((c : Thread nD τ).loc main_arg1) : FVec Ideal S32768x256 .bf16) (ix2 (⟨(grid0.coords t 0).val * 512 + y0.val, by omega⟩ : Fin 32768) k) := by
    intro k
    blk_ext [iblk, V, idx t]
  have x2 : ∀ k : Fin 256, (iblk m c 2 t : FVec Ideal S512x256 .bf16) (ix2 y0 k) =
      (m ((c : Thread nD τ).loc main_arg2) : FVec Ideal S32768x256 .bf16) (ix2 (⟨(grid0.coords t 0).val * 512 + y0.val, by omega⟩ : Fin 32768) k) := by
    intro k
    blk_ext [iblk, V, idx t]
  have x3 : ∀ k : Fin 256, (iblk m c 3 t : FVec Ideal S512x256 .bf16) (ix2 y0 k) =
      (m ((c : Thread nD τ).loc main_arg3) : FVec Ideal S32768x256 .bf16) (ix2 (⟨(grid0.coords t 0).val * 512 + y0.val, by omega⟩ : Fin 32768) k) := by
    intro k
    blk_ext [iblk, V, idx t]
  have x4 : ∀ k : Fin 256, (iblk m c 4 t : FVec Ideal S512x256 .bf16) (ix2 y0 k) =
      (m ((c : Thread nD τ).loc main_arg4) : FVec Ideal S32768x256 .bf16) (ix2 (⟨(grid0.coords t 0).val * 512 + y0.val, by omega⟩ : Fin 32768) k) := by
    intro k
    blk_ext [iblk, V, idx t]
  have g1 : ∀ n : Fin 1024, (iblk m c 5 t : FVec Ideal S512x1024 .bf16) (ix2 y0 n) =
      (m ((c : Thread nD τ).loc main_arg5) : FVec Ideal S32768x7168 .bf16) (ix2 (⟨(grid0.coords t 0).val * 512 + y0.val, by omega⟩ : Fin 32768) ⟨3072 + n, by omega⟩) := by
    intro n
    blk_ext [iblk, V, idx t]
  have g2 : ∀ n : Fin 1024, (iblk m c 6 t : FVec Ideal S512x1024 .bf16) (ix2 y0 n) =
      (m ((c : Thread nD τ).loc main_arg5) : FVec Ideal S32768x7168 .bf16) (ix2 (⟨(grid0.coords t 0).val * 512 + y0.val, by omega⟩ : Fin 32768) ⟨4096 + n, by omega⟩) := by
    intro n
    blk_ext [iblk, V, idx t]
  have g3 : ∀ n : Fin 1024, (iblk m c 7 t : FVec Ideal S512x1024 .bf16) (ix2 y0 n) =
      (m ((c : Thread nD τ).loc main_arg5) : FVec Ideal S32768x7168 .bf16) (ix2 (⟨(grid0.coords t 0).val * 512 + y0.val, by omega⟩ : Fin 32768) ⟨5120 + n, by omega⟩) := by
    intro n
    blk_ext [iblk, V, idx t]
  have g4 : ∀ n : Fin 1024, (iblk m c 8 t : FVec Ideal S512x1024 .bf16) (ix2 y0 n) =
      (m ((c : Thread nD τ).loc main_arg5) : FVec Ideal S32768x7168 .bf16) (ix2 (⟨(grid0.coords t 0).val * 512 + y0.val, by omega⟩ : Fin 32768) ⟨6144 + n, by omega⟩) := by
    intro n
    blk_ext [iblk, V, idx t]
  have b0 : ∀ (k : Fin 256) (n : Fin 1024), (View.ld (iblk m c 9 t : FVec Ideal S4x256x1024 .bf16) r0_2 : FVec Ideal S1x256x1024 .bf16) (ix3 0 k n) =
      (m ((c : Thread nD τ).loc main_arg6) : FVec Ideal S4x256x1024 .f32) (ix3 0 k n) := by
    intro k n
    blk_point [iblk, V, idx t]
  have b1 : ∀ (k : Fin 256) (n : Fin 1024), (View.ld (iblk m c 9 t : FVec Ideal S4x256x1024 .bf16) r0_3 : FVec Ideal S1x256x1024 .bf16) (ix3 0 k n) =
      (m ((c : Thread nD τ).loc main_arg6) : FVec Ideal S4x256x1024 .f32) (ix3 1 k n) := by
    intro k n
    blk_point [iblk, V, idx t]
  have b2 : ∀ (k : Fin 256) (n : Fin 1024), (View.ld (iblk m c 9 t : FVec Ideal S4x256x1024 .bf16) r0_4 : FVec Ideal S1x256x1024 .bf16) (ix3 0 k n) =
      (m ((c : Thread nD τ).loc main_arg6) : FVec Ideal S4x256x1024 .f32) (ix3 2 k n) := by
    intro k n
    blk_point [iblk, V, idx t]
  have b3 : ∀ (k : Fin 256) (n : Fin 1024), (View.ld (iblk m c 9 t : FVec Ideal S4x256x1024 .bf16) r0_5 : FVec Ideal S1x256x1024 .bf16) (ix3 0 k n) =
      (m ((c : Thread nD τ).loc main_arg6) : FVec Ideal S4x256x1024 .f32) (ix3 3 k n) := by
    intro k n
    blk_point [iblk, V, idx t]
  have x8 : ∀ n : Fin 1024, (iblk m c 10 t : FVec Ideal S1024x1024 .bf16) (ix2 n y1) =
      (m ((c : Thread nD τ).loc main_arg7) : FVec Ideal S1024x1024 .f32) (ix2 n y1) := by
    intro n
    blk_point [iblk, V, idx t]
  simp only [x0, x1, x2, x3, x4, g1, g2, g3, g4, b0, b1, b2, b3, x8]

end Cert.MergeIdeal.Final
end
-- ==== Proof.ProjectBlock.lean ====
module

public import proofs.«01_k».proof.Proof.Gen.ProjectIdeal.Frame
public import proofs.«01_k».proof.Proof.CrossMath
public import Idealize.ShloMosaic.Lib.Pointwise

/-!
What one grid step of the input projection stores, read at one entry.
-/

@[expose] public section

set_option maxRecDepth 16384

noncomputable section

open Idealize.ShloMosaic Idealize.ShloMosaic.TcCoe Idealize.SL.Sem

namespace Cert.ProjectIdeal.Block

open Cert.ProjectIdeal Cert.ProjectIdeal.Gen Cert.CrossMath

/-- The normalised rows, kept for the column blocks that follow. -/
theorem normed_at (x : FVec Ideal S1024x1024 .f32) (g : FVec Ideal S1x1024 .f32) (r k : Fin 1024) :
    k0_pay1 (F := Ideal) x g (ix2 r k) = x (ix2 r k) * scale (fun k => x (ix2 r k)) * g (ix2 0 k) := by
  pointwise [k0_pay1]
  rfl

/-- The stored block: the kept rows times a block of columns. -/
theorem stored_at (h w : FVec Ideal S1024x1024 .bf16) (r j : Fin 1024) :
    k0_pay2 (F := Ideal) h w (ix2 r j) = ∑ k : Fin 1024, h (ix2 r k) * w (ix2 k j) := by
  pointwise [k0_pay2]

end Cert.ProjectIdeal.Block
end
-- ==== Proof.ProjectRef.lean ====
module

public import proofs.«01_k».proof.Proof.Gen.ProjectRefIdeal.Read
public import proofs.«01_k».proof.Proof.CrossMath
public import Idealize.ShloMosaic.Lib.Pointwise

/-!
What the input projection's reference computes, read at one entry.
-/

@[expose] public section

set_option maxRecDepth 16384

noncomputable section

open Idealize.ShloMosaic Idealize.ShloMosaic.TcCoe Idealize.SL.Sem

namespace Cert.ProjectRefIdeal.Pure

open Cert.ProjectRefIdeal Cert.ProjectRefIdeal.Gen Cert.ProjectRefIdeal.Read Cert.CrossMath

variable (x : FVec Ideal S32768x1024 .f32) (g : FVec Ideal S1024 .f32) (w : FVec Ideal S1024x7168 .f32)

/-- The normalised rows. -/
theorem normed_at (r : Fin 32768) (k : Fin 1024) : val_main_v12 (F := Ideal) x g (ix2 r k) =
    x (ix2 r k) * scale (fun k => x (ix2 r k)) * g (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's result at one entry: the normalised row times a column. -/
theorem reference_at (r : Fin 32768) (n : Fin 7168) : val_main_v14 (F := Ideal) x g w (ix2 r n) =
    query (fun k => x (ix2 r k)) (fun k => g (ix1 k)) (fun k => w (ix2 k n)) := by
  have e : val_main_v14 (F := Ideal) x g w (ix2 r n) = ∑ k : Fin 1024, val_main_v12 (F := Ideal) x g (ix2 r k) * w (ix2 k n) := by
    unfold val_main_v14 val_main_v13
    generalize val_main_v12 (F := Ideal) x g = h
    pointwise
  rw [e]
  simp only [normed_at]
  rfl

end Cert.ProjectRefIdeal.Pure
end
-- ==== Proof.ProjectValue.lean ====
module

public import proofs.«01_k».proof.Proof.ProjectBlock
public import proofs.«01_k».proof.Proof.ProjectRef
public import proofs.«01_k».proof.Proof.Gen.ProjectIdeal.Value
public import Idealize.ShloMosaic.Lib.Claim
public import Idealize.ShloMosaic.Lib.Pipeline.ValueKit
public import Idealize.ShloMosaic.Lib.Pipeline.ReadBack

/-!
The input projection's result array after the run is the reference's result: the normalised rows are
kept from a row block's first step, and each step stores one block of columns.
-/

@[expose] public section

set_option maxRecDepth 16384

noncomputable section

open Idealize.ShloMosaic Idealize.ShloMosaic.TcCoe Idealize.SL.Sem
open Idealize.ShloMosaic.Pipeline (Dat)

namespace Cert.ProjectIdeal.Final
open Cert.ProjectIdeal Cert.ProjectIdeal.Gen Cert.CrossMath

variable (m : (ℓ : Loc nD τ sig) → Buf (Elt Ideal) ℓ)

/-- The block each window reads or writes at a grid step. -/
theorem idx : ∀ t : Fin cfg0.N, win0_0.index t = ![t.val / 7, 0] ∧ win0_1.index t = ![0, 0] ∧
    win0_2.index t = ![0, t.val % 7] ∧ win0_3.index t = ![t.val / 7, t.val % 7] :=
  (by decide +kernel : ∀ t : Fin grid0.N, _)

/-- Normalised rows of one row block: entry `k` of row `r`. -/
def rows (x : FVec Ideal S1024x1024 .f32) (g : FVec Ideal S1x1024 .f32) (r k : Fin 1024) : EReal :=
  x (ix2 r k) * scale (fun k => x (ix2 r k)) * g (ix2 0 k)

/-- The rows a step's row block reads, normalised: entry `k` of row `r`. -/
def row (c : Dev nD) (t : Fin cfg0.N) (r k : Fin 1024) : EReal := rows (iblk m c 0 t) (iblk m c 1 t) r k

/-- The reference's normalised rows of the argument arrays: entry `k` of row `r`. -/
def whole (x : FVec Ideal S32768x1024 .f32) (g : FVec Ideal S1024 .f32) (r : Fin 32768) (k : Fin 1024) : EReal :=
  x (ix2 r k) * scale (fun k => x (ix2 r k)) * g (ix1 k)

/-- A normalised row is the reference's, at the row block of the step. -/
theorem row_eq (c : Dev nD) (t : Fin cfg0.N) (r k : Fin 1024) (b : ℕ) (hb : b < 32) (h : t.val / 7 = b) : row m c t r k =
    whole (m ((c : Thread nD τ).loc main_arg0)) (m ((c : Thread nD τ).loc main_arg1)) ⟨b * 1024 + r.val, by omega⟩ k := by
  subst h
  have x0 : ∀ k : Fin 1024, (iblk m c 0 t : FVec Ideal S1024x1024 .f32) (ix2 r k) =
      (m ((c : Thread nD τ).loc main_arg0) : FVec Ideal S32768x1024 .f32) (ix2 ⟨t.val / 7 * 1024 + r.val, by omega⟩ k) := by
    intro k
    blk_ext [iblk, V, idx t]
  have x1 : (iblk m c 1 t : FVec Ideal S1x1024 .f32) (ix2 0 k) = (m ((c : Thread nD τ).loc main_arg1) : FVec Ideal S1024 .f32) (ix1 k) := by
    blk_point [iblk, V, idx t]
  unfold row rows whole
  rw [x1]
  simp only [x0]

/-- What the kept rows hold after a step: the normalised rows of the step's row block. -/
theorem kept (c : Dev nD) (r k : Fin 1024) : ∀ (n : ℕ) (h : n < cfg0.N), (outsAt0 m c n h).2 (ix2 r k) = row m c ⟨n, h⟩ r k := by
  intro n
  induction n with
  | zero =>
    intro h
    rw [outsAt0_A m c ⟨0, h⟩ rfl]
    frame_out
    exact Block.normed_at _ _ _ _
  | succ n ih =>
    intro h
    have hN : n + 1 < 224 := lt_of_lt_of_eq h N_0
    by_cases h0 : (n + 1) % 7 = 0
    · rw [outsAt0_A m c ⟨n + 1, h⟩ h0]
      frame_out
      exact Block.normed_at _ _ _ _
    · rw [outsAt0_B m c ⟨n + 1, h⟩ h0]
      have e : (outsAt0 m c n (by omega)).2 (ix2 r k) = row m c ⟨n, by omega⟩ r k := ih (by omega)
      unfold sout0_B_0
      refine e.trans ?_
      rw [row_eq m c ⟨n, by omega⟩ r k (n / 7) (by omega) rfl, row_eq m c ⟨n + 1, h⟩ r k (n / 7) (by omega) (by dsimp only; omega)]

/-- What a step leaves to be stored: its row block's normalised rows times its block of columns. -/
theorem left (c : Dev nD) (t : Fin cfg0.N) (r j : Fin 1024) : (outsAt0 m c t.val t.isLt).1 (ix2 r j) =
    ∑ k : Fin 1024, row m c t r k * (iblk m c 2 t : FVec Ideal S1024x1024 .bf16) (ix2 k j) := by
  by_cases h0 : t.val % 7 = 0
  · rw [outsAt0_A m c t h0]
    frame_out
    refine (Block.stored_at _ _ _ _).trans (Finset.sum_congr rfl fun k _ => congrArg (· * _) ?_)
    exact Block.normed_at _ _ _ _
  · have hN : t.val < 224 := lt_of_lt_of_eq t.isLt N_0
    rw [outsAt0_B m c t h0]
    frame_out
    refine (Block.stored_at _ _ _ _).trans (Finset.sum_congr rfl fun k _ => congrArg (· * _) ?_)
    rw [read_unread_whole]
    refine (kept m c r k (t.val - 1) _).trans ?_
    rw [row_eq m c ⟨t.val - 1, by omega⟩ r k (t.val / 7) (by omega) (by dsimp only; omega), row_eq m c t r k (t.val / 7) (by omega) rfl]

/-- The result array after the run is the reference's result of the argument arrays. -/
theorem final (c : Dev nD) : (dats m 0 c).arrAt 3 cfg0.N =
    Cert.ProjectRefIdeal.Read.val_main_v14 (F := Ideal) (m ((c : Thread nD τ).loc main_arg0)) (m ((c : Thread nD τ).loc main_arg1))
      (m ((c : Thread nD τ).loc main_arg2)) := by
  refine (dats m 0 c).arrAt_eq_of_covers 3 _ (by decide +kernel) fun t _ y => ?_
  have hN : t.val < 224 := lt_of_lt_of_eq t.isLt N_0
  blk_simp
  rw [after0_3]
  idx_vars y
  have e : (((View.whole main_v2).slice (win0_3.rect t)).emb (ix2 y0 y1)) =
      ix2 (⟨t.val / 7 * 1024 + y0.val, by omega⟩ : Fin 32768) (⟨t.val % 7 * 1024 + y1.val, by omega⟩ : Fin 7168) := by
    blk_ext [idx t]
  refine (left m c t _ _).trans (Eq.trans ?_ (congrArg _ e).symm)
  refine Eq.trans ?_ (Cert.ProjectRefIdeal.Pure.reference_at _ _ _ _ _).symm
  refine Finset.sum_congr rfl fun k _ => congrArg₂ (· * ·) (row_eq m c t y0 k (t.val / 7) (by omega) rfl) ?_
  blk_point [iblk, V, idx t]

end Cert.ProjectIdeal.Final
end
-- ==== Proof.ExpertsMath.lean ====
module

public import proofs.«01_k».proof.Proof.CrossMath

/-!
The scalar mathematics the experts and their reference share, over the extended reals: one expert's
gated hidden number, its weighted contribution, and the normalisation of a finished row.
-/

@[expose] public section

noncomputable section

open Idealize.ShloMosaic Idealize.SL.Sem

namespace Cert.ExpertsMath

open Cert.CrossMath

/-- A number times its logistic function. -/
def silu (z : EReal) : EReal := z * Ideal.div 1 (1 + Ideal.exp (-z))

/-- One hidden number of an expert: the gate's product through `silu`, times the other product. -/
def hidden (h wg wu : Fin 1024 → EReal) : EReal := silu (∑ k, h k * wg k) * ∑ k, h k * wu k

/-- One expert's contribution to one output number: its weight times its hidden row against a column of
the way back. -/
def part (w : EReal) (h : Fin 1024 → EReal) (wg wu : Fin 1024 → Fin 512 → EReal) (wd : Fin 512 → EReal) : EReal :=
  w * ∑ f, hidden h (fun k => wg k f) (fun k => wu k f) * wd f

/-- A nonnegative finite weight may multiply every hidden number instead of the finished sum. -/
theorem part_eq (w : EReal) (h0 : 0 ≤ w) (h1 : w ≠ ⊤) (h : Fin 1024 → EReal) (wg wu : Fin 1024 → Fin 512 → EReal)
    (wd : Fin 512 → EReal) :
    ∑ f, hidden h (fun k => wg k f) (fun k => wu k f) * w * wd f = part w h wg wu wd := by
  rw [part, mul_comm, sum_mul_of_nonneg _ _ h0 h1]
  exact Finset.sum_congr rfl fun f _ => mul_right_comm _ _ _

/-- One entry of a row over its root mean square, times its gain. -/
def normed (x g : Fin 1024 → EReal) (j : Fin 1024) : EReal := x j * scale x * g j

end Cert.ExpertsMath
end
-- ==== Proof.ExpertsBlock.lean ====
module

public import proofs.«01_k».proof.Proof.Gen.ExpertsIdeal.Frame
public import proofs.«01_k».proof.Proof.ExpertsMath
public import Idealize.ShloMosaic.Lib.Pointwise

/-!
What one grid step of the experts computes, read at one entry.
-/

@[expose] public section

set_option maxRecDepth 16384

noncomputable section

open Idealize.ShloMosaic Idealize.ShloMosaic.TcCoe Idealize.SL.Sem

namespace Cert.ExpertsIdeal.Block

open Cert.ExpertsIdeal Cert.ExpertsIdeal.Gen Cert.CrossMath Cert.ExpertsMath

/-- Adding up a row of weights masked to one position leaves the weight at that position. -/
theorem weight_at (w : Fin 128 → EReal) (e : ℕ) (h : e < 16) :
    ∑ l : Fin 128, Scalar.select (IntOp.cmpi CmpIPredicate.eq (BitVec.ofNat 32 l.val) (BitVec.ofNat 32 e)) (w l) (0 : EReal) =
      w ⟨e, lt_trans h (by decide)⟩ := by
  rw [Finset.sum_eq_single (⟨e, lt_trans h (by decide)⟩ : Fin 128)]
  · simp [Scalar.select, IntOp.cmpi]
  · intro l _ hl
    have n : ¬ (BitVec.ofNat 32 l.val = BitVec.ofNat 32 e) := fun q => hl (Fin.ext (by
      have := congrArg BitVec.toNat q
      simp only [BitVec.toNat_ofNat] at this
      have := l.isLt
      show l.val = e
      omega))
    simp [Scalar.select, IntOp.cmpi, beq_eq_false_iff_ne.2 n]
  · exact fun h => absurd (Finset.mem_univ _) h

/-- The hidden numbers of a block, each already times the token's weight for the step's expert. -/
theorem hidden_at (i : grid0.Coords) (h : FVec Ideal S1024x1024 .bf16) (wg wu : FVec Ideal S1x1024x512 .bf16)
    (w : FVec Ideal S1024x128 .f32) (r : Fin 1024) (f : Fin 512) : k0_pay4 (F := Ideal) i h wg wu w (ix2 r f) =
      hidden (fun k => h (ix2 r k)) (fun k => wg (ix3 0 k f)) (fun k => wu (ix3 0 k f)) *
        w (ix2 r ⟨(i 1).val, lt_trans (i 1).isLt (by decide)⟩) := by
  pointwise [k0_pay4]
  rw [weight_at (fun l => w (ix2 r l)) (i 1).val (i 1).isLt]
  simp only [zero_sub]
  rfl

/-- The accumulator's next contents: its contents plus the block's product. -/
theorem added_at (a : FVec Ideal S1024x1024 .f32) (b : FVec Ideal S1024x512 .bf16) (d : FVec Ideal S1x512x1024 .bf16)
    (r j : Fin 1024) : k0_pay1 (F := Ideal) a b (k0_pay5 (F := Ideal) d) (ix2 r j) =
      a (ix2 r j) + ∑ f : Fin 512, b (ix2 r f) * d (ix3 0 f j) := by
  pointwise [k0_pay1, k0_pay5]

/-- The accumulator starts from the block of the input. -/
theorem start_eq (x : FVec Ideal S1024x1024 .f32) (y) : k0_pay3 (F := Ideal) x y = x y := by
  pointwise [k0_pay3]

/-- The stored block: the accumulated rows, normalised. -/
theorem stored_at (a : FVec Ideal S1024x1024 .f32) (g : FVec Ideal S1x1024 .f32) (r j : Fin 1024) :
    k0_pay2 (F := Ideal) a g (ix2 r j) = normed (fun k => a (ix2 r k)) (fun k => g (ix2 0 k)) j := by
  pointwise [k0_pay2]
  rfl

end Cert.ExpertsIdeal.Block
end
-- ==== Proof.ExpertsRef.lean ====
module

public import proofs.«01_k».proof.Proof.Gen.ExpertsRefIdeal.Read
public import proofs.«01_k».proof.Proof.ExpertsMath
public import Idealize.ShloMosaic.Lib.Pointwise

/-!
What the experts' reference computes, read at one entry, expert by expert.
-/

@[expose] public section

set_option maxRecDepth 16384

noncomputable section

open Idealize.ShloMosaic Idealize.ShloMosaic.TcCoe Idealize.SL.Sem

namespace Cert.ExpertsRefIdeal.Pure

open Cert.ExpertsRefIdeal Cert.ExpertsRefIdeal.Gen Cert.ExpertsRefIdeal.Read Cert.CrossMath Cert.ExpertsMath

variable (x : FVec Ideal S32768x1024 .f32) (h : FVec Ideal S32768x1024 .bf16) (w : FVec Ideal S32768x128 .f32)
  (wg wu : FVec Ideal S16x1024x512 .f32) (wd : FVec Ideal S16x512x1024 .f32) (g : FVec Ideal S1024 .f32)

/-- The contribution of expert 0. -/
theorem part0_at (r : Fin 32768) (j : Fin 1024) : val_main_v15 (F := Ideal) h w wg wu wd (ix2 r j) =
    part (w (ix2 r 0)) (fun k => h (ix2 r k)) (fun k f => wg (ix3 0 k f)) (fun k f => wu (ix3 0 k f)) (fun f => wd (ix3 0 f j)) := by
  pointwise [val_main_v15, val_main_v14, val_main_v13, val_main_v12, val_main_v11, val_main_v10, val_main_v9, val_main_v8, val_main_v7, val_main_v6, val_main_v5, val_main_call0_v5, val_main_call0_v4, val_main_call0_cst_0, val_main_call0_v3, val_main_call0_v2, val_main_call0_cst, val_main_call0_v1, val_main_call0_v0, val_main_v4, val_main_v3, val_main_v2, val_main_v0]
  rfl

/-- The contribution of expert 1. -/
theorem part1_at (r : Fin 32768) (j : Fin 1024) : val_main_v30 (F := Ideal) h w wg wu wd (ix2 r j) =
    part (w (ix2 r 1)) (fun k => h (ix2 r k)) (fun k f => wg (ix3 1 k f)) (fun k f => wu (ix3 1 k f)) (fun f => wd (ix3 1 f j)) := by
  pointwise [val_main_v30, val_main_v29, val_main_v28, val_main_v27, val_main_v26, val_main_v25, val_main_v24, val_main_v23, val_main_v22, val_main_v21, val_main_v20, val_main_call1_v5, val_main_call1_v4, val_main_call1_cst_0, val_main_call1_v3, val_main_call1_v2, val_main_call1_cst, val_main_call1_v1, val_main_call1_v0, val_main_v19, val_main_v18, val_main_v17, val_main_v0]
  rfl

/-- The contribution of expert 2. -/
theorem part2_at (r : Fin 32768) (j : Fin 1024) : val_main_v45 (F := Ideal) h w wg wu wd (ix2 r j) =
    part (w (ix2 r 2)) (fun k => h (ix2 r k)) (fun k f => wg (ix3 2 k f)) (fun k f => wu (ix3 2 k f)) (fun f => wd (ix3 2 f j)) := by
  pointwise [val_main_v45, val_main_v44, val_main_v43, val_main_v42, val_main_v41, val_main_v40, val_main_v39, val_main_v38, val_main_v37, val_main_v36, val_main_v35, val_main_call2_v5, val_main_call2_v4, val_main_call2_cst_0, val_main_call2_v3, val_main_call2_v2, val_main_call2_cst, val_main_call2_v1, val_main_call2_v0, val_main_v34, val_main_v33, val_main_v32, val_main_v0]
  rfl

/-- The contribution of expert 3. -/
theorem part3_at (r : Fin 32768) (j : Fin 1024) : val_main_v60 (F := Ideal) h w wg wu wd (ix2 r j) =
    part (w (ix2 r 3)) (fun k => h (ix2 r k)) (fun k f => wg (ix3 3 k f)) (fun k f => wu (ix3 3 k f)) (fun f => wd (ix3 3 f j)) := by
  pointwise [val_main_v60, val_main_v59, val_main_v58, val_main_v57, val_main_v56, val_main_v55, val_main_v54, val_main_v53, val_main_v52, val_main_v51, val_main_v50, val_main_call3_v5, val_main_call3_v4, val_main_call3_cst_0, val_main_call3_v3, val_main_call3_v2, val_main_call3_cst, val_main_call3_v1, val_main_call3_v0, val_main_v49, val_main_v48, val_main_v47, val_main_v0]
  rfl

/-- The contribution of expert 4. -/
theorem part4_at (r : Fin 32768) (j : Fin 1024) : val_main_v75 (F := Ideal) h w wg wu wd (ix2 r j) =
    part (w (ix2 r 4)) (fun k => h (ix2 r k)) (fun k f => wg (ix3 4 k f)) (fun k f => wu (ix3 4 k f)) (fun f => wd (ix3 4 f j)) := by
  pointwise [val_main_v75, val_main_v74, val_main_v73, val_main_v72, val_main_v71, val_main_v70, val_main_v69, val_main_v68, val_main_v67, val_main_v66, val_main_v65, val_main_call4_v5, val_main_call4_v4, val_main_call4_cst_0, val_main_call4_v3, val_main_call4_v2, val_main_call4_cst, val_main_call4_v1, val_main_call4_v0, val_main_v64, val_main_v63, val_main_v62, val_main_v0]
  rfl

/-- The contribution of expert 5. -/
theorem part5_at (r : Fin 32768) (j : Fin 1024) : val_main_v90 (F := Ideal) h w wg wu wd (ix2 r j) =
    part (w (ix2 r 5)) (fun k => h (ix2 r k)) (fun k f => wg (ix3 5 k f)) (fun k f => wu (ix3 5 k f)) (fun f => wd (ix3 5 f j)) := by
  pointwise [val_main_v90, val_main_v89, val_main_v88, val_main_v87, val_main_v86, val_main_v85, val_main_v84, val_main_v83, val_main_v82, val_main_v81, val_main_v80, val_main_call5_v5, val_main_call5_v4, val_main_call5_cst_0, val_main_call5_v3, val_main_call5_v2, val_main_call5_cst, val_main_call5_v1, val_main_call5_v0, val_main_v79, val_main_v78, val_main_v77, val_main_v0]
  rfl

/-- The contribution of expert 6. -/
theorem part6_at (r : Fin 32768) (j : Fin 1024) : val_main_v105 (F := Ideal) h w wg wu wd (ix2 r j) =
    part (w (ix2 r 6)) (fun k => h (ix2 r k)) (fun k f => wg (ix3 6 k f)) (fun k f => wu (ix3 6 k f)) (fun f => wd (ix3 6 f j)) := by
  pointwise [val_main_v105, val_main_v104, val_main_v103, val_main_v102, val_main_v101, val_main_v100, val_main_v99, val_main_v98, val_main_v97, val_main_v96, val_main_v95, val_main_call6_v5, val_main_call6_v4, val_main_call6_cst_0, val_main_call6_v3, val_main_call6_v2, val_main_call6_cst, val_main_call6_v1, val_main_call6_v0, val_main_v94, val_main_v93, val_main_v92, val_main_v0]
  rfl

/-- The contribution of expert 7. -/
theorem part7_at (r : Fin 32768) (j : Fin 1024) : val_main_v120 (F := Ideal) h w wg wu wd (ix2 r j) =
    part (w (ix2 r 7)) (fun k => h (ix2 r k)) (fun k f => wg (ix3 7 k f)) (fun k f => wu (ix3 7 k f)) (fun f => wd (ix3 7 f j)) := by
  pointwise [val_main_v120, val_main_v119, val_main_v118, val_main_v117, val_main_v116, val_main_v115, val_main_v114, val_main_v113, val_main_v112, val_main_v111, val_main_v110, val_main_call7_v5, val_main_call7_v4, val_main_call7_cst_0, val_main_call7_v3, val_main_call7_v2, val_main_call7_cst, val_main_call7_v1, val_main_call7_v0, val_main_v109, val_main_v108, val_main_v107, val_main_v0]
  rfl

/-- The contribution of expert 8. -/
theorem part8_at (r : Fin 32768) (j : Fin 1024) : val_main_v135 (F := Ideal) h w wg wu wd (ix2 r j) =
    part (w (ix2 r 8)) (fun k => h (ix2 r k)) (fun k f => wg (ix3 8 k f)) (fun k f => wu (ix3 8 k f)) (fun f => wd (ix3 8 f j)) := by
  pointwise [val_main_v135, val_main_v134, val_main_v133, val_main_v132, val_main_v131, val_main_v130, val_main_v129, val_main_v128, val_main_v127, val_main_v126, val_main_v125, val_main_call8_v5, val_main_call8_v4, val_main_call8_cst_0, val_main_call8_v3, val_main_call8_v2, val_main_call8_cst, val_main_call8_v1, val_main_call8_v0, val_main_v124, val_main_v123, val_main_v122, val_main_v0]
  rfl

/-- The contribution of expert 9. -/
theorem part9_at (r : Fin 32768) (j : Fin 1024) : val_main_v150 (F := Ideal) h w wg wu wd (ix2 r j) =
    part (w (ix2 r 9)) (fun k => h (ix2 r k)) (fun k f => wg (ix3 9 k f)) (fun k f => wu (ix3 9 k f)) (fun f => wd (ix3 9 f j)) := by
  pointwise [val_main_v150, val_main_v149, val_main_v148, val_main_v147, val_main_v146, val_main_v145, val_main_v144, val_main_v143, val_main_v142, val_main_v141, val_main_v140, val_main_call9_v5, val_main_call9_v4, val_main_call9_cst_0, val_main_call9_v3, val_main_call9_v2, val_main_call9_cst, val_main_call9_v1, val_main_call9_v0, val_main_v139, val_main_v138, val_main_v137, val_main_v0]
  rfl

/-- The contribution of expert 10. -/
theorem part10_at (r : Fin 32768) (j : Fin 1024) : val_main_v165 (F := Ideal) h w wg wu wd (ix2 r j) =
    part (w (ix2 r 10)) (fun k => h (ix2 r k)) (fun k f => wg (ix3 10 k f)) (fun k f => wu (ix3 10 k f)) (fun f => wd (ix3 10 f j)) := by
  pointwise [val_main_v165, val_main_v164, val_main_v163, val_main_v162, val_main_v161, val_main_v160, val_main_v159, val_main_v158, val_main_v157, val_main_v156, val_main_v155, val_main_call10_v5, val_main_call10_v4, val_main_call10_cst_0, val_main_call10_v3, val_main_call10_v2, val_main_call10_cst, val_main_call10_v1, val_main_call10_v0, val_main_v154, val_main_v153, val_main_v152, val_main_v0]
  rfl

/-- The contribution of expert 11. -/
theorem part11_at (r : Fin 32768) (j : Fin 1024) : val_main_v180 (F := Ideal) h w wg wu wd (ix2 r j) =
    part (w (ix2 r 11)) (fun k => h (ix2 r k)) (fun k f => wg (ix3 11 k f)) (fun k f => wu (ix3 11 k f)) (fun f => wd (ix3 11 f j)) := by
  pointwise [val_main_v180, val_main_v179, val_main_v178, val_main_v177, val_main_v176, val_main_v175, val_main_v174, val_main_v173, val_main_v172, val_main_v171, val_main_v170, val_main_call11_v5, val_main_call11_v4, val_main_call11_cst_0, val_main_call11_v3, val_main_call11_v2, val_main_call11_cst, val_main_call11_v1, val_main_call11_v0, val_main_v169, val_main_v168, val_main_v167, val_main_v0]
  rfl

/-- The contribution of expert 12. -/
theorem part12_at (r : Fin 32768) (j : Fin 1024) : val_main_v195 (F := Ideal) h w wg wu wd (ix2 r j) =
    part (w (ix2 r 12)) (fun k => h (ix2 r k)) (fun k f => wg (ix3 12 k f)) (fun k f => wu (ix3 12 k f)) (fun f => wd (ix3 12 f j)) := by
  pointwise [val_main_v195, val_main_v194, val_main_v193, val_main_v192, val_main_v191, val_main_v190, val_main_v189, val_main_v188, val_main_v187, val_main_v186, val_main_v185, val_main_call12_v5, val_main_call12_v4, val_main_call12_cst_0, val_main_call12_v3, val_main_call12_v2, val_main_call12_cst, val_main_call12_v1, val_main_call12_v0, val_main_v184, val_main_v183, val_main_v182, val_main_v0]
  rfl

/-- The contribution of expert 13. -/
theorem part13_at (r : Fin 32768) (j : Fin 1024) : val_main_v210 (F := Ideal) h w wg wu wd (ix2 r j) =
    part (w (ix2 r 13)) (fun k => h (ix2 r k)) (fun k f => wg (ix3 13 k f)) (fun k f => wu (ix3 13 k f)) (fun f => wd (ix3 13 f j)) := by
  pointwise [val_main_v210, val_main_v209, val_main_v208, val_main_v207, val_main_v206, val_main_v205, val_main_v204, val_main_v203, val_main_v202, val_main_v201, val_main_v200, val_main_call13_v5, val_main_call13_v4, val_main_call13_cst_0, val_main_call13_v3, val_main_call13_v2, val_main_call13_cst, val_main_call13_v1, val_main_call13_v0, val_main_v199, val_main_v198, val_main_v197, val_main_v0]
  rfl

/-- The contribution of expert 14. -/
theorem part14_at (r : Fin 32768) (j : Fin 1024) : val_main_v225 (F := Ideal) h w wg wu wd (ix2 r j) =
    part (w (ix2 r 14)) (fun k => h (ix2 r k)) (fun k f => wg (ix3 14 k f)) (fun k f => wu (ix3 14 k f)) (fun f => wd (ix3 14 f j)) := by
  pointwise [val_main_v225, val_main_v224, val_main_v223, val_main_v222, val_main_v221, val_main_v220, val_main_v219, val_main_v218, val_main_v217, val_main_v216, val_main_v215, val_main_call14_v5, val_main_call14_v4, val_main_call14_cst_0, val_main_call14_v3, val_main_call14_v2, val_main_call14_cst, val_main_call14_v1, val_main_call14_v0, val_main_v214, val_main_v213, val_main_v212, val_main_v0]
  rfl

/-- The contribution of expert 15. -/
theorem part15_at (r : Fin 32768) (j : Fin 1024) : val_main_v240 (F := Ideal) h w wg wu wd (ix2 r j) =
    part (w (ix2 r 15)) (fun k => h (ix2 r k)) (fun k f => wg (ix3 15 k f)) (fun k f => wu (ix3 15 k f)) (fun f => wd (ix3 15 f j)) := by
  pointwise [val_main_v240, val_main_v239, val_main_v238, val_main_v237, val_main_v236, val_main_v235, val_main_v234, val_main_v233, val_main_v232, val_main_v231, val_main_v230, val_main_call15_v5, val_main_call15_v4, val_main_call15_cst_0, val_main_call15_v3, val_main_call15_v2, val_main_call15_cst, val_main_call15_v1, val_main_call15_v0, val_main_v229, val_main_v228, val_main_v227, val_main_v0]
  rfl

/-- The sixteen contributions, added up. -/
theorem total_at (r : Fin 32768) (j : Fin 1024) : val_main_v241 (F := Ideal) h w wg wu wd (ix2 r j) =
    ∑ e : Fin 16, part (w (ix2 r ⟨e, by omega⟩)) (fun k => h (ix2 r k)) (fun k f => wg (ix3 e k f)) (fun k f => wu (ix3 e k f)) (fun f => wd (ix3 e f j)) := by
  simp only [Fin.sum_univ_castSucc, Fin.sum_univ_zero, zero_add]
  refine Eq.trans ?_ (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (part0_at h w wg wu wd r j) (part1_at h w wg wu wd r j)) (part2_at h w wg wu wd r j)) (part3_at h w wg wu wd r j)) (part4_at h w wg wu wd r j)) (part5_at h w wg wu wd r j)) (part6_at h w wg wu wd r j)) (part7_at h w wg wu wd r j)) (part8_at h w wg wu wd r j)) (part9_at h w wg wu wd r j)) (part10_at h w wg wu wd r j)) (part11_at h w wg wu wd r j)) (part12_at h w wg wu wd r j)) (part13_at h w wg wu wd r j)) (part14_at h w wg wu wd r j)) (part15_at h w wg wu wd r j))
  unfold val_main_v241 val_main_v226 val_main_v211 val_main_v196 val_main_v181 val_main_v166 val_main_v151 val_main_v136 val_main_v121 val_main_v106 val_main_v91 val_main_v76 val_main_v61 val_main_v46 val_main_v31 val_main_v16
  generalize val_main_v15 (F := Ideal) h w wg wu wd = p0
  generalize val_main_v30 (F := Ideal) h w wg wu wd = p1
  generalize val_main_v45 (F := Ideal) h w wg wu wd = p2
  generalize val_main_v60 (F := Ideal) h w wg wu wd = p3
  generalize val_main_v75 (F := Ideal) h w wg wu wd = p4
  generalize val_main_v90 (F := Ideal) h w wg wu wd = p5
  generalize val_main_v105 (F := Ideal) h w wg wu wd = p6
  generalize val_main_v120 (F := Ideal) h w wg wu wd = p7
  generalize val_main_v135 (F := Ideal) h w wg wu wd = p8
  generalize val_main_v150 (F := Ideal) h w wg wu wd = p9
  generalize val_main_v165 (F := Ideal) h w wg wu wd = p10
  generalize val_main_v180 (F := Ideal) h w wg wu wd = p11
  generalize val_main_v195 (F := Ideal) h w wg wu wd = p12
  generalize val_main_v210 (F := Ideal) h w wg wu wd = p13
  generalize val_main_v225 (F := Ideal) h w wg wu wd = p14
  generalize val_main_v240 (F := Ideal) h w wg wu wd = p15
  pointwise [val_main_v1, val_main_cst]

/-- The reference's result at one entry: the input plus the contributions, normalised over its row. -/
theorem reference_at (r : Fin 32768) (j : Fin 1024) : val_main_v255 (F := Ideal) x h w wg wu wd g (ix2 r j) =
    normed (fun k => x (ix2 r k) + ∑ e : Fin 16, part (w (ix2 r ⟨e, by omega⟩)) (fun k => h (ix2 r k)) (fun k f => wg (ix3 e k f)) (fun k f => wu (ix3 e k f)) (fun f => wd (ix3 e f k)))
      (fun k => g (ix1 k)) j := by
  simp only [← total_at]
  unfold val_main_v255 val_main_v252 val_main_v251 val_main_v250 val_main_v249 val_main_v247 val_main_v245 val_main_v244 val_main_v243 val_main_v242
  generalize val_main_v241 (F := Ideal) h w wg wu wd = y
  pointwise [val_main_v254, val_main_v253, val_main_v248, val_main_v246, val_main_cst_0, val_main_cst_1, val_main_cst_2]
  rfl

end Cert.ExpertsRefIdeal.Pure
end
-- ==== Proof.ExpertsValue.lean ====
module

public import proofs.«01_k».proof.Proof.ExpertsBlock
public import proofs.«01_k».proof.Proof.ExpertsRef
public import proofs.«01_k».proof.Proof.Gen.ExpertsIdeal.Value
public import proofs.«01_k».proof.Proof.Gen.Pre_finite_weights
public import Idealize.ShloMosaic.Lib.Claim
public import Idealize.ShloMosaic.Lib.Pipeline.ValueKit
public import Idealize.ShloMosaic.Lib.Pipeline.ReadBack

/-!
The experts' result array after the run is the reference's result: a row block's sixteen steps add one
expert's contribution each to the rows of the input, and the last step stores the normalised rows.
-/

@[expose] public section

set_option maxRecDepth 16384

noncomputable section

open Idealize.ShloMosaic Idealize.ShloMosaic.TcCoe Idealize.SL.Sem
open Idealize.ShloMosaic.Pipeline (Dat)

namespace Cert.ExpertsIdeal.Final
open Cert.ExpertsIdeal Cert.ExpertsIdeal.Gen Cert.CrossMath Cert.ExpertsMath

variable (m : (ℓ : Loc nD τ sig) → Buf (Elt Ideal) ℓ)

/-- The block each window reads or writes at a grid step. -/
theorem idx : ∀ t : Fin cfg0.N, win0_0.index t = ![t.val / 16, 0] ∧ win0_1.index t = ![t.val / 16, 0] ∧
    win0_2.index t = ![t.val / 16, 0] ∧ win0_3.index t = ![t.val % 16, 0, 0] ∧ win0_4.index t = ![t.val % 16, 0, 0] ∧
    win0_5.index t = ![t.val % 16, 0, 0] ∧ win0_6.index t = ![0, 0] ∧ win0_7.index t = ![t.val / 16, 0] :=
  (by decide +kernel : ∀ t : Fin grid0.N, _)

/-- The expert of a grid step. -/
theorem expert : ∀ t : Fin cfg0.N, (grid0.coords t 1).val = t.val % 16 :=
  (by decide +kernel : ∀ t : Fin grid0.N, _)

/-- What a step adds to the accumulator, at one entry: its block's weighted hidden numbers times its way back. -/
def added (c : Dev nD) (t : Fin cfg0.N) (r j : Fin 1024) : EReal :=
  ∑ f : Fin 512, hidden (fun k => (iblk m c 1 t : FVec Ideal S1024x1024 .bf16) (ix2 r k)) (fun k => (iblk m c 3 t : FVec Ideal S1x1024x512 .bf16) (ix3 0 k f))
    (fun k => (iblk m c 4 t : FVec Ideal S1x1024x512 .bf16) (ix3 0 k f)) *
      (iblk m c 2 t : FVec Ideal S1024x128 .f32) (ix2 r ⟨(grid0.coords t 1).val, lt_trans (grid0.coords t 1).isLt (by decide)⟩) *
      (iblk m c 5 t : FVec Ideal S1x512x1024 .bf16) (ix3 0 f j)

/-- One expert's contribution to one entry of the reference's sum, over the argument arrays. -/
def whole (h : FVec Ideal S32768x1024 .bf16) (w : FVec Ideal S32768x128 .f32) (wg wu : FVec Ideal S16x1024x512 .f32)
    (wd : FVec Ideal S16x512x1024 .f32) (r : Fin 32768) (j : Fin 1024) (e : Fin 16) : EReal :=
  part (w (ix2 r ⟨e.val, by omega⟩)) (fun k => h (ix2 r k)) (fun k f => wg (ix3 e k f)) (fun k f => wu (ix3 e k f)) (fun f => wd (ix3 e f j))

/-- The row block a step reads of the input, at one entry. -/
def rowsIn (c : Dev nD) (t : Fin cfg0.N) (r j : Fin 1024) : EReal := (iblk m c 0 t : FVec Ideal S1024x1024 .f32) (ix2 r j)

/-- The first step of a row block starts the accumulator from the rows of the input. -/
theorem first (c : Dev nD) (t : Fin cfg0.N) (h0 : t.val % 16 = 0) (r j : Fin 1024) : (outsAt0 m c t.val t.isLt).2 (ix2 r j) =
    rowsIn m c t r j + added m c t r j := by
  rw [outsAt0_A m c t h0 (by omega)]
  frame_out
  refine (Block.added_at _ _ _ _ _).trans ?_
  simp only [Block.start_eq, Block.hidden_at]
  rfl

/-- Every other step adds to what the step before left. -/
theorem next (c : Dev nD) (t : Fin cfg0.N) (h0 : ¬t.val % 16 = 0) (r j : Fin 1024) : (outsAt0 m c t.val t.isLt).2 (ix2 r j) =
    (outsAt0 m c (t.val - 1) (Nat.lt_of_le_of_lt (Nat.sub_le _ _) t.isLt)).2 (ix2 r j) + added m c t r j := by
  by_cases h1 : t.val % 16 = 15
  · rw [outsAt0_C m c t h0 h1]
    frame_out
    refine (Block.added_at _ _ _ _ _).trans ?_
    simp only [Block.hidden_at, read_unread_whole]
    rfl
  · rw [outsAt0_B m c t h0 h1]
    frame_out
    refine (Block.added_at _ _ _ _ _).trans ?_
    simp only [Block.hidden_at, read_unread_whole]
    rfl

/-- The last step of a row block leaves the accumulated rows, normalised. -/
theorem last (c : Dev nD) (t : Fin cfg0.N) (h1 : t.val % 16 = 15) (r j : Fin 1024) : (outsAt0 m c t.val t.isLt).1 (ix2 r j) =
    normed (fun k => (outsAt0 m c t.val t.isLt).2 (ix2 r k)) (fun k => (iblk m c 6 t : FVec Ideal S1x1024 .f32) (ix2 0 k)) j := by
  rw [outsAt0_C m c t (by omega) h1]
  frame_out
  exact Block.stored_at _ _ _ _

/-- What the precondition says of one weight: it is nonnegative and finite. -/
theorem weight (x : FVec Ideal S32768x1024 .f32) (h : FVec Ideal S32768x1024 .bf16) (w : FVec Ideal S32768x128 .f32)
    (wg wu : FVec Ideal S16x1024x512 .f32) (wd : FVec Ideal S16x512x1024 .f32) (g : FVec Ideal S1024 .f32)
    (hpre : Cert.Pre_finite_weights.fn (F := Ideal) x h w wg wu wd g = fun _ => 1#1) (r : Fin 32768) (e : Fin 16) :
    0 ≤ (w (ix2 r ⟨e.val, by omega⟩) : EReal) ∧ (w (ix2 r ⟨e.val, by omega⟩) : EReal) ≠ ⊤ := by
  have p := congrFun hpre (ix2 r e)
  revert p
  pointwise [Cert.Pre_finite_weights.fn]
  intro p
  by_cases a : (0 : EReal) ≤ w (ix2 r ⟨e.val, by omega⟩)
  · by_cases b : (w (ix2 r ⟨e.val, by omega⟩) : EReal) < Ideal.ofBits FTy.f32 2139095040#32
    · exact ⟨a, ne_top_of_lt b⟩
    · rw [decide_eq_false b] at p
      exact absurd p (by cases decide ((0 : EReal) ≤ w (ix2 r ⟨e.val, by omega⟩)) <;> decide)
  · rw [decide_eq_false a] at p
    exact absurd p (by cases decide ((w (ix2 r ⟨e.val, by omega⟩) : EReal) < Ideal.ofBits FTy.f32 2139095040#32) <;> decide)

/-- What the accumulator holds at the end of a row block's run: the rows of the input plus the steps' additions. -/
theorem summed (c : Dev nD) (t : Fin cfg0.N) (h1 : t.val % 16 = 15) (r j : Fin 1024) : (outsAt0 m c t.val t.isLt).2 (ix2 r j) =
    rowsIn m c t r j + ∑ s : Fin 16, added m c ⟨16 * (t.val / 16) + s.val, Idealize.ShloMosaic.Pipeline.run_point_lt_of_flush t h1 s⟩ r j := by
  have N := lt_of_lt_of_eq t.isLt N_0
  have same : ∀ u : Fin cfg0.N, u.val / 16 = t.val / 16 → rowsIn m c u r j = rowsIn m c t r j := by
    intro u hu
    unfold rowsIn
    blk_ext [iblk, V, idx t, idx u]
  have main := Idealize.ShloMosaic.Pipeline.eq_sum_fin_of_reset_step_apply_of_flush (fun n h (i : Fin 1024 × Fin 1024) => ((outsAt0 m c n h).2 (ix2 i.1 i.2) : EReal)) 16
    (fun _ => 0) (fun t i => (if t.val % 16 = 0 then rowsIn m c t i.1 i.2 else 0) + added m c t i.1 i.2)
    (fun t h i => by rw [first m c t h, if_pos h, zero_add]) (fun t h i => by rw [next m c t h, if_neg h, zero_add]) t h1 (r, j)
  refine main.trans ?_
  rw [zero_add, Finset.sum_add_distrib]
  congr 1
  rw [Finset.sum_eq_single (0 : Fin 16)]
  · dsimp only
    rw [if_pos (by simp)]
    exact same _ (by simp)
  · intro s _ hs
    have : s.val ≠ 0 := fun h => hs (Fin.ext h)
    exact if_neg (by dsimp only; omega)
  · intro h
    exact absurd (Finset.mem_univ _) h

/-- What one step adds is its expert's contribution to the step's row block, given the precondition. -/
theorem added_eq (c : Dev nD)
    (hpre : Cert.Pre_finite_weights.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1)
    (t : Fin cfg0.N) (b : ℕ) (hb : b < 32) (h : t.val / 16 = b) (e : Fin 16) (he : t.val % 16 = e.val) (r j : Fin 1024) :
    added m c t r j = whole (m ((c : Thread nD τ).loc main_arg1)) (m ((c : Thread nD τ).loc main_arg2)) (m ((c : Thread nD τ).loc main_arg3))
      (m ((c : Thread nD τ).loc main_arg4)) (m ((c : Thread nD τ).loc main_arg5)) ⟨b * 1024 + r.val, by omega⟩ j e := by
  subst h
  have N := lt_of_lt_of_eq t.isLt N_0
  have w := weight _ _ _ _ _ _ _ hpre ⟨t.val / 16 * 1024 + r.val, by omega⟩ e
  unfold whole
  rw [← part_eq _ w.1 w.2]
  have h1 : ∀ k : Fin 1024, (iblk m c 1 t : FVec Ideal S1024x1024 .bf16) (ix2 r k) =
      (m ((c : Thread nD τ).loc main_arg1) : FVec Ideal S32768x1024 .bf16) (ix2 ⟨t.val / 16 * 1024 + r.val, by omega⟩ k) := by
    intro k
    blk_ext [iblk, V, idx t]
  have h2 : (iblk m c 2 t : FVec Ideal S1024x128 .f32) (ix2 r ⟨(grid0.coords t 1).val, lt_trans (grid0.coords t 1).isLt (by decide)⟩) =
      (m ((c : Thread nD τ).loc main_arg2) : FVec Ideal S32768x128 .f32) (ix2 ⟨t.val / 16 * 1024 + r.val, by omega⟩ ⟨e.val, by omega⟩) := by
    have g : (⟨(grid0.coords t 1).val, lt_trans (grid0.coords t 1).isLt (by decide)⟩ : Fin 128) = ⟨e.val, by omega⟩ := Fin.ext ((expert t).trans he)
    rw [g]
    blk_ext [iblk, V, idx t]
  have h3 : ∀ (k : Fin 1024) (f : Fin 512), (iblk m c 3 t : FVec Ideal S1x1024x512 .bf16) (ix3 0 k f) =
      (m ((c : Thread nD τ).loc main_arg3) : FVec Ideal S16x1024x512 .f32) (ix3 e k f) := by
    intro k f
    blk_point [iblk, V, idx t]
  have h4 : ∀ (k : Fin 1024) (f : Fin 512), (iblk m c 4 t : FVec Ideal S1x1024x512 .bf16) (ix3 0 k f) =
      (m ((c : Thread nD τ).loc main_arg4) : FVec Ideal S16x1024x512 .f32) (ix3 e k f) := by
    intro k f
    blk_point [iblk, V, idx t]
  have h5 : ∀ f : Fin 512, (iblk m c 5 t : FVec Ideal S1x512x1024 .bf16) (ix3 0 f j) =
      (m ((c : Thread nD τ).loc main_arg5) : FVec Ideal S16x512x1024 .f32) (ix3 e f j) := by
    intro f
    blk_point [iblk, V, idx t]
  unfold added
  simp only [h1, h2, h3, h4, h5]

/-- The result array after the run is the reference's result of the argument arrays, given the precondition. -/
theorem final (c : Dev nD)
    (hpre : Cert.Pre_finite_weights.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    (dats m 0 c).arrAt 7 cfg0.N =
    Cert.ExpertsRefIdeal.Read.val_main_v255 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ (by decide +kernel) fun t hf y => ?_
  have N := lt_of_lt_of_eq t.isLt N_0
  have h1 : t.val % 16 = 15 := (flush0_7 t).mp hf
  blk_simp
  rw [after0_7]
  idx_vars y
  have e : (((View.whole main_v4).slice (win0_7.rect t)).emb (ix2 y0 y1)) =
      ix2 (⟨t.val / 16 * 1024 + y0.val, by omega⟩ : Fin 32768) y1 := by
    blk_ext [idx t]
  refine (last m c t h1 _ _).trans (Eq.trans ?_ (congrArg _ e).symm)
  refine Eq.trans ?_ (Cert.ExpertsRefIdeal.Pure.reference_at _ _ _ _ _ _ _ _ _).symm
  have hg : ∀ k : Fin 1024, (iblk m c 6 t : FVec Ideal S1x1024 .f32) (ix2 0 k) = (m ((c : Thread nD τ).loc main_arg6) : FVec Ideal S1024 .f32) (ix1 k) := by
    intro k
    blk_point [iblk, V, idx t]
  refine congrArg₂ (fun a b => normed a b y1) (funext fun k => ?_) (funext hg)
  refine (summed m c t h1 y0 k).trans (congrArg₂ (· + ·) ?_ (Finset.sum_congr rfl fun s _ => ?_))
  · unfold rowsIn
    blk_ext [iblk, V, idx t]
  · exact added_eq m c hpre _ (t.val / 16) (by omega) (by dsimp only; omega) s (by dsimp only; omega) y0 k

end Cert.ExpertsIdeal.Final
end
-- ==== Proof.InnerBlock.lean ====
module

public import proofs.«01_k».proof.Proof.Gen.InnerIdeal.Frame
public import proofs.«01_k».proof.Proof.ExpertsBlock
public import Idealize.ShloMosaic.Lib.Pointwise

/-!
What one grid step of the first layer's experts computes, read at one entry.
-/

@[expose] public section

set_option maxRecDepth 16384

noncomputable section

open Idealize.ShloMosaic Idealize.ShloMosaic.TcCoe Idealize.SL.Sem

namespace Cert.InnerIdeal.Block

open Cert.InnerIdeal Cert.InnerIdeal.Gen Cert.CrossMath Cert.ExpertsMath

/-- The hidden numbers of a block, each already times the token's weight for the step's expert. -/
theorem hidden_at (i : grid0.Coords) (h : FVec Ideal S1024x1024 .bf16) (wg wu : FVec Ideal S1x1024x512 .bf16)
    (w : FVec Ideal S1024x128 .f32) (r : Fin 1024) (f : Fin 512) : k0_pay3 (F := Ideal) i h wg wu w (ix2 r f) =
      hidden (fun k => h (ix2 r k)) (fun k => wg (ix3 0 k f)) (fun k => wu (ix3 0 k f)) *
        w (ix2 r ⟨(i 1).val, lt_trans (i 1).isLt (by decide)⟩) := by
  pointwise [k0_pay3]
  rw [Cert.ExpertsIdeal.Block.weight_at (fun l => w (ix2 r l)) (i 1).val (i 1).isLt]
  simp only [zero_sub]
  rfl

/-- The accumulator's next contents: its contents plus the block's product. -/
theorem added_at (a : FVec Ideal S1024x1024 .f32) (b : FVec Ideal S1024x512 .bf16) (d : FVec Ideal S1x512x1024 .bf16)
    (r j : Fin 1024) : k0_pay1 (F := Ideal) a b (k0_pay4 (F := Ideal) d) (ix2 r j) =
      a (ix2 r j) + ∑ f : Fin 512, b (ix2 r f) * d (ix3 0 f j) := by
  pointwise [k0_pay1, k0_pay4]

/-- The accumulator starts from the block of the input, and the stored block is the accumulator. -/
theorem kept_eq (x : FVec Ideal S1024x1024 .f32) (y) : k0_pay2 (F := Ideal) x y = x y := by
  pointwise [k0_pay2]

end Cert.InnerIdeal.Block
end
-- ==== Proof.InnerRef.lean ====
module

public import proofs.«01_k».proof.Proof.Gen.InnerRefIdeal.Read
public import proofs.«01_k».proof.Proof.ExpertsRef
public import Idealize.ShloMosaic.Lib.Pointwise

/-!
What the reference of the first layer's experts computes, read at one entry.
-/

@[expose] public section

set_option maxRecDepth 16384

noncomputable section

open Idealize.ShloMosaic Idealize.ShloMosaic.TcCoe Idealize.SL.Sem

namespace Cert.InnerRefIdeal.Pure

open Cert.InnerRefIdeal Cert.InnerRefIdeal.Gen Cert.InnerRefIdeal.Read Cert.CrossMath Cert.ExpertsMath

variable (x : FVec Ideal S32768x1024 .f32) (h : FVec Ideal S32768x1024 .bf16) (w : FVec Ideal S32768x128 .f32)
  (wg wu : FVec Ideal S16x1024x512 .f32) (wd : FVec Ideal S16x512x1024 .f32)

/-- The sixteen contributions add up as the last layer's reference adds them. -/
theorem total_eq : val_main_v241 (F := Ideal) h w wg wu wd = Cert.ExpertsRefIdeal.Read.val_main_v241 (F := Ideal) h w wg wu wd := rfl

/-- The reference's result at one entry: the row plus the sixteen contributions. -/
theorem reference_at (r : Fin 32768) (j : Fin 1024) : val_main_v242 (F := Ideal) x h w wg wu wd (ix2 r j) =
    x (ix2 r j) + ∑ e : Fin 16, part (w (ix2 r ⟨e, by omega⟩)) (fun k => h (ix2 r k)) (fun k f => wg (ix3 e k f)) (fun k f => wu (ix3 e k f))
      (fun f => wd (ix3 e f j)) :=
  congrArg (x (ix2 r j) + ·) ((congrFun (total_eq h w wg wu wd) _).trans (Cert.ExpertsRefIdeal.Pure.total_at h w wg wu wd r j))

end Cert.InnerRefIdeal.Pure
end
-- ==== Proof.InnerValue.lean ====
module

public import proofs.«01_k».proof.Proof.InnerBlock
public import proofs.«01_k».proof.Proof.ExpertsValue
public import proofs.«01_k».proof.Proof.InnerRef
public import proofs.«01_k».proof.Proof.Gen.InnerIdeal.Value
public import proofs.«01_k».proof.Proof.Gen.Pre_finite_weights
public import Idealize.ShloMosaic.Lib.Claim
public import Idealize.ShloMosaic.Lib.Pipeline.ValueKit
public import Idealize.ShloMosaic.Lib.Pipeline.ReadBack

/-!
The result array of the first layer's experts after the run is the reference's result: a row block's sixteen
steps add one expert's contribution each to the rows of the input, and the last step stores the sum.
-/

@[expose] public section

set_option maxRecDepth 16384

noncomputable section

open Idealize.ShloMosaic Idealize.ShloMosaic.TcCoe Idealize.SL.Sem
open Idealize.ShloMosaic.Pipeline (Dat)

namespace Cert.InnerIdeal.Final
open Cert.InnerIdeal Cert.InnerIdeal.Gen Cert.CrossMath Cert.ExpertsMath

variable (m : (ℓ : Loc nD τ sig) → Buf (Elt Ideal) ℓ)

/-- The block each window reads or writes at a grid step. -/
theorem idx : ∀ t : Fin cfg0.N, win0_0.index t = ![t.val / 16, 0] ∧ win0_1.index t = ![t.val / 16, 0] ∧
    win0_2.index t = ![t.val / 16, 0] ∧ win0_3.index t = ![t.val % 16, 0, 0] ∧ win0_4.index t = ![t.val % 16, 0, 0] ∧
    win0_5.index t = ![t.val % 16, 0, 0] ∧ win0_6.index t = ![0, 0] ∧ win0_7.index t = ![t.val / 16, 0] :=
  (by decide +kernel : ∀ t : Fin grid0.N, _)

/-- The expert of a grid step. -/
theorem expert : ∀ t : Fin cfg0.N, (grid0.coords t 1).val = t.val % 16 :=
  (by decide +kernel : ∀ t : Fin grid0.N, _)

/-- What a step adds to the accumulator, at one entry: its block's weighted hidden numbers times its way back. -/
def added (c : Dev nD) (t : Fin cfg0.N) (r j : Fin 1024) : EReal :=
  ∑ f : Fin 512, hidden (fun k => (iblk m c 1 t : FVec Ideal S1024x1024 .bf16) (ix2 r k)) (fun k => (iblk m c 3 t : FVec Ideal S1x1024x512 .bf16) (ix3 0 k f))
    (fun k => (iblk m c 4 t : FVec Ideal S1x1024x512 .bf16) (ix3 0 k f)) *
      (iblk m c 2 t : FVec Ideal S1024x128 .f32) (ix2 r ⟨(grid0.coords t 1).val, lt_trans (grid0.coords t 1).isLt (by decide)⟩) *
      (iblk m c 5 t : FVec Ideal S1x512x1024 .bf16) (ix3 0 f j)

/-- The row block a step reads of the input, at one entry. -/
def rowsIn (c : Dev nD) (t : Fin cfg0.N) (r j : Fin 1024) : EReal := (iblk m c 0 t : FVec Ideal S1024x1024 .f32) (ix2 r j)

/-- The first step of a row block starts the accumulator from the rows of the input. -/
theorem first (c : Dev nD) (t : Fin cfg0.N) (h0 : t.val % 16 = 0) (r j : Fin 1024) : (outsAt0 m c t.val t.isLt).2 (ix2 r j) =
    rowsIn m c t r j + added m c t r j := by
  rw [outsAt0_A m c t h0 (by omega)]
  frame_out
  refine (Block.added_at _ _ _ _ _).trans ?_
  simp only [Block.kept_eq, Block.hidden_at]
  rfl

/-- Every other step adds to what the step before left. -/
theorem next (c : Dev nD) (t : Fin cfg0.N) (h0 : ¬t.val % 16 = 0) (r j : Fin 1024) : (outsAt0 m c t.val t.isLt).2 (ix2 r j) =
    (outsAt0 m c (t.val - 1) (Nat.lt_of_le_of_lt (Nat.sub_le _ _) t.isLt)).2 (ix2 r j) + added m c t r j := by
  by_cases h1 : t.val % 16 = 15
  · rw [outsAt0_C m c t h0 h1]
    frame_out
    refine (Block.added_at _ _ _ _ _).trans ?_
    simp only [Block.hidden_at, read_unread_whole]
    rfl
  · rw [outsAt0_B m c t h0 h1]
    frame_out
    refine (Block.added_at _ _ _ _ _).trans ?_
    simp only [Block.hidden_at, read_unread_whole]
    rfl

/-- The last step of a row block leaves the accumulated rows. -/
theorem last (c : Dev nD) (t : Fin cfg0.N) (h1 : t.val % 16 = 15) (r j : Fin 1024) : (outsAt0 m c t.val t.isLt).1 (ix2 r j) =
    (outsAt0 m c t.val t.isLt).2 (ix2 r j) := by
  rw [outsAt0_C m c t (by omega) h1]
  frame_out

/-- What the accumulator holds at the end of a row block's run: the rows of the input plus the steps' additions. -/
theorem summed (c : Dev nD) (t : Fin cfg0.N) (h1 : t.val % 16 = 15) (r j : Fin 1024) : (outsAt0 m c t.val t.isLt).2 (ix2 r j) =
    rowsIn m c t r j + ∑ s : Fin 16, added m c ⟨16 * (t.val / 16) + s.val, Idealize.ShloMosaic.Pipeline.run_point_lt_of_flush t h1 s⟩ r j := by
  have N := lt_of_lt_of_eq t.isLt N_0
  have same : ∀ u : Fin cfg0.N, u.val / 16 = t.val / 16 → rowsIn m c u r j = rowsIn m c t r j := by
    intro u hu
    unfold rowsIn
    blk_ext [iblk, V, idx t, idx u]
  have main := Idealize.ShloMosaic.Pipeline.eq_sum_fin_of_reset_step_apply_of_flush (fun n h (i : Fin 1024 × Fin 1024) => ((outsAt0 m c n h).2 (ix2 i.1 i.2) : EReal)) 16
    (fun _ => 0) (fun t i => (if t.val % 16 = 0 then rowsIn m c t i.1 i.2 else 0) + added m c t i.1 i.2)
    (fun t h i => by rw [first m c t h, if_pos h, zero_add]) (fun t h i => by rw [next m c t h, if_neg h, zero_add]) t h1 (r, j)
  refine main.trans ?_
  rw [zero_add, Finset.sum_add_distrib]
  congr 1
  rw [Finset.sum_eq_single (0 : Fin 16)]
  · dsimp only
    rw [if_pos (by simp)]
    exact same _ (by simp)
  · intro s _ hs
    have : s.val ≠ 0 := fun h => hs (Fin.ext h)
    exact if_neg (by dsimp only; omega)
  · intro h
    exact absurd (Finset.mem_univ _) h

/-- What one step adds is its expert's contribution to the step's row block, given the precondition. -/
theorem added_eq (c : Dev nD)
    (hpre : Cert.Pre_finite_weights.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1)
    (t : Fin cfg0.N) (b : ℕ) (hb : b < 32) (h : t.val / 16 = b) (e : Fin 16) (he : t.val % 16 = e.val) (r j : Fin 1024) :
    added m c t r j = Cert.ExpertsIdeal.Final.whole (m ((c : Thread nD τ).loc main_arg1)) (m ((c : Thread nD τ).loc main_arg2)) (m ((c : Thread nD τ).loc main_arg3))
      (m ((c : Thread nD τ).loc main_arg4)) (m ((c : Thread nD τ).loc main_arg5)) ⟨b * 1024 + r.val, by omega⟩ j e := by
  subst h
  have N := lt_of_lt_of_eq t.isLt N_0
  have w := Cert.ExpertsIdeal.Final.weight _ _ _ _ _ _ _ hpre ⟨t.val / 16 * 1024 + r.val, by omega⟩ e
  unfold Cert.ExpertsIdeal.Final.whole
  rw [← part_eq _ w.1 w.2]
  have h1 : ∀ k : Fin 1024, (iblk m c 1 t : FVec Ideal S1024x1024 .bf16) (ix2 r k) =
      (m ((c : Thread nD τ).loc main_arg1) : FVec Ideal S32768x1024 .bf16) (ix2 ⟨t.val / 16 * 1024 + r.val, by omega⟩ k) := by
    intro k
    blk_ext [iblk, V, idx t]
  have h2 : (iblk m c 2 t : FVec Ideal S1024x128 .f32) (ix2 r ⟨(grid0.coords t 1).val, lt_trans (grid0.coords t 1).isLt (by decide)⟩) =
      (m ((c : Thread nD τ).loc main_arg2) : FVec Ideal S32768x128 .f32) (ix2 ⟨t.val / 16 * 1024 + r.val, by omega⟩ ⟨e.val, by omega⟩) := by
    have g : (⟨(grid0.coords t 1).val, lt_trans (grid0.coords t 1).isLt (by decide)⟩ : Fin 128) = ⟨e.val, by omega⟩ := Fin.ext ((expert t).trans he)
    rw [g]
    blk_ext [iblk, V, idx t]
  have h3 : ∀ (k : Fin 1024) (f : Fin 512), (iblk m c 3 t : FVec Ideal S1x1024x512 .bf16) (ix3 0 k f) =
      (m ((c : Thread nD τ).loc main_arg3) : FVec Ideal S16x1024x512 .f32) (ix3 e k f) := by
    intro k f
    blk_point [iblk, V, idx t]
  have h4 : ∀ (k : Fin 1024) (f : Fin 512), (iblk m c 4 t : FVec Ideal S1x1024x512 .bf16) (ix3 0 k f) =
      (m ((c : Thread nD τ).loc main_arg4) : FVec Ideal S16x1024x512 .f32) (ix3 e k f) := by
    intro k f
    blk_point [iblk, V, idx t]
  have h5 : ∀ f : Fin 512, (iblk m c 5 t : FVec Ideal S1x512x1024 .bf16) (ix3 0 f j) =
      (m ((c : Thread nD τ).loc main_arg5) : FVec Ideal S16x512x1024 .f32) (ix3 e f j) := by
    intro f
    blk_point [iblk, V, idx t]
  unfold added
  simp only [h1, h2, h3, h4, h5]

/-- The result array after the run is the reference's result of the argument arrays, given the precondition. -/
theorem final (c : Dev nD)
    (hpre : Cert.Pre_finite_weights.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    (dats m 0 c).arrAt 7 cfg0.N =
    Cert.InnerRefIdeal.Read.val_main_v242 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 7 _ (by decide +kernel) fun t hf y => ?_
  have N := lt_of_lt_of_eq t.isLt N_0
  have h1 : t.val % 16 = 15 := (flush0_7 t).mp hf
  blk_simp
  rw [after0_7]
  idx_vars y
  have e : (((View.whole main_v4).slice (win0_7.rect t)).emb (ix2 y0 y1)) =
      ix2 (⟨t.val / 16 * 1024 + y0.val, by omega⟩ : Fin 32768) y1 := by
    blk_ext [idx t]
  refine (last m c t h1 _ _).trans (Eq.trans ?_ (congrArg _ e).symm)
  refine Eq.trans ?_ (Cert.InnerRefIdeal.Pure.reference_at _ _ _ _ _ _ _ _).symm
  refine (summed m c t h1 y0 y1).trans (congrArg₂ (· + ·) ?_ (Finset.sum_congr rfl fun s _ => ?_))
  · unfold rowsIn
    blk_ext [iblk, V, idx t]
  · exact added_eq m c hpre _ (t.val / 16) (by omega) (by dsimp only; omega) s (by dsimp only; omega) y0 y1

end Cert.InnerIdeal.Final
end
-- ==== Proof.MemoryBlock.lean ====
module

public import proofs.«01_k».proof.Proof.Gen.MemoryIdeal.Frame
public import proofs.«01_k».proof.Proof.CrossMath
public import Idealize.ShloMosaic.Lib.Pointwise

/-!
What one grid step of the memory projection stores, read at one entry.
-/

@[expose] public section

set_option maxRecDepth 16384

noncomputable section

open Idealize.ShloMosaic Idealize.ShloMosaic.TcCoe Idealize.SL.Sem

namespace Cert.MemoryIdeal.Block

open Cert.MemoryIdeal Cert.MemoryIdeal.Gen Cert.CrossMath

/-- The normalised rows, kept for the column blocks that follow. -/
theorem normed_at (x : FVec Ideal S1024x1024 .f32) (g : FVec Ideal S1x1024 .f32) (r k : Fin 1024) :
    k0_pay1 (F := Ideal) x g (ix2 r k) = x (ix2 r k) * scale (fun k => x (ix2 r k)) * g (ix2 0 k) := by
  pointwise [k0_pay1]
  rfl

/-- The stored block: the kept rows times a block of columns. -/
theorem stored_at (h w : FVec Ideal S1024x1024 .bf16) (r j : Fin 1024) :
    k0_pay2 (F := Ideal) h w (ix2 r j) = ∑ k : Fin 1024, h (ix2 r k) * w (ix2 k j) := by
  pointwise [k0_pay2]

end Cert.MemoryIdeal.Block
end
-- ==== Proof.MemoryRef.lean ====
module

public import proofs.«01_k».proof.Proof.Gen.MemoryRefIdeal.Read
public import proofs.«01_k».proof.Proof.CrossMath
public import Idealize.ShloMosaic.Lib.Pointwise

/-!
What the memory projection's reference computes, read at one entry.
-/

@[expose] public section

set_option maxRecDepth 16384

noncomputable section

open Idealize.ShloMosaic Idealize.ShloMosaic.TcCoe Idealize.SL.Sem

namespace Cert.MemoryRefIdeal.Pure

open Cert.MemoryRefIdeal Cert.MemoryRefIdeal.Gen Cert.MemoryRefIdeal.Read Cert.CrossMath

variable (x : FVec Ideal S2048x1024 .f32) (g : FVec Ideal S1024 .f32) (w : FVec Ideal S1024x1024 .f32)

/-- The normalised rows. -/
theorem normed_at (r : Fin 2048) (k : Fin 1024) : val_main_v12 (F := Ideal) x g (ix2 r k) =
    x (ix2 r k) * scale (fun k => x (ix2 r k)) * g (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's result at one entry: the normalised row times a column. -/
theorem reference_at (r : Fin 2048) (n : Fin 1024) : val_main_v14 (F := Ideal) x g w (ix2 r n) =
    query (fun k => x (ix2 r k)) (fun k => g (ix1 k)) (fun k => w (ix2 k n)) := by
  have e : val_main_v14 (F := Ideal) x g w (ix2 r n) = ∑ k : Fin 1024, val_main_v12 (F := Ideal) x g (ix2 r k) * w (ix2 k n) := by
    unfold val_main_v14 val_main_v13
    generalize val_main_v12 (F := Ideal) x g = h
    pointwise
  rw [e]
  simp only [normed_at]
  rfl

end Cert.MemoryRefIdeal.Pure
end
-- ==== Proof.MemoryValue.lean ====
module

public import proofs.«01_k».proof.Proof.MemoryBlock
public import proofs.«01_k».proof.Proof.MemoryRef
public import proofs.«01_k».proof.Proof.Gen.MemoryIdeal.Value
public import Idealize.ShloMosaic.Lib.Claim
public import Idealize.ShloMosaic.Lib.Pipeline.ValueKit
public import Idealize.ShloMosaic.Lib.Pipeline.ReadBack

/-!
The memory projection's result array after the run is the reference's result: each step normalises one row
block and stores its product with the weight.
-/

@[expose] public section

set_option maxRecDepth 16384

noncomputable section

open Idealize.ShloMosaic Idealize.ShloMosaic.TcCoe Idealize.SL.Sem
open Idealize.ShloMosaic.Pipeline (Dat)

namespace Cert.MemoryIdeal.Final
open Cert.MemoryIdeal Cert.MemoryIdeal.Gen Cert.CrossMath

variable (m : (ℓ : Loc nD τ sig) → Buf (Elt Ideal) ℓ)

/-- The block each window reads or writes at a grid step. -/
theorem idx : ∀ t : Fin cfg0.N, win0_0.index t = ![t.val, 0] ∧ win0_1.index t = ![0, 0] ∧
    win0_2.index t = ![0, 0] ∧ win0_3.index t = ![t.val, 0] :=
  (by decide +kernel : ∀ t : Fin grid0.N, _)

/-- The result array after the run is the reference's result of the argument arrays. -/
theorem final (c : Dev nD) : (dats m 0 c).arrAt 3 cfg0.N =
    Cert.MemoryRefIdeal.Read.val_main_v14 (F := Ideal) (m ((c : Thread nD τ).loc main_arg0)) (m ((c : Thread nD τ).loc main_arg1))
      (m ((c : Thread nD τ).loc main_arg2)) := by
  refine (dats m 0 c).arrAt_eq_of_covers 3 _ (by decide +kernel) fun t _ y => ?_
  have hN : t.val < 2 := lt_of_lt_of_eq t.isLt N_0
  blk_simp
  rw [after0_3]
  unfold outsAt0
  frame_out
  idx_vars y
  have e : (((View.whole main_v2).slice (win0_3.rect t)).emb (ix2 y0 y1)) = ix2 (⟨t.val * 1024 + y0.val, by omega⟩ : Fin 2048) y1 := by
    blk_ext [idx t]
  refine (Block.stored_at _ _ _ _).trans (Eq.trans ?_ (congrArg _ e).symm)
  refine Eq.trans ?_ (Cert.MemoryRefIdeal.Pure.reference_at _ _ _ _ _).symm
  have x0 : ∀ k : Fin 1024, (iblk m c 0 t : FVec Ideal S1024x1024 .f32) (ix2 y0 k) =
      (m ((c : Thread nD τ).loc main_arg0) : FVec Ideal S2048x1024 .f32) (ix2 ⟨t.val * 1024 + y0.val, by omega⟩ k) := by
    intro k
    blk_ext [iblk, V, idx t]
  have x1 : ∀ k : Fin 1024, (iblk m c 1 t : FVec Ideal S1x1024 .f32) (ix2 0 k) = (m ((c : Thread nD τ).loc main_arg1) : FVec Ideal S1024 .f32) (ix1 k) := by
    intro k
    blk_point [iblk, V, idx t]
  refine Finset.sum_congr rfl fun k _ => congrArg₂ (· * ·) ?_ ?_
  · refine (Block.normed_at _ _ _ _).trans ?_
    simp only [x0, x1]
  · blk_point [iblk, V, idx t]

end Cert.MemoryIdeal.Final
end
-- ==== Proof.RouterMath.lean ====
module

public import Idealize.ShloMosaic.Lib.Pointwise
public import Idealize.ShloMosaic.Lib.SortFacts

/-!
The mathematics of the router over the extended reals: what it is to lead a row of numbers, the softmax of four real
numbers, and the two leading experts' weights.
-/

@[expose] public section

noncomputable section

open Idealize.ShloMosaic Idealize.SL.Sem

namespace Cert.RouterMath

/-- Position `a` is ahead of `b`: its number is greater, or equal and earlier. -/
def Ahead {n : ℕ} {α : Type} [LT α] (v : Fin n → α) (a b : Fin n) : Prop := v b < v a ∨ (v b = v a ∧ a < b)

/-- Inserting an earlier position keeps a list in order. -/
theorem insert_ordered {n : ℕ} (v : Fin n → EReal) (a : Fin n) (l : List (Fin n)) (ha : ∀ b ∈ l, a < b)
    (hl : l.Pairwise (Ahead v)) : (insertBefore (fun k k' => decide (v k' < v k)) a l).Pairwise (Ahead v) := by
  induction l with
  | nil => exact List.pairwise_singleton _ _
  | cons b l ih =>
    rw [List.pairwise_cons] at hl
    unfold insertBefore
    by_cases h : v a < v b
    · rw [if_pos (by simpa using h), List.pairwise_cons]
      refine ⟨fun x hx => ?_, ih (fun x hx => ha x (List.mem_cons_of_mem _ hx)) hl.2⟩
      rcases List.mem_cons.1 ((perm_insertBefore _ a l).mem_iff.1 hx) with rfl | hx
      · exact Or.inl h
      · exact hl.1 x hx
    · rw [if_neg (by simpa using h), List.pairwise_cons]
      refine ⟨fun x hx => ?_, List.pairwise_cons.2 hl⟩
      have hx' := ha x hx
      have hv : v x ≤ v b := by
        rcases List.mem_cons.1 hx with rfl | hx
        · exact le_rfl
        · rcases hl.1 x hx with q | q
          · exact q.le
          · exact q.1.le
      rcases lt_or_eq_of_le (hv.trans (not_lt.1 h)) with q | q
      · exact Or.inl q
      · exact Or.inr ⟨q, hx'⟩

/-- The stable sort puts positions in order. -/
theorem sorted_ordered {n : ℕ} (v : Fin n → EReal) (l : List (Fin n)) (hl : l.Pairwise (· < ·)) :
    (stableSort (fun k k' => decide (v k' < v k)) l).Pairwise (Ahead v) := by
  induction l with
  | nil => exact List.Pairwise.nil
  | cons a l ih =>
    rw [List.pairwise_cons] at hl
    unfold stableSort
    exact insert_ordered v a _ (fun b hb => hl.1 b ((perm_stableSort _ l).mem_iff.1 hb)) (ih hl.2)

/-- Of two places of the stable sort the earlier holds the position ahead. -/
theorem sortedFrom_ahead {n : ℕ} (v : Fin n → EReal) (i j : Fin n) (hij : i < j) :
    Ahead v (sortedFrom (fun k k' => decide (v k' < v k)) i) (sortedFrom (fun k k' => decide (v k' < v k)) j) := by
  have h := sorted_ordered v _ (List.pairwise_lt_finRange n)
  exact List.pairwise_iff_get.1 h (i.cast (length_sortPositions n _).symm) (j.cast (length_sortPositions n _).symm) hij

/-- The place the stable sort puts first leads all others. -/
theorem first_leads (v : Fin 4 → EReal) (j : Fin 4) (hj : j ≠ sortedFrom (fun k k' => decide (v k' < v k)) 0) :
    Ahead v (sortedFrom (fun k k' => decide (v k' < v k)) 0) j := by
  obtain ⟨i, rfl⟩ := sortedFrom_surjective (fun k k' => decide (v k' < v k)) j
  exact sortedFrom_ahead v 0 i (Nat.pos_of_ne_zero fun h => hj (congrArg _ (Fin.ext h)))

/-- The place the stable sort puts second leads all others but the first. -/
theorem second_leads (v : Fin 4 → EReal) (j : Fin 4) (hj : j ≠ sortedFrom (fun k k' => decide (v k' < v k)) 0)
    (hj1 : j ≠ sortedFrom (fun k k' => decide (v k' < v k)) 1) : Ahead v (sortedFrom (fun k k' => decide (v k' < v k)) 1) j := by
  obtain ⟨i, rfl⟩ := sortedFrom_surjective (fun k k' => decide (v k' < v k)) j
  have h0 : i ≠ 0 := fun h => hj (congrArg _ h)
  have h1 : i ≠ 1 := fun h => hj1 (congrArg _ h)
  exact sortedFrom_ahead v 1 i (by
    have p0 : i.val ≠ 0 := fun h => h0 (Fin.ext h)
    have p1 : i.val ≠ 1 := fun h => h1 (Fin.ext h)
    exact Fin.lt_def.2 (by change 1 < i.val; omega))

/-- The two places are different. -/
theorem second_ne (v : Fin 4 → EReal) : sortedFrom (fun k k' => decide (v k' < v k)) 1 ≠ sortedFrom (fun k k' => decide (v k' < v k)) 0 :=
  fun h => absurd (sortedFrom_injective _ h) (by decide)

/-- The largest of a row is its leader's number. -/
theorem fold_max {n : ℕ} (f : Fin n → EReal) (k : Fin n) (h : ∀ l, l ≠ k → Ahead f k l) (c : EReal) (hc : c ≤ f k) :
    Finset.univ.fold max c f = f k := by
  refine le_antisymm (Finset.fold_max_le _ |>.2 ⟨hc, fun l _ => ?_⟩) (Finset.le_fold_max _ |>.2 (Or.inr ⟨k, Finset.mem_univ _, le_rfl⟩))
  by_cases e : l = k
  · rw [e]
  · rcases h l e with q | q
    · exact q.le
    · exact q.1.le

/-- The least lane holding the largest number of a row is its leader's. -/
theorem fold_min (f : Fin 128 → EReal) (k : Fin 128) (h : ∀ l, l ≠ k → Ahead f k l) (c d : EReal) (hc : ((k.val : ℝ) : EReal) ≤ c)
    (hd : ((k.val : ℝ) : EReal) ≤ d) :
    Finset.univ.fold min c (fun l => if f l = f k then ((l.val : ℝ) : EReal) else d) = ((k.val : ℝ) : EReal) := by
  refine le_antisymm (Finset.fold_min_le _ |>.2 (Or.inr ⟨k, Finset.mem_univ _, by rw [if_pos rfl]⟩)) (Finset.le_fold_min _ |>.2 ⟨hc, fun l _ => ?_⟩)
  by_cases e : f l = f k
  · rw [if_pos e]
    by_cases q : l = k
    · rw [q]
    · rcases h l q with p | p
      · exact absurd e p.ne
      · exact_mod_cast (Nat.le_of_lt p.2)
  · rwa [if_neg e]

/-- An extended real that is a real number. -/
def IsReal (a : EReal) : Prop := ∃ r : ℝ, a = (r : EReal)

/-- Products of real numbers are real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Sums of real numbers are real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- Finite sums of real numbers are real. -/
theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- An extended real whose magnitude is below infinity is real. -/
theorem real_of_abs (a : EReal) (h : max a (-a) < ⊤) : IsReal a := by
  induction a with
  | bot => simp at h
  | top => simp at h
  | coe r => exact ⟨r, rfl⟩

/-- The softmax of four real numbers. -/
def soft (e : Fin 4 → ℝ) (j : Fin 4) : ℝ := Real.exp (e j) / ∑ k, Real.exp (e k)

/-- The sum of four exponentials is positive. -/
theorem sum_pos (e : Fin 4 → ℝ) : 0 < ∑ k, Real.exp (e k) := Finset.sum_pos (fun k _ => Real.exp_pos _) ⟨0, Finset.mem_univ _⟩

/-- A softmax value is positive. -/
theorem soft_pos (e : Fin 4 → ℝ) (j : Fin 4) : 0 < soft e j := div_pos (Real.exp_pos _) (sum_pos e)

/-- Real numbers divide as real numbers. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A sum of real numbers is real. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The exponentials less a real number, over their sum, are the softmax. -/
theorem soft_shift (e : Fin 4 → ℝ) (M : ℝ) (j : Fin 4) :
    Ideal.div (Ideal.exp ((e j : EReal) - (M : EReal))) (∑ k, Ideal.exp ((e k : EReal) - (M : EReal))) = (soft e j : EReal) := by
  have q : ∀ k, Ideal.exp ((e k : EReal) - (M : EReal)) = ((Real.exp (e k - M) : ℝ) : EReal) := fun k => by
    rw [← EReal.coe_sub, Ideal.exp_coe]
  have p : (∑ k, Real.exp (e k - M)) = (∑ k, Real.exp (e k)) / Real.exp M := by
    rw [Finset.sum_div]
    exact Finset.sum_congr rfl fun k _ => Real.exp_sub _ _
  have n := (sum_pos e).ne'
  have u := (Real.exp_pos M).ne'
  simp only [q]
  rw [sum_coe, div_coe _ _ (by rw [p]; exact div_ne_zero n u), p, Real.exp_sub]
  unfold soft
  congr 1
  field_simp

/-- The largest of four real numbers is real. -/
theorem top_real (e : Fin 4 → ℝ) : ∃ M : ℝ, Finset.univ.fold max (⊥ : EReal) (fun k => (e k : EReal)) = (M : EReal) := by
  have a : Finset.univ.fold max (⊥ : EReal) (fun k => (e k : EReal)) < ⊤ :=
    Finset.fold_max_lt _ |>.2 ⟨bot_lt_top, fun k _ => EReal.coe_lt_top _⟩
  have b : ⊥ < Finset.univ.fold max (⊥ : EReal) (fun k => (e k : EReal)) :=
    Finset.lt_fold_max _ |>.2 (Or.inr ⟨0, Finset.mem_univ _, EReal.bot_lt_coe _⟩)
  exact ⟨_, (EReal.coe_toReal a.ne b.ne').symm⟩

/-- Leading the softmax is leading the numbers. -/
theorem ahead_soft (e : Fin 4 → ℝ) (a b : Fin 4) (h : Ahead (fun j => (soft e j : EReal)) a b) : Ahead e a b := by
  have s := sum_pos e
  rcases h with h | ⟨h, q⟩
  · refine Or.inl ?_
    have h' : soft e b < soft e a := EReal.coe_lt_coe_iff.1 h
    unfold soft at h'
    exact Real.exp_lt_exp.1 ((div_lt_div_iff_of_pos_right s).1 h')
  · refine Or.inr ⟨?_, q⟩
    have h' : soft e b = soft e a := EReal.coe_eq_coe_iff.1 h
    unfold soft at h'
    exact Real.exp_injective ((div_left_inj' s.ne').1 h')

/-- The leading softmax value is one over the sum of the exponentials less the leading number. -/
theorem soft_lead (e : Fin 4 → ℝ) (g : Fin 4) : 1 / (∑ k, Real.exp (e k - e g)) = soft e g := by
  unfold soft
  rw [show (∑ k, Real.exp (e k - e g)) = (∑ k, Real.exp (e k)) / Real.exp (e g) from by
    rw [Finset.sum_div]; exact Finset.sum_congr rfl fun k _ => Real.exp_sub _ _]
  rw [one_div_div]

/-- The first weight of two softmax values made to sum to one. -/
theorem first_share (e : Fin 4 → ℝ) (a b : Fin 4) : 1 / (1 + Real.exp (e b - e a)) = soft e a / (soft e a + soft e b) := by
  have s := sum_pos e
  have p := Real.exp_pos (e a)
  have q := Real.exp_pos (e b)
  unfold soft
  rw [Real.exp_sub]
  field_simp

/-- The second weight of two softmax values made to sum to one. -/
theorem second_share (e : Fin 4 → ℝ) (a b : Fin 4) :
    Real.exp (e b - e a) / (1 + Real.exp (e b - e a)) = soft e b / (soft e a + soft e b) := by
  have s := sum_pos e
  have p := Real.exp_pos (e a)
  have q := Real.exp_pos (e b)
  unfold soft
  rw [Real.exp_sub]
  field_simp

/-- The weight of lane `n`, from the logits of sixteen experts and four groups, the leading group and its two leading experts. -/
def share (E : Fin 16 → ℝ) (G : Fin 4 → ℝ) (g a b : Fin 4) (n : ℕ) : ℝ :=
  let e : Fin 4 → ℝ := fun j => E ⟨4 * g.val + j.val, by omega⟩
  if n = 4 * g.val + a.val then soft G g * (soft e a / (soft e a + soft e b))
  else if n = 4 * g.val + b.val then soft G g * (soft e b / (soft e a + soft e b)) else 0

end Cert.RouterMath
end
-- ==== Proof.GlaMath.lean ====
module

public import proofs.«01_k».proof.Proof.RouterMath

/-!
The mathematics of gated linear attention over the real numbers: 64 rows at a time, four heads of 64 lanes, a decay of
each lane of the keys that is the exponential of the running sum of the logarithms of the gates.
-/

@[expose] public section

noncomputable section

open Idealize.ShloMosaic Idealize.SL.Sem

namespace Cert.GlaMath
open Cert.RouterMath

/-- Lane `d` of head `h`. -/
def lane (h : Fin 4) (d : Fin 64) : Fin 256 := ⟨h.val * 64 + d.val, by omega⟩

/-- 64 rows of 256 lanes. -/
abbrev Chunk := Fin 64 → Fin 256 → ℝ

/-- The running sum down the rows. -/
def cum (a : Chunk) : Chunk := fun i j => ∑ s : Fin 64, if s ≤ i then a s j else 0

/-- The sum over all rows. -/
def tot (a : Chunk) (j : Fin 256) : ℝ := ∑ s : Fin 64, a s j

/-- The decayed queries, by the square root of 64. -/
def qd (q a : Chunk) : Chunk := fun i j => q i j * (1 / 8) * Real.exp (cum a i j)

/-- The keys with the decay taken out. -/
def ki (k a : Chunk) : Chunk := fun i j => k i j * Real.exp (-cum a i j)

/-- The keys decayed to the last row. -/
def ke (k a : Chunk) : Chunk := fun i j => k i j * Real.exp (tot a j - cum a i j)

/-- What the 64 rows give one another. -/
def intra (q k v a : Chunk) (i : Fin 64) (h : Fin 4) (e : Fin 64) : ℝ :=
  ∑ s : Fin 64, v s (lane h e) * if s ≤ i then ∑ d : Fin 64, qd q a i (lane h d) * ki k a s (lane h d) else 0

/-- A state: of each head a matrix from the keys' lanes to the values'. -/
abbrev St := Fin 4 → Fin 64 → Fin 64 → ℝ

/-- The state after the 64 rows. -/
def next (k v a : Chunk) (s : St) : St := fun h d e =>
  s h d e * Real.exp (tot a (lane h d)) + ∑ i : Fin 64, ke k a i (lane h d) * v i (lane h e)

/-- The state before each 64 rows. -/
def states (k v a : ℕ → Chunk) : ℕ → St
  | 0 => fun _ _ _ => 0
  | n + 1 => next (k n) (v n) (a n) (states k v a n)

theorem states_succ (k v a : ℕ → Chunk) (n : ℕ) : states k v a (n + 1) = next (k n) (v n) (a n) (states k v a n) := rfl

/-- The attention's result of the 64 rows, from the state before them. -/
def out (q k v a : Chunk) (s : St) (i : Fin 64) (h : Fin 4) (e : Fin 64) : ℝ :=
  intra q k v a i h e + ∑ d : Fin 64, s h d e * qd q a i (lane h d)

/-- The logarithm of a gate. -/
def gate (x : ℝ) : ℝ := Real.log (1 / (1 + Real.exp (-x))) / 16

/-- The logarithm of the gate as the logarithm of one over one plus an exponential. -/
theorem gate_plain (x : ℝ) : Ideal.div (Ideal.log (Ideal.div ((1 : ℝ) : EReal) (((1 : ℝ) : EReal) + Ideal.exp (-(x : EReal)))))
    ((16 : ℝ) : EReal) = (gate x : EReal) := by
  have hp : 0 < 1 + Real.exp (-x) := by positivity
  rw [← EReal.coe_neg, Ideal.exp_coe, ← EReal.coe_add, div_coe _ _ hp.ne', Ideal.log_coe, if_neg (not_le.2 (by positivity)),
    div_coe _ _ (by norm_num)]
  rfl

/-- The logarithm of the gate as the smaller of the number and zero, less a logarithm. -/
theorem gate_split (x : ℝ) : (min (x : EReal) ((0 : ℝ) : EReal) - Ideal.log (((1 : ℝ) : EReal) + Ideal.exp (((0 : ℝ) : EReal) -
    max (x : EReal) (-(x : EReal))))) * ((1 / 16 : ℝ) : EReal) = (gate x : EReal) := by
  have hp : ∀ y : ℝ, 0 < 1 + Real.exp y := fun y => by positivity
  rcases le_total 0 x with h | h
  · have e1 : min (x : EReal) ((0 : ℝ) : EReal) = ((0 : ℝ) : EReal) := min_eq_right (by exact_mod_cast h)
    have e2 : max (x : EReal) (-(x : EReal)) = (x : EReal) := max_eq_left (by rw [← EReal.coe_neg]; exact_mod_cast (by linarith : -x ≤ x))
    rw [e1, e2, ← EReal.coe_sub, Ideal.exp_coe, ← EReal.coe_add, Ideal.log_coe, if_neg (not_le.2 (hp _)), ← EReal.coe_sub, ← EReal.coe_mul]
    congr 1
    unfold gate
    rw [one_div (1 + Real.exp (-x)), Real.log_inv, zero_sub]
    ring_nf
  · have e1 : min (x : EReal) ((0 : ℝ) : EReal) = (x : EReal) := min_eq_left (by exact_mod_cast h)
    have e2 : max (x : EReal) (-(x : EReal)) = ((-x : ℝ) : EReal) := by
      rw [← EReal.coe_neg]; exact max_eq_right (by exact_mod_cast (by linarith : x ≤ -x))
    rw [e1, e2, ← EReal.coe_sub, Ideal.exp_coe, ← EReal.coe_add, Ideal.log_coe, if_neg (not_le.2 (hp _)), ← EReal.coe_sub, ← EReal.coe_mul]
    congr 1
    unfold gate
    have e3 : 1 + Real.exp (-x) = Real.exp (-x) * (1 + Real.exp (0 - -x)) := by
      rw [mul_add, ← Real.exp_add]; simp [add_comm]
    rw [one_div (1 + Real.exp (-x)), Real.log_inv, e3, Real.log_mul (Real.exp_pos _).ne' (hp _).ne', Real.log_exp]
    ring_nf

/-- The running sum's last row is the sum over all rows. -/
theorem cum_last (a : Chunk) (j : Fin 256) : cum a 63 j = tot a j :=
  Finset.sum_congr rfl fun s _ => if_pos (Fin.le_last s)

/-- Chunk and row of position `r` of eight chunks. -/
def up (r : Fin 512) : Fin 8 := ⟨r.val / 64, by omega⟩
def row (r : Fin 512) : Fin 64 := ⟨r.val % 64, by omega⟩
/-- Position of row `i` of chunk `u` of eight. -/
def pos (u : Fin 8) (i : Fin 64) : Fin 512 := ⟨u.val * 64 + i.val, by omega⟩

theorem up_pos (u : Fin 8) (i : Fin 64) : up (pos u i) = u := Fin.ext (by unfold up pos; dsimp only; omega)
theorem row_pos (u : Fin 8) (i : Fin 64) : row (pos u i) = i := Fin.ext (by unfold row pos; dsimp only; omega)
theorem pos_up (r : Fin 512) : pos (up r) (row r) = r := Fin.ext (by unfold up row pos; dsimp only; omega)

/-- Head and lane within the head. -/
def hd (j : Fin 256) : Fin 4 := ⟨j.val / 64, by omega⟩
def ln (j : Fin 256) : Fin 64 := ⟨j.val % 64, by omega⟩
theorem hd_lane (h : Fin 4) (d : Fin 64) : hd (lane h d) = h := Fin.ext (by unfold hd lane; dsimp only; omega)
theorem ln_lane (h : Fin 4) (d : Fin 64) : ln (lane h d) = d := Fin.ext (by unfold ln lane; dsimp only; omega)
theorem lane_hd (j : Fin 256) : lane (hd j) (ln j) = j := Fin.ext (by unfold hd ln lane; dsimp only; omega)

/-- A sum over 512 positions, chunk by chunk. -/
theorem sum_pos512 (f : Fin 512 → ℝ) : ∑ r, f r = ∑ u, ∑ i, f (pos u i) := by
  rw [← Fintype.sum_prod_type' (fun u i => f (pos u i))]
  exact Fintype.sum_equiv ⟨fun r => (up r, row r), fun p => pos p.1 p.2, pos_up, fun p => Prod.ext (up_pos _ _) (row_pos _ _)⟩ _ _
    fun r => congrArg f (pos_up r).symm

/-- A sum over the lanes, head by head. -/
theorem sum_lanes (f : Fin 256 → ℝ) : ∑ j, f j = ∑ h, ∑ d, f (lane h d) := by
  rw [← Fintype.sum_prod_type' (fun h d => f (lane h d))]
  exact Fintype.sum_equiv ⟨fun r => (hd r, ln r), fun p => lane p.1 p.2, lane_hd, fun p => Prod.ext (hd_lane _ _) (ln_lane _ _)⟩ _ _
    fun r => congrArg f (lane_hd r).symm

/-- A sum over 512 positions of a number that is zero out of one chunk. -/
theorem sum_chunk (f : Fin 512 → ℝ) (u : Fin 8) (h : ∀ u' i, u' ≠ u → f (pos u' i) = 0) : ∑ r, f r = ∑ i, f (pos u i) := by
  rw [sum_pos512, Finset.sum_eq_single u (fun u' _ hu => Finset.sum_eq_zero fun i _ => h u' i hu) (by simp)]

/-- A sum over the lanes of a number that is zero out of one head. -/
theorem sum_head (f : Fin 256 → ℝ) (h : Fin 4) (hz : ∀ h' d, h' ≠ h → f (lane h' d) = 0) : ∑ j, f j = ∑ d, f (lane h d) := by
  rw [sum_lanes, Finset.sum_eq_single h (fun u' _ hu => Finset.sum_eq_zero fun i _ => hz u' i hu) (by simp)]

end Cert.GlaMath
end
-- ==== Proof.GlaBlock.lean ====
module

public import proofs.«01_k».proof.Proof.GlaMath
public import proofs.«01_k».proof.Proof.Gen.GlaIdeal.Skeleton

/-!
The gated linear attention kernel's block of 512 rows, read at an index: eight chunks of 64 rows, their running sums as
products with a table of ones, and the four heads told apart by masks.
-/

@[expose] public section

set_option maxRecDepth 16384

noncomputable section

open Idealize.ShloMosaic Idealize.SL.Sem

namespace Cert.GlaIdeal.Block
open Cert.GlaIdeal Cert.GlaIdeal.Gen Cert.GlaMath Cert.RouterMath

/-- The pattern of one eighth. -/
theorem eighth : Ideal.ofBits .f32 1040187392#32 = ((1 / 8 : ℝ) : EReal) := by
  simp [Ideal.ofBits, Ideal.ieee]; rw [← EReal.coe_mul]; exact congrArg _ (by norm_num)
/-- The pattern of one sixteenth. -/
theorem sixteenth : Ideal.ofBits .f32 1031798784#32 = ((1 / 16 : ℝ) : EReal) := by
  simp [Ideal.ofBits, Ideal.ieee]; rw [← EReal.coe_mul]; exact congrArg _ (by norm_num)
/-- The pattern of one sixty-fourth. -/
theorem sixtyfourth : Ideal.ofBits .f32 1015021568#32 = ((1 / 64 : ℝ) : EReal) := by
  simp [Ideal.ofBits, Ideal.ieee]; rw [← EReal.coe_mul]; exact congrArg _ (by norm_num)

/-- An array of 512 rows holds the real numbers of eight chunks. -/
def Is {φ : FTy} (x : FVec Ideal S512x256 φ) (X : Fin 8 → Chunk) : Prop := ∀ r j, (x (ix2 r j) : EReal) = (X (up r) (row r) j : EReal)

/-- The table of ones up to the row within a chunk. -/
def Upto (x : FVec Ideal S512x512 .bf16) : Prop := ∀ r s, (x (ix2 r s) : EReal) = ((if up s = up r ∧ row s ≤ row r then 1 else 0 : ℝ) : EReal)
/-- The table of ones within a chunk. -/
def Same (x : FVec Ideal S512x512 .bf16) : Prop := ∀ r s, (x (ix2 r s) : EReal) = ((if up s = up r then 1 else 0 : ℝ) : EReal)
/-- The table of ones within a head. -/
def Heads {φ : FTy} (x : FVec Ideal S256x256 φ) : Prop := ∀ e j, (x (ix2 e j) : EReal) = ((if hd e = hd j then 1 else 0 : ℝ) : EReal)

theorem upto_sum (X : Fin 8 → Chunk) (r : Fin 512) (j : Fin 256) :
    ∑ s : Fin 512, (if up s = up r ∧ row s ≤ row r then (1 : ℝ) else 0) * X (up s) (row s) j = cum (X (up r)) (row r) j := by
  rw [sum_chunk _ (up r) (fun u i hu => by rw [up_pos, if_neg (fun q => hu q.1), zero_mul])]
  refine Finset.sum_congr rfl fun i _ => ?_
  rw [up_pos, row_pos]
  by_cases hi : i ≤ row r <;> simp [hi]

theorem same_sum (X : Fin 8 → Chunk) (r : Fin 512) (j : Fin 256) :
    ∑ s : Fin 512, (if up s = up r then (1 : ℝ) else 0) * X (up s) (row s) j = tot (X (up r)) j := by
  rw [sum_chunk _ (up r) (fun u i hu => by rw [up_pos, if_neg hu, zero_mul])]
  refine Finset.sum_congr rfl fun i _ => ?_
  rw [up_pos, row_pos, if_pos rfl, one_mul]

variable {Q K W A : Fin 8 → Chunk}

theorem cum_at {v33 : FVec Ideal S512x256 .f32} {v35 : FVec Ideal S512x512 .bf16} {v36 : FVec Ideal S512x256 .bf16} {v37 : FVec Ideal S512x256 .f32}
    (h33 : Is v33 A) (h35 : Upto v35) (h36 : Is v36 A) (h37 : Is v37 A) : Is (k0_pay13 v33 v35 v36 v37) (fun u => cum (A u)) := by
  intro r j
  pointwise [k0_pay13]
  simp only [h33 _ _, h35 _ _, h36 _ _, h37 _ _, ← EReal.coe_mul, ← EReal.coe_sub, sum_coe, ← EReal.coe_add, sub_self, mul_zero,
    Finset.sum_const_zero, add_zero, upto_sum]

theorem tot_at {v33 : FVec Ideal S512x256 .f32} {v43 : FVec Ideal S512x512 .bf16}
    (h33 : Is v33 A) (h43 : Same v43) (r : Fin 512) (j : Fin 256) : k0_pay14 v33 v43 (ix2 r j) = (tot (A (up r)) j : EReal) := by
  pointwise [k0_pay14]
  simp only [h33 _ _, h43 _ _, ← EReal.coe_mul, ← EReal.coe_sub, sum_coe, ← EReal.coe_add, sub_self, mul_zero,
    Finset.sum_const_zero, add_zero, same_sum]

theorem qd_at {v6 v33 : FVec Ideal S512x256 .f32} {v35 : FVec Ideal S512x512 .bf16} {v36 : FVec Ideal S512x256 .bf16} {v37 : FVec Ideal S512x256 .f32}
    (h6 : Is v6 Q) (h33 : Is v33 A) (h35 : Upto v35) (h36 : Is v36 A) (h37 : Is v37 A) :
    Is (k0_pay15 v6 v33 v35 v36 v37) (fun u => qd (Q u) (A u)) := by
  intro r j
  pointwise [k0_pay15]
  rw [cum_at h33 h35 h36 h37 r j, h6 r j, Ideal.exp_coe, eighth, ← EReal.coe_mul, ← EReal.coe_mul]
  rfl

theorem qd_at' {v6 v33 : FVec Ideal S512x256 .f32} {v35 : FVec Ideal S512x512 .bf16} {v36 : FVec Ideal S512x256 .bf16} {v37 : FVec Ideal S512x256 .f32}
    (h6 : Is v6 Q) (h33 : Is v33 A) (h35 : Upto v35) (h36 : Is v36 A) (h37 : Is v37 A) :
    Is (k0_pay18 v6 v33 v35 v36 v37) (fun u => qd (Q u) (A u)) := by
  intro r j
  pointwise [k0_pay18]
  exact qd_at h6 h33 h35 h36 h37 r j

theorem ki_at {v8 v33 : FVec Ideal S512x256 .f32} {v35 : FVec Ideal S512x512 .bf16} {v36 : FVec Ideal S512x256 .bf16} {v37 : FVec Ideal S512x256 .f32}
    (h8 : Is v8 K) (h33 : Is v33 A) (h35 : Upto v35) (h36 : Is v36 A) (h37 : Is v37 A) :
    Is (k0_pay16 v8 v33 v35 v36 v37) (fun u => ki (K u) (A u)) := by
  intro r j
  pointwise [k0_pay16]
  rw [cum_at h33 h35 h36 h37 r j, h8 r j, zero_sub, ← EReal.coe_neg, Ideal.exp_coe, ← EReal.coe_mul]
  rfl

theorem ke_at {v8 v33 : FVec Ideal S512x256 .f32} {v35 : FVec Ideal S512x512 .bf16} {v36 : FVec Ideal S512x256 .bf16} {v37 : FVec Ideal S512x256 .f32}
    {v43 : FVec Ideal S512x512 .bf16} (h8 : Is v8 K) (h33 : Is v33 A) (h35 : Upto v35) (h36 : Is v36 A) (h37 : Is v37 A) (h43 : Same v43) :
    Is (k0_pay17 v8 v33 v35 v36 v37 v43) (fun u => ke (K u) (A u)) := by
  intro r j
  pointwise [k0_pay17]
  rw [cum_at h33 h35 h36 h37 r j, tot_at h33 h43 r j, h8 r j, ← EReal.coe_sub, Ideal.exp_coe, ← EReal.coe_mul]
  rfl

/-- A block array holds a state: entry of a value's lane and a key's lane, zero between different heads. -/
def Keeps {φ : FTy} (x : FVec Ideal S256x256 φ) (S : St) : Prop := ∀ e j, (x (ix2 e j) : EReal) = ((if hd e = hd j then S (hd j) (ln j) (ln e) else 0 : ℝ) : EReal)

/-- A step of the state. -/
theorem next_of {x y : FVec Ideal S256x256 .f32} {S : St} {v9 : FVec Ideal S512x256 .bf16} {v51 : FVec Ideal S512x256 .f32}
    {v64 : FVec Ideal S512x256 .bf16} {bd : FVec Ideal S256x256 .f32} (u : Fin 8) (hx : Keeps x S) (h9 : Is v9 W)
    (h51 : ∀ r j, (v51 (ix2 r j) : EReal) = (tot (A (up r)) j : EReal)) (h64 : Is v64 (fun u => ke (K u) (A u))) (hb : Heads bd)
    (hy : ∀ e j, (y (ix2 e j) : EReal) = x (ix2 e j) * Ideal.exp (v51 (ix2 (pos u 0) j)) +
      (∑ i : Fin 64, v9 (ix2 (pos u i) e) * v64 (ix2 (pos u i) j)) * bd (ix2 e j)) : Keeps y (next (K u) (W u) (A u) S) := by
  intro e j
  rw [hy, hx e j, h51, hb e j]
  simp only [h9 _ _, h64 _ _, up_pos, row_pos, ← EReal.coe_mul, sum_coe, Ideal.exp_coe, ← EReal.coe_add]
  congr 1
  by_cases h : hd e = hd j
  · rw [if_pos h, if_pos h, if_pos h, mul_one]
    unfold next
    have e1 : lane (hd j) (ln e) = e := by rw [← h]; exact lane_hd e
    rw [lane_hd, e1]
    exact congrArg _ (Finset.sum_congr rfl fun i _ => mul_comm _ _)
  · rw [if_neg h, if_neg h, if_neg h]
    ring

/-- What a state gives a chunk's rows. -/
theorem inter_of {x : FVec Ideal S256x256 .f32} {S : St} {v65 : FVec Ideal S512x256 .bf16} (u : Fin 8) (hx : Keeps x S)
    (h65 : Is v65 (fun u => qd (Q u) (A u))) (i : Fin 64) (c : Fin 256) :
    ∑ j : Fin 256, (v65 (ix2 (pos u i) j) * x (ix2 c j) : EReal) =
      ((∑ d : Fin 64, S (hd c) d (ln c) * qd (Q u) (A u) i (lane (hd c) d) : ℝ) : EReal) := by
  simp only [h65 _ _, hx _ _, up_pos, row_pos, ← EReal.coe_mul, sum_coe]
  congr 1
  rw [sum_head _ (hd c) (fun h' d hh => by rw [hd_lane, if_neg (fun q => hh q.symm), mul_zero])]
  refine Finset.sum_congr rfl fun d _ => ?_
  rw [hd_lane, ln_lane, if_pos rfl, mul_comm]

variable {v9 : FVec Ideal S512x256 .bf16} {v51 : FVec Ideal S512x256 .f32} {v64 : FVec Ideal S512x256 .bf16} {v65 : FVec Ideal S512x256 .bf16} {v240 v241 v242 v261 v265 v314 : FVec Ideal S256x256 .f32}

theorem step0 (e j : Fin 256) : k0_pay37 v9 v51 v64 v240 v241 (ix2 e j) = (v240) (ix2 e j) * Ideal.exp (v51 (ix2 (pos 0 0) j)) +
      (∑ i : Fin 64, v9 (ix2 (pos 0 i) e) * v64 (ix2 (pos 0 i) j)) * v241 (ix2 e j) := by
  pointwise [k0_pay37, k0_pay35]
  simp [pos]

theorem step1 (e j : Fin 256) : k0_pay41 (k0_pay39 v9 v51 v64 v240 v241) (k0_pay40 v9 v64 v241) (ix2 e j) = (k0_pay37 v9 v51 v64 v240 v241) (ix2 e j) * Ideal.exp (v51 (ix2 (pos 1 0) j)) +
      (∑ i : Fin 64, v9 (ix2 (pos 1 i) e) * v64 (ix2 (pos 1 i) j)) * v241 (ix2 e j) := by
  pointwise [k0_pay41, k0_pay39, k0_pay40, k0_pay35]
  rfl

theorem step2 (e j : Fin 256) : k0_pay43 v9 v51 v64 v242 v261 v265 (ix2 e j) = (k0_pay41 v261 v265) (ix2 e j) * Ideal.exp (v51 (ix2 (pos 2 0) j)) +
      (∑ i : Fin 64, v9 (ix2 (pos 2 i) e) * v64 (ix2 (pos 2 i) j)) * v242 (ix2 e j) := by
  pointwise [k0_pay43]
  rfl

theorem step3 (e j : Fin 256) : k0_pay45 v9 v51 v64 v242 v261 v265 (ix2 e j) = (k0_pay43 v9 v51 v64 v242 v261 v265) (ix2 e j) * Ideal.exp (v51 (ix2 (pos 3 0) j)) +
      (∑ i : Fin 64, v9 (ix2 (pos 3 i) e) * v64 (ix2 (pos 3 i) j)) * v242 (ix2 e j) := by
  pointwise [k0_pay45]
  rfl

theorem step4 (e j : Fin 256) : k0_pay47 v9 v51 v64 v242 v261 v265 (ix2 e j) = (k0_pay45 v9 v51 v64 v242 v261 v265) (ix2 e j) * Ideal.exp (v51 (ix2 (pos 4 0) j)) +
      (∑ i : Fin 64, v9 (ix2 (pos 4 i) e) * v64 (ix2 (pos 4 i) j)) * v242 (ix2 e j) := by
  pointwise [k0_pay47]
  rfl

theorem step5 (e j : Fin 256) : k0_pay49 v9 v51 v64 v242 v261 v265 (ix2 e j) = (k0_pay47 v9 v51 v64 v242 v261 v265) (ix2 e j) * Ideal.exp (v51 (ix2 (pos 5 0) j)) +
      (∑ i : Fin 64, v9 (ix2 (pos 5 i) e) * v64 (ix2 (pos 5 i) j)) * v242 (ix2 e j) := by
  pointwise [k0_pay49]
  rfl

theorem step6 (e j : Fin 256) : k0_pay52 v9 v51 v64 v242 v314 (ix2 e j) = (v314) (ix2 e j) * Ideal.exp (v51 (ix2 (pos 6 0) j)) +
      (∑ i : Fin 64, v9 (ix2 (pos 6 i) e) * v64 (ix2 (pos 6 i) j)) * v242 (ix2 e j) := by
  pointwise [k0_pay52]
  rfl

theorem step7 (e j : Fin 256) : k0_pay53 v9 v51 v64 v242 v314 (ix2 e j) = (k0_pay52 v9 v51 v64 v242 v314) (ix2 e j) * Ideal.exp (v51 (ix2 (pos 7 0) j)) +
      (∑ i : Fin 64, v9 (ix2 (pos 7 i) e) * v64 (ix2 (pos 7 i) j)) * v242 (ix2 e j) := by
  pointwise [k0_pay53]
  rfl

theorem inter0 (i : Fin 64) (c : Fin 256) : k0_pay36 v65 v240 (ix2 i c) = ∑ j : Fin 256, v65 (ix2 (pos 0 i) j) * (v240) (ix2 c j) := by
  pointwise [k0_pay36]
  simp [pos]

theorem inter1 (i : Fin 64) (c : Fin 256) : k0_pay38 v9 v51 v64 v65 v240 v241 (ix2 i c) = ∑ j : Fin 256, v65 (ix2 (pos 1 i) j) * (k0_pay37 v9 v51 v64 v240 v241) (ix2 c j) := by
  pointwise [k0_pay38]
  rfl

theorem inter2 (i : Fin 64) (c : Fin 256) : k0_pay42 v65 v261 v265 (ix2 i c) = ∑ j : Fin 256, v65 (ix2 (pos 2 i) j) * (k0_pay41 v261 v265) (ix2 c j) := by
  pointwise [k0_pay42]
  rfl

theorem inter3 (i : Fin 64) (c : Fin 256) : k0_pay44 v9 v51 v64 v65 v242 v261 v265 (ix2 i c) = ∑ j : Fin 256, v65 (ix2 (pos 3 i) j) * (k0_pay43 v9 v51 v64 v242 v261 v265) (ix2 c j) := by
  pointwise [k0_pay44]
  rfl

theorem inter4 (i : Fin 64) (c : Fin 256) : k0_pay46 v9 v51 v64 v65 v242 v261 v265 (ix2 i c) = ∑ j : Fin 256, v65 (ix2 (pos 4 i) j) * (k0_pay45 v9 v51 v64 v242 v261 v265) (ix2 c j) := by
  pointwise [k0_pay46]
  rfl

theorem inter5 (i : Fin 64) (c : Fin 256) : k0_pay48 v9 v51 v64 v65 v242 v261 v265 (ix2 i c) = ∑ j : Fin 256, v65 (ix2 (pos 5 i) j) * (k0_pay47 v9 v51 v64 v242 v261 v265) (ix2 c j) := by
  pointwise [k0_pay48]
  rfl

end Cert.GlaIdeal.Block
end
-- ==== Proof.GlaHeads.lean ====
module

public import proofs.«01_k».proof.Proof.GlaBlock

/-!
The gated linear attention kernel's products of queries and keys within a chunk, head by head: a head is told by the
quotient of the lane by 64, and masks zero the lanes of the other heads.
-/

@[expose] public section

set_option maxRecDepth 16384

noncomputable section

open Idealize.ShloMosaic Idealize.SL.Sem

namespace Cert.GlaIdeal.Block
open Cert.GlaIdeal Cert.GlaIdeal.Gen Cert.GlaMath Cert.RouterMath

/-- The kernel's lanes' numbers. -/
def lanes : IVec S1x256 32 := iota .tc S1x256 32 [1] iota_S1x256_d1_w32
/-- The sign of the divisor. -/
def sign : BitVec 32 := Scalar.subi (Scalar.extui (Scalar.cmpi .sgt 64#32 0#32)) (Scalar.extui (Scalar.cmpi .slt 64#32 0#32))

/-- The kernel's comparison of a lane's head with a head, on words. -/
def word (h : BitVec 32) (j : Fin 256) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          sign)
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32))
    h

theorem word0 : ∀ j, word 0#32 j = if hd j = 0 then 1#1 else 0#1 := by decide +kernel
theorem word1 : ∀ j, word 1#32 j = if hd j = 1 then 1#1 else 0#1 := by decide +kernel
theorem word2 : ∀ j, word 2#32 j = if hd j = 2 then 1#1 else 0#1 := by decide +kernel
theorem word3 : ∀ j, word 3#32 j = if hd j = 3 then 1#1 else 0#1 := by decide +kernel

variable {Q K W A : Fin 8 → Chunk}
variable {v10 v55 p : FVec Ideal S512x256 .f32} {v60 : FVec Ideal S512x256 .bf16} {v70 : IVec S512x512 1}

/-- What a head adds at a row and a lane, in the kernel's masks. -/
def adds (v10 v55 : FVec Ideal S512x256 .f32) (v60 : FVec Ideal S512x256 .bf16) (v70 : IVec S512x512 1) (w : Fin 256 → BitVec 1) (r : Fin 512) (j : Fin 256) : EReal :=
  ∑ s : Fin 512, Scalar.select (w j) (Scalar.select (v70 (ix2 r s)) ((∑ d : Fin 256, Scalar.select (w d) (v55 (ix2 r d) * v60 (ix2 s d) : EReal) 0) * v10 (ix2 s j)) 0) 0

theorem head0 (r : Fin 512) (j : Fin 256) :
    k0_pay23 v10 v55 v60 lanes v70 p 64#32 k0_pay21 k0_pay22 (Scalar.cmpi .sgt 64#32 0#32) (ix2 r j) = p (ix2 r j) + adds v10 v55 v60 v70 (word 0#32) r j := by
  unfold lanes adds
  pointwise [k0_pay23, k0_pay21, k0_pay22]
  rfl
theorem head1 (r : Fin 512) (j : Fin 256) :
    k0_pay26 v10 v55 v60 lanes v70 p 64#32 (k0_pay24 lanes) (k0_pay25 lanes) sign (ix2 r j) = p (ix2 r j) + adds v10 v55 v60 v70 (word 1#32) r j := by
  unfold lanes adds
  pointwise [k0_pay26, k0_pay24, k0_pay25]
  rfl
theorem head2 (r : Fin 512) (j : Fin 256) :
    k0_pay30 v10 v55 v60 v70 p (k0_pay27 lanes) (k0_pay28 lanes) (k0_pay29 lanes) 0#32 (ix2 r j) = p (ix2 r j) + adds v10 v55 v60 v70 (word 2#32) r j := by
  unfold lanes adds
  pointwise [k0_pay30, k0_pay27, k0_pay28, k0_pay29]
  rfl
theorem head3 (r : Fin 512) (j : Fin 256) :
    k0_pay34 v10 v55 v60 v70 p (k0_pay31 lanes) (k0_pay32 lanes) k0_pay33 (ix2 r j) = p (ix2 r j) + adds v10 v55 v60 v70 (word 3#32) r j := by
  unfold lanes adds
  pointwise [k0_pay34, k0_pay31, k0_pay32, k0_pay33]
  rfl

/-- The mask of the rows before, within a chunk. -/
def Before (x : IVec S512x512 1) : Prop := ∀ r s, x (ix2 r s) = if up s = up r ∧ row s ≤ row r then 1#1 else 0#1

theorem sel1 (a b : EReal) : Scalar.select 1#1 a b = a := rfl
theorem sel0 (a b : EReal) : Scalar.select 0#1 a b = b := rfl

theorem adds_at (h10 : Is v10 W) (h55 : Is v55 (fun u => qd (Q u) (A u))) (h60 : Is v60 (fun u => ki (K u) (A u))) (h70 : Before v70)
    (w : Fin 256 → BitVec 1) (h : Fin 4) (hw : ∀ j, w j = if hd j = h then 1#1 else 0#1) (r : Fin 512) (j : Fin 256) :
    adds v10 v55 v60 v70 w r j = ((if hd j = h then intra (Q (up r)) (K (up r)) (W (up r)) (A (up r)) (row r) h (ln j) else 0 : ℝ) : EReal) := by
  unfold adds
  by_cases hj : hd j = h
  · have inner : ∀ s : Fin 512, ∑ d : Fin 256, Scalar.select (w d) (v55 (ix2 r d) * v60 (ix2 s d) : EReal) 0 =
        ((∑ d : Fin 64, qd (Q (up r)) (A (up r)) (row r) (lane h d) * ki (K (up s)) (A (up s)) (row s) (lane h d) : ℝ) : EReal) := by
      intro s
      rw [← sum_head (fun d => if hd d = h then qd (Q (up r)) (A (up r)) (row r) d * ki (K (up s)) (A (up s)) (row s) d else 0) h
        (fun h' d hh => by rw [hd_lane, if_neg hh]) |>.trans (Finset.sum_congr rfl fun d _ => by rw [hd_lane, if_pos rfl]), ← sum_coe]
      refine Finset.sum_congr rfl fun d _ => ?_
      rw [hw]
      by_cases hd' : hd d = h
      · rw [if_pos hd', if_pos hd', sel1, h55 r d, h60 s d, ← EReal.coe_mul]
      · rw [if_neg hd', if_neg hd', sel0, EReal.coe_zero]
    have term : ∀ s : Fin 512, Scalar.select (w j) (Scalar.select (v70 (ix2 r s)) ((∑ d : Fin 256, Scalar.select (w d) (v55 (ix2 r d) * v60 (ix2 s d) : EReal) 0) * v10 (ix2 s j)) 0) 0 =
        ((W (up s) (row s) j * (if up s = up r ∧ row s ≤ row r then ∑ d : Fin 64, qd (Q (up r)) (A (up r)) (row r) (lane h d) * ki (K (up s)) (A (up s)) (row s) (lane h d) else 0) : ℝ) : EReal) := by
      intro s
      rw [inner, hw, if_pos hj, sel1, h70]
      by_cases hs : up s = up r ∧ row s ≤ row r
      · rw [if_pos hs, if_pos hs, sel1, h10 s j, ← EReal.coe_mul, mul_comm]
      · rw [if_neg hs, if_neg hs, sel0, mul_zero, EReal.coe_zero]
    rw [Finset.sum_congr rfl fun s _ => term s, sum_coe, if_pos hj]
    congr 1
    rw [sum_chunk _ (up r) (fun u i hu => by rw [up_pos, if_neg (fun q => hu q.1), mul_zero])]
    unfold intra
    refine Finset.sum_congr rfl fun i _ => ?_
    rw [up_pos, row_pos, ← hj, lane_hd]
    simp only [true_and]
  · rw [if_neg hj, EReal.coe_zero]
    refine Finset.sum_eq_zero fun s _ => ?_
    rw [hw, if_neg hj, sel0]

/-- The four heads' results within a chunk. -/
def within (v10 v55 : FVec Ideal S512x256 .f32) (v60 : FVec Ideal S512x256 .bf16) (v70 : IVec S512x512 1) : FVec Ideal S512x256 .f32 :=
  k0_pay34 v10 v55 v60 v70
    (k0_pay30 v10 v55 v60 v70
      (k0_pay26 v10 v55 v60 lanes v70
        (k0_pay23 v10 v55 v60 lanes v70 k0_pay20 64#32 k0_pay21 k0_pay22 (Scalar.cmpi .sgt 64#32 0#32))
        64#32 (k0_pay24 lanes) (k0_pay25 lanes) sign)
      (k0_pay27 lanes) (k0_pay28 lanes) (k0_pay29 lanes) 0#32)
    (k0_pay31 lanes) (k0_pay32 lanes) k0_pay33

theorem start (r : Fin 512) (j : Fin 256) : (k0_pay20 (F := Ideal)) (ix2 r j) = ((0 : ℝ) : EReal) := by
  rw [EReal.coe_zero]
  pointwise [k0_pay20]

theorem within_at (h10 : Is v10 W) (h55 : Is v55 (fun u => qd (Q u) (A u))) (h60 : Is v60 (fun u => ki (K u) (A u))) (h70 : Before v70)
    (r : Fin 512) (j : Fin 256) : within v10 v55 v60 v70 (ix2 r j) =
      (intra (Q (up r)) (K (up r)) (W (up r)) (A (up r)) (row r) (hd j) (ln j) : EReal) := by
  unfold within
  rw [head3, head2, head1, head0, start, adds_at h10 h55 h60 h70 _ 0 word0, adds_at h10 h55 h60 h70 _ 1 word1,
    adds_at h10 h55 h60 h70 _ 2 word2, adds_at h10 h55 h60 h70 _ 3 word3]
  simp only [← EReal.coe_add]
  congr 1
  generalize hd j = h
  fin_cases h <;> simp

end Cert.GlaIdeal.Block
end
-- ==== Proof.GlaTrips.lean ====
module

public import proofs.«01_k».proof.Proof.Gen.GlaRefIdeal.Run
public import proofs.«01_k».proof.Proof.Gen.GlaRefIdeal.Step

/-!
The run of the reference of gated linear attention: its loop over the 64 chunks goes through a sequence of states, each made of
the one before by a pure function, and its result is read off state 64.
-/

@[expose] public section

noncomputable section

namespace Cert.GlaRefIdeal.Trips

open Idealize.ShloMosaic Idealize.ShloMosaic.TcCoe Idealize.SL.Sem Idealize.ShloMosaic.StableHlo
open Cert.GlaRefIdeal Cert.GlaRefIdeal.Gen Cert.GlaRefIdeal.Value
open Cert.GlaRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v33_6) = s.main_v33_6
  f_7 : V0 (Proc.devRef .tc main_v33_7) = s.main_v33_7
  f_0 : V0 (Proc.devRef .tc main_v33_0) = s.main_v33_0
  f_1 : V0 (Proc.devRef .tc main_v33_1) = s.main_v33_1
  f_2 : V0 (Proc.devRef .tc main_v33_2) = s.main_v33_2
  f_3 : V0 (Proc.devRef .tc main_v33_3) = s.main_v33_3
  n_5 : V0 (Proc.devRef .tc main_v33_5) = constantI S_ 32 (BitVec.ofNat 32 j)
  k_4 : V0 (Proc.devRef .tc main_v33_4) = Cert.GlaRefIdeal.Step.K_main_v16 (F := F)

variable {V0 s j}

set_option maxRecDepth 8192 in
theorem al_0 (h : Holds V0 s j) : (constantI S_ 32 0#32 : (Proc.devRef .tc main_while0b_call1_c : DevRef τ sig).ty.Contents (Elt F)) = Cert.GlaRefIdeal.Step.b0 j s := by
  unfold Cert.GlaRefIdeal.Step.b0
  rfl
set_option maxRecDepth 8192 in
theorem al_1 (h : Holds V0 s j) : (constantI S_ 32 0#32 : (Proc.devRef .tc main_while0b_call1_c_0 : DevRef τ sig).ty.Contents (Elt F)) = Cert.GlaRefIdeal.Step.b1 j s := by
  unfold Cert.GlaRefIdeal.Step.b1
  rfl
set_option maxRecDepth 8192 in
theorem al_2 (h : Holds V0 s j) : (constantI S_ 32 0#32 : (Proc.devRef .tc main_while0b_call1_c_1 : DevRef τ sig).ty.Contents (Elt F)) = Cert.GlaRefIdeal.Step.b2 j s := by
  unfold Cert.GlaRefIdeal.Step.b2
  rfl
set_option maxRecDepth 8192 in
theorem al_3 (h : Holds V0 s j) : (constantI S_ 32 0#32 : (Proc.devRef .tc main_while0b_call1_c_2 : DevRef τ sig).ty.Contents (Elt F)) = Cert.GlaRefIdeal.Step.b3 j s := by
  unfold Cert.GlaRefIdeal.Step.b3
  rfl
set_option maxRecDepth 8192 in
theorem al_4 (h : Holds V0 s j) : (Host.dynamicSlice S1x8x64x4x64 (V0 (Proc.devRef .tc main_v33_0)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x64x4x64_S1x8x64x4x64 : (Proc.devRef .tc main_while0b_call1_v0 : DevRef τ sig).ty.Contents (Elt F)) = Cert.GlaRefIdeal.Step.b4 j s := by
  unfold Cert.GlaRefIdeal.Step.b4
  rw [← al_0 h, ← al_1 h, ← al_2 h, ← al_3 h, h.f_0, h.n_5]
  try rfl
set_option maxRecDepth 8192 in
theorem al_5 (h : Holds V0 s j) : (shapeCast S8x64x4x64 (Host.dynamicSlice S1x8x64x4x64 (V0 (Proc.devRef .tc main_v33_0)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x64x4x64_S1x8x64x4x64) shapeCasts_S1x8x64x4x64_S8x64x4x64 : (Proc.devRef .tc main_while0b_v55 : DevRef τ sig).ty.Contents (Elt F)) = Cert.GlaRefIdeal.Step.b5 j s := by
  unfold Cert.GlaRefIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.GlaRefIdeal.Step.b6 j s := by
  unfold Cert.GlaRefIdeal.Step.b6
  rfl
set_option maxRecDepth 8192 in
theorem al_7 (h : Holds V0 s j) : (constantI S_ 32 0#32 : (Proc.devRef .tc main_while0b_call2_c_0 : DevRef τ sig).ty.Contents (Elt F)) = Cert.GlaRefIdeal.Step.b7 j s := by
  unfold Cert.GlaRefIdeal.Step.b7
  rfl
set_option maxRecDepth 8192 in
theorem al_8 (h : Holds V0 s j) : (constantI S_ 32 0#32 : (Proc.devRef .tc main_while0b_call2_c_1 : DevRef τ sig).ty.Contents (Elt F)) = Cert.GlaRefIdeal.Step.b8 j s := by
  unfold Cert.GlaRefIdeal.Step.b8
  rfl
set_option maxRecDepth 8192 in
theorem al_9 (h : Holds V0 s j) : (constantI S_ 32 0#32 : (Proc.devRef .tc main_while0b_call2_c_2 : DevRef τ sig).ty.Contents (Elt F)) = Cert.GlaRefIdeal.Step.b9 j s := by
  unfold Cert.GlaRefIdeal.Step.b9
  rfl
set_option maxRecDepth 8192 in
theorem al_10 (h : Holds V0 s j) : (Host.dynamicSlice S1x8x64x4x64 (V0 (Proc.devRef .tc main_v33_1)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x64x4x64_S1x8x64x4x64 : (Proc.devRef .tc main_while0b_call2_v0 : DevRef τ sig).ty.Contents (Elt F)) = Cert.GlaRefIdeal.Step.b10 j s := by
  unfold Cert.GlaRefIdeal.Step.b10
  rw [← al_6 h, ← al_7 h, ← al_8 h, ← al_9 h, h.f_1, h.n_5]
  try rfl
set_option maxRecDepth 8192 in
theorem al_11 (h : Holds V0 s j) : (res_main_while0b_v56 V0 : (Proc.devRef .tc main_while0b_v56 : DevRef τ sig).ty.Contents (Elt F)) = Cert.GlaRefIdeal.Step.b11 j s := by
  unfold res_main_while0b_v56 Cert.GlaRefIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.GlaRefIdeal.Step.b12 j s := by
  unfold Cert.GlaRefIdeal.Step.b12
  rfl
set_option maxRecDepth 8192 in
theorem al_13 (h : Holds V0 s j) : (constantI S_ 32 0#32 : (Proc.devRef .tc main_while0b_call3_c_0 : DevRef τ sig).ty.Contents (Elt F)) = Cert.GlaRefIdeal.Step.b13 j s := by
  unfold Cert.GlaRefIdeal.Step.b13
  rfl
set_option maxRecDepth 8192 in
theorem al_14 (h : Holds V0 s j) : (constantI S_ 32 0#32 : (Proc.devRef .tc main_while0b_call3_c_1 : DevRef τ sig).ty.Contents (Elt F)) = Cert.GlaRefIdeal.Step.b14 j s := by
  unfold Cert.GlaRefIdeal.Step.b14
  rfl
set_option maxRecDepth 8192 in
theorem al_15 (h : Holds V0 s j) : (constantI S_ 32 0#32 : (Proc.devRef .tc main_while0b_call3_c_2 : DevRef τ sig).ty.Contents (Elt F)) = Cert.GlaRefIdeal.Step.b15 j s := by
  unfold Cert.GlaRefIdeal.Step.b15
  rfl
set_option maxRecDepth 8192 in
theorem al_16 (h : Holds V0 s j) : (Host.dynamicSlice S1x8x64x4x64 (V0 (Proc.devRef .tc main_v33_2)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x64x4x64_S1x8x64x4x64 : (Proc.devRef .tc main_while0b_call3_v0 : DevRef τ sig).ty.Contents (Elt F)) = Cert.GlaRefIdeal.Step.b16 j s := by
  unfold Cert.GlaRefIdeal.Step.b16
  rw [← al_12 h, ← al_13 h, ← al_14 h, ← al_15 h, h.f_2, h.n_5]
  try rfl
set_option maxRecDepth 8192 in
theorem al_17 (h : Holds V0 s j) : (res_main_while0b_v57 V0 : (Proc.devRef .tc main_while0b_v57 : DevRef τ sig).ty.Contents (Elt F)) = Cert.GlaRefIdeal.Step.b17 j s := by
  unfold res_main_while0b_v57 Cert.GlaRefIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.GlaRefIdeal.Step.b18 j s := by
  unfold Cert.GlaRefIdeal.Step.b18
  rfl
set_option maxRecDepth 8192 in
theorem al_19 (h : Holds V0 s j) : (constantI S_ 32 0#32 : (Proc.devRef .tc main_while0b_call4_c_0 : DevRef τ sig).ty.Contents (Elt F)) = Cert.GlaRefIdeal.Step.b19 j s := by
  unfold Cert.GlaRefIdeal.Step.b19
  rfl
set_option maxRecDepth 8192 in
theorem al_20 (h : Holds V0 s j) : (constantI S_ 32 0#32 : (Proc.devRef .tc main_while0b_call4_c_1 : DevRef τ sig).ty.Contents (Elt F)) = Cert.GlaRefIdeal.Step.b20 j s := by
  unfold Cert.GlaRefIdeal.Step.b20
  rfl
set_option maxRecDepth 8192 in
theorem al_21 (h : Holds V0 s j) : (constantI S_ 32 0#32 : (Proc.devRef .tc main_while0b_call4_c_2 : DevRef τ sig).ty.Contents (Elt F)) = Cert.GlaRefIdeal.Step.b21 j s := by
  unfold Cert.GlaRefIdeal.Step.b21
  rfl
set_option maxRecDepth 8192 in
theorem al_22 (h : Holds V0 s j) : (Host.dynamicSlice S1x8x64x4x64 (V0 (Proc.devRef .tc main_v33_3)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x64x4x64_S1x8x64x4x64 : (Proc.devRef .tc main_while0b_call4_v0 : DevRef τ sig).ty.Contents (Elt F)) = Cert.GlaRefIdeal.Step.b22 j s := by
  unfold Cert.GlaRefIdeal.Step.b22
  rw [← al_18 h, ← al_19 h, ← al_20 h, ← al_21 h, h.f_3, h.n_5]
  try rfl
set_option maxRecDepth 8192 in
theorem al_23 (h : Holds V0 s j) : (shapeCast S8x64x4x64 (Host.dynamicSlice S1x8x64x4x64 (V0 (Proc.devRef .tc main_v33_3)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x64x4x64_S1x8x64x4x64) shapeCasts_S1x8x64x4x64_S8x64x4x64 : (Proc.devRef .tc main_while0b_v58 : DevRef τ sig).ty.Contents (Elt F)) = Cert.GlaRefIdeal.Step.b23 j s := by
  unfold Cert.GlaRefIdeal.Step.b23
  rw [← al_22 h]
  try rfl
set_option maxRecDepth 8192 in
theorem al_24 (h : Holds V0 s j) : (constant S_ .f32 0x00000000#32 : (Proc.devRef .tc main_while0b_call5_call0_cst : DevRef τ sig).ty.Contents (Elt F)) = Cert.GlaRefIdeal.Step.b24 j s := by
  unfold Cert.GlaRefIdeal.Step.b24
  rfl
set_option maxRecDepth 8192 in
theorem al_25 (h : Holds V0 s j) : (broadcastInDim S_ ![] bcast_S_S_ (constant S_ .f32 0x00000000#32) : (Proc.devRef .tc main_while0b_call5_call0_v0 : DevRef τ sig).ty.Contents (Elt F)) = Cert.GlaRefIdeal.Step.b25 j s := by
  unfold Cert.GlaRefIdeal.Step.b25
  rw [← al_24 h]
  try rfl
set_option maxRecDepth 8192 in
theorem al_26 (h : Holds V0 s j) : (res_main_while0b_v59 V0 : (Proc.devRef .tc main_while0b_v59 : DevRef τ sig).ty.Contents (Elt F)) = Cert.GlaRefIdeal.Step.b26 j s := by
  unfold res_main_while0b_v59 Cert.GlaRefIdeal.Step.b26
  rw [← al_23 h, ← al_25 h]
  try rfl
set_option maxRecDepth 8192 in
theorem al_27 (h : Holds V0 s j) : (res_main_while0b_v60 V0 : (Proc.devRef .tc main_while0b_v60 : DevRef τ sig).ty.Contents (Elt F)) = Cert.GlaRefIdeal.Step.b27 j s := by
  unfold res_main_while0b_v60 Cert.GlaRefIdeal.Step.b27
  rw [← al_26 h]
  try rfl
set_option maxRecDepth 8192 in
theorem al_28 (h : Holds V0 s j) : (constant S_ .f32 0x3E000000#32 : (Proc.devRef .tc main_while0b_cst_15 : DevRef τ sig).ty.Contents (Elt F)) = Cert.GlaRefIdeal.Step.b28 j s := by
  unfold Cert.GlaRefIdeal.Step.b28
  rfl
set_option maxRecDepth 8192 in
theorem al_29 (h : Holds V0 s j) : (broadcastInDim S8x64x4x64 ![] bcast_S_S8x64x4x64 (constant S_ .f32 0x3E000000#32) : (Proc.devRef .tc main_while0b_v61 : DevRef τ sig).ty.Contents (Elt F)) = Cert.GlaRefIdeal.Step.b29 j s := by
  unfold Cert.GlaRefIdeal.Step.b29
  rw [← al_28 h]
  try rfl
set_option maxRecDepth 8192 in
theorem al_30 (h : Holds V0 s j) : (mulf (shapeCast S8x64x4x64 (Host.dynamicSlice S1x8x64x4x64 (V0 (Proc.devRef .tc main_v33_0)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x64x4x64_S1x8x64x4x64) shapeCasts_S1x8x64x4x64_S8x64x4x64) (broadcastInDim S8x64x4x64 ![] bcast_S_S8x64x4x64 (constant S_ .f32 0x3E000000#32)) : (Proc.devRef .tc main_while0b_v62 : DevRef τ sig).ty.Contents (Elt F)) = Cert.GlaRefIdeal.Step.b30 j s := by
  unfold Cert.GlaRefIdeal.Step.b30
  rw [← al_5 h, ← al_29 h]
  try rfl
set_option maxRecDepth 8192 in
theorem al_31 (h : Holds V0 s j) : (Host.exp (res_main_while0b_v59 V0) : (Proc.devRef .tc main_while0b_v63 : DevRef τ sig).ty.Contents (Elt F)) = Cert.GlaRefIdeal.Step.b31 j s := by
  unfold Cert.GlaRefIdeal.Step.b31
  rw [← al_26 h]
  try rfl
set_option maxRecDepth 8192 in
theorem al_32 (h : Holds V0 s j) : (res_main_while0b_v64 V0 : (Proc.devRef .tc main_while0b_v64 : DevRef τ sig).ty.Contents (Elt F)) = Cert.GlaRefIdeal.Step.b32 j s := by
  unfold res_main_while0b_v64 Cert.GlaRefIdeal.Step.b32
  rw [← al_30 h, ← al_31 h]
  try rfl
set_option maxRecDepth 8192 in
theorem al_33 (h : Holds V0 s j) : (Host.negf (res_main_while0b_v59 V0) : (Proc.devRef .tc main_while0b_v65 : DevRef τ sig).ty.Contents (Elt F)) = Cert.GlaRefIdeal.Step.b33 j s := by
  unfold Cert.GlaRefIdeal.Step.b33
  rw [← al_26 h]
  try rfl
set_option maxRecDepth 8192 in
theorem al_34 (h : Holds V0 s j) : (Host.exp (Host.negf (res_main_while0b_v59 V0)) : (Proc.devRef .tc main_while0b_v66 : DevRef τ sig).ty.Contents (Elt F)) = Cert.GlaRefIdeal.Step.b34 j s := by
  unfold Cert.GlaRefIdeal.Step.b34
  rw [← al_33 h]
  try rfl
set_option maxRecDepth 8192 in
theorem al_35 (h : Holds V0 s j) : (mulf (res_main_while0b_v56 V0) (Host.exp (Host.negf (res_main_while0b_v59 V0))) : (Proc.devRef .tc main_while0b_v67 : DevRef τ sig).ty.Contents (Elt F)) = Cert.GlaRefIdeal.Step.b35 j s := by
  unfold Cert.GlaRefIdeal.Step.b35
  rw [← al_11 h, ← al_34 h]
  try rfl
set_option maxRecDepth 8192 in
theorem al_36 (h : Holds V0 s j) : (broadcastInDim S8x64x4x64 ![0, 1, 2, 3] bcast_S8x1x4x64_S8x64x4x64_0_1_2_3 (res_main_while0b_v60 V0) : (Proc.devRef .tc main_while0b_v68 : DevRef τ sig).ty.Contents (Elt F)) = Cert.GlaRefIdeal.Step.b36 j s := by
  unfold Cert.GlaRefIdeal.Step.b36
  rw [← al_27 h]
  try rfl
set_option maxRecDepth 8192 in
theorem al_37 (h : Holds V0 s j) : (subf (broadcastInDim S8x64x4x64 ![0, 1, 2, 3] bcast_S8x1x4x64_S8x64x4x64_0_1_2_3 (res_main_while0b_v60 V0)) (res_main_while0b_v59 V0) : (Proc.devRef .tc main_while0b_v69 : DevRef τ sig).ty.Contents (Elt F)) = Cert.GlaRefIdeal.Step.b37 j s := by
  unfold Cert.GlaRefIdeal.Step.b37
  rw [← al_36 h, ← al_26 h]
  try rfl
set_option maxRecDepth 8192 in
theorem al_38 (h : Holds V0 s j) : (Host.exp (subf (broadcastInDim S8x64x4x64 ![0, 1, 2, 3] bcast_S8x1x4x64_S8x64x4x64_0_1_2_3 (res_main_while0b_v60 V0)) (res_main_while0b_v59 V0)) : (Proc.devRef .tc main_while0b_v70 : DevRef τ sig).ty.Contents (Elt F)) = Cert.GlaRefIdeal.Step.b38 j s := by
  unfold Cert.GlaRefIdeal.Step.b38
  rw [← al_37 h]
  try rfl
set_option maxRecDepth 8192 in
theorem al_39 (h : Holds V0 s j) : (mulf (res_main_while0b_v56 V0) (Host.exp (subf (broadcastInDim S8x64x4x64 ![0, 1, 2, 3] bcast_S8x1x4x64_S8x64x4x64_0_1_2_3 (res_main_while0b_v60 V0)) (res_main_while0b_v59 V0))) : (Proc.devRef .tc main_while0b_v71 : DevRef τ sig).ty.Contents (Elt F)) = Cert.GlaRefIdeal.Step.b39 j s := by
  unfold Cert.GlaRefIdeal.Step.b39
  rw [← al_11 h, ← al_38 h]
  try rfl
set_option maxRecDepth 8192 in
theorem al_40 (h : Holds V0 s j) : (Host.dotGeneral dot_S8x64x4x64_S8x64x4x64_S8x4x64x64_3_3_1_1_02_02 none (res_main_while0b_v64 V0) (mulf (res_main_while0b_v56 V0) (Host.exp (Host.negf (res_main_while0b_v59 V0)))) : (Proc.devRef .tc main_while0b_v72 : DevRef τ sig).ty.Contents (Elt F)) = Cert.GlaRefIdeal.Step.b40 j s := by
  unfold Cert.GlaRefIdeal.Step.b40
  rw [← al_32 h, ← al_35 h]
  try rfl
set_option maxRecDepth 8192 in
theorem al_41 (h : Holds V0 s j) : (constant S_ .f32 0x00000000#32 : (Proc.devRef .tc main_while0b_cst_16 : DevRef τ sig).ty.Contents (Elt F)) = Cert.GlaRefIdeal.Step.b41 j s := by
  unfold Cert.GlaRefIdeal.Step.b41
  rfl
set_option maxRecDepth 8192 in
theorem al_42 (h : Holds V0 s j) : (id (constant S_ .f32 0x00000000#32) : (Proc.devRef .tc main_while0b_call6_v0 : DevRef τ sig).ty.Contents (Elt F)) = Cert.GlaRefIdeal.Step.b42 j s := by
  unfold Cert.GlaRefIdeal.Step.b42
  rw [← al_41 h]
  try rfl
set_option maxRecDepth 8192 in
theorem al_43 (h : Holds V0 s j) : (broadcastInDim S8x4x64x64 ![2, 3] bcast_S64x64_S8x4x64x64_2_3 (V0 (Proc.devRef .tc main_v33_4)) : (Proc.devRef .tc main_while0b_call6_v1 : DevRef τ sig).ty.Contents (Elt F)) = Cert.GlaRefIdeal.Step.b43 j s := by
  unfold Cert.GlaRefIdeal.Step.b43
  rw [h.k_4]
  try rfl
set_option maxRecDepth 8192 in
theorem al_44 (h : Holds V0 s j) : (broadcastInDim S8x4x64x64 ![] bcast_S_S8x4x64x64 (id (constant S_ .f32 0x00000000#32)) : (Proc.devRef .tc main_while0b_call6_v2 : DevRef τ sig).ty.Contents (Elt F)) = Cert.GlaRefIdeal.Step.b44 j s := by
  unfold Cert.GlaRefIdeal.Step.b44
  rw [← al_42 h]
  try rfl
set_option maxRecDepth 8192 in
theorem al_45 (h : Holds V0 s j) : (select (broadcastInDim S8x4x64x64 ![2, 3] bcast_S64x64_S8x4x64x64_2_3 (V0 (Proc.devRef .tc main_v33_4))) (Host.dotGeneral dot_S8x64x4x64_S8x64x4x64_S8x4x64x64_3_3_1_1_02_02 none (res_main_while0b_v64 V0) (mulf (res_main_while0b_v56 V0) (Host.exp (Host.negf (res_main_while0b_v59 V0))))) (broadcastInDim S8x4x64x64 ![] bcast_S_S8x4x64x64 (id (constant S_ .f32 0x00000000#32))) : (Proc.devRef .tc main_while0b_v73 : DevRef τ sig).ty.Contents (Elt F)) = Cert.GlaRefIdeal.Step.b45 j s := by
  unfold Cert.GlaRefIdeal.Step.b45
  rw [← al_43 h, ← al_40 h, ← al_44 h]
  try rfl
set_option maxRecDepth 8192 in
theorem al_46 (h : Holds V0 s j) : (Host.dotGeneral dot_S8x64x4x64_S8x4x64x64_S8x4x64x64_1_3_3_2_02_01 none (res_main_while0b_v57 V0) (select (broadcastInDim S8x4x64x64 ![2, 3] bcast_S64x64_S8x4x64x64_2_3 (V0 (Proc.devRef .tc main_v33_4))) (Host.dotGeneral dot_S8x64x4x64_S8x64x4x64_S8x4x64x64_3_3_1_1_02_02 none (res_main_while0b_v64 V0) (mulf (res_main_while0b_v56 V0) (Host.exp (Host.negf (res_main_while0b_v59 V0))))) (broadcastInDim S8x4x64x64 ![] bcast_S_S8x4x64x64 (id (constant S_ .f32 0x00000000#32)))) : (Proc.devRef .tc main_while0b_v74 : DevRef τ sig).ty.Contents (Elt F)) = Cert.GlaRefIdeal.Step.b46 j s := by
  unfold Cert.GlaRefIdeal.Step.b46
  rw [← al_17 h, ← al_45 h]
  try rfl
set_option maxRecDepth 8192 in
theorem al_47 (h : Holds V0 s j) : (transpose S8x64x4x64 [0, 3, 1, 2] (Host.dotGeneral dot_S8x64x4x64_S8x4x64x64_S8x4x64x64_1_3_3_2_02_01 none (res_main_while0b_v57 V0) (select (broadcastInDim S8x4x64x64 ![2, 3] bcast_S64x64_S8x4x64x64_2_3 (V0 (Proc.devRef .tc main_v33_4))) (Host.dotGeneral dot_S8x64x4x64_S8x64x4x64_S8x4x64x64_3_3_1_1_02_02 none (res_main_while0b_v64 V0) (mulf (res_main_while0b_v56 V0) (Host.exp (Host.negf (res_main_while0b_v59 V0))))) (broadcastInDim S8x4x64x64 ![] bcast_S_S8x4x64x64 (id (constant S_ .f32 0x00000000#32))))) transposes_S8x4x64x64_S8x64x4x64_0_3_1_2 : (Proc.devRef .tc main_while0b_v75 : DevRef τ sig).ty.Contents (Elt F)) = Cert.GlaRefIdeal.Step.b47 j s := by
  unfold Cert.GlaRefIdeal.Step.b47
  rw [← al_46 h]
  try rfl
set_option maxRecDepth 8192 in
theorem al_48 (h : Holds V0 s j) : (Host.dotGeneral dot_S8x4x64x64_S8x64x4x64_S8x4x64x64_2_3_3_1_01_02 none (V0 (Proc.devRef .tc main_v33_6)) (res_main_while0b_v64 V0) : (Proc.devRef .tc main_while0b_v76 : DevRef τ sig).ty.Contents (Elt F)) = Cert.GlaRefIdeal.Step.b48 j s := by
  unfold Cert.GlaRefIdeal.Step.b48
  rw [← al_32 h, h.f_6]
  try rfl
set_option maxRecDepth 8192 in
theorem al_49 (h : Holds V0 s j) : (transpose S8x64x4x64 [0, 3, 1, 2] (Host.dotGeneral dot_S8x4x64x64_S8x64x4x64_S8x4x64x64_2_3_3_1_01_02 none (V0 (Proc.devRef .tc main_v33_6)) (res_main_while0b_v64 V0)) transposes_S8x4x64x64_S8x64x4x64_0_3_1_2 : (Proc.devRef .tc main_while0b_v77 : DevRef τ sig).ty.Contents (Elt F)) = Cert.GlaRefIdeal.Step.b49 j s := by
  unfold Cert.GlaRefIdeal.Step.b49
  rw [← al_48 h]
  try rfl
set_option maxRecDepth 8192 in
theorem al_50 (h : Holds V0 s j) : (addf (transpose S8x64x4x64 [0, 3, 1, 2] (Host.dotGeneral dot_S8x64x4x64_S8x4x64x64_S8x4x64x64_1_3_3_2_02_01 none (res_main_while0b_v57 V0) (select (broadcastInDim S8x4x64x64 ![2, 3] bcast_S64x64_S8x4x64x64_2_3 (V0 (Proc.devRef .tc main_v33_4))) (Host.dotGeneral dot_S8x64x4x64_S8x64x4x64_S8x4x64x64_3_3_1_1_02_02 none (res_main_while0b_v64 V0) (mulf (res_main_while0b_v56 V0) (Host.exp (Host.negf (res_main_while0b_v59 V0))))) (broadcastInDim S8x4x64x64 ![] bcast_S_S8x4x64x64 (id (constant S_ .f32 0x00000000#32))))) transposes_S8x4x64x64_S8x64x4x64_0_3_1_2) (transpose S8x64x4x64 [0, 3, 1, 2] (Host.dotGeneral dot_S8x4x64x64_S8x64x4x64_S8x4x64x64_2_3_3_1_01_02 none (V0 (Proc.devRef .tc main_v33_6)) (res_main_while0b_v64 V0)) transposes_S8x4x64x64_S8x64x4x64_0_3_1_2) : (Proc.devRef .tc main_while0b_v78 : DevRef τ sig).ty.Contents (Elt F)) = Cert.GlaRefIdeal.Step.b50 j s := by
  unfold Cert.GlaRefIdeal.Step.b50
  rw [← al_47 h, ← al_49 h]
  try rfl
set_option maxRecDepth 8192 in
theorem al_51 (h : Holds V0 s j) : (shapeCast S8x4x64 (res_main_while0b_v60 V0) shapeCasts_S8x1x4x64_S8x4x64 : (Proc.devRef .tc main_while0b_v79 : DevRef τ sig).ty.Contents (Elt F)) = Cert.GlaRefIdeal.Step.b51 j s := by
  unfold Cert.GlaRefIdeal.Step.b51
  rw [← al_27 h]
  try rfl
set_option maxRecDepth 8192 in
theorem al_52 (h : Holds V0 s j) : (Host.exp (shapeCast S8x4x64 (res_main_while0b_v60 V0) shapeCasts_S8x1x4x64_S8x4x64) : (Proc.devRef .tc main_while0b_v80 : DevRef τ sig).ty.Contents (Elt F)) = Cert.GlaRefIdeal.Step.b52 j s := by
  unfold Cert.GlaRefIdeal.Step.b52
  rw [← al_51 h]
  try rfl
set_option maxRecDepth 8192 in
theorem al_53 (h : Holds V0 s j) : (broadcastInDim S8x4x64x1 ![0, 1, 2] bcast_S8x4x64_S8x4x64x1_0_1_2 (Host.exp (shapeCast S8x4x64 (res_main_while0b_v60 V0) shapeCasts_S8x1x4x64_S8x4x64)) : (Proc.devRef .tc main_while0b_v81 : DevRef τ sig).ty.Contents (Elt F)) = Cert.GlaRefIdeal.Step.b53 j s := by
  unfold Cert.GlaRefIdeal.Step.b53
  rw [← al_52 h]
  try rfl
set_option maxRecDepth 8192 in
theorem al_54 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (Host.exp (shapeCast S8x4x64 (res_main_while0b_v60 V0) shapeCasts_S8x1x4x64_S8x4x64))) : (Proc.devRef .tc main_while0b_v82 : DevRef τ sig).ty.Contents (Elt F)) = Cert.GlaRefIdeal.Step.b54 j s := by
  unfold Cert.GlaRefIdeal.Step.b54
  rw [← al_53 h]
  try rfl
set_option maxRecDepth 8192 in
theorem al_55 (h : Holds V0 s j) : (mulf (V0 (Proc.devRef .tc main_v33_6)) (broadcastInDim S8x4x64x64 ![0, 1, 2, 3] bcast_S8x4x64x1_S8x4x64x64_0_1_2_3 (broadcastInDim S8x4x64x1 ![0, 1, 2] bcast_S8x4x64_S8x4x64x1_0_1_2 (Host.exp (shapeCast S8x4x64 (res_main_while0b_v60 V0) shapeCasts_S8x1x4x64_S8x4x64)))) : (Proc.devRef .tc main_while0b_v83 : DevRef τ sig).ty.Contents (Elt F)) = Cert.GlaRefIdeal.Step.b55 j s := by
  unfold Cert.GlaRefIdeal.Step.b55
  rw [← al_54 h, h.f_6]
  try rfl
set_option maxRecDepth 8192 in
theorem al_56 (h : Holds V0 s j) : (Host.dotGeneral dot_S8x64x4x64_S8x64x4x64_S8x4x64x64_1_1_3_3_02_02 none (mulf (res_main_while0b_v56 V0) (Host.exp (subf (broadcastInDim S8x64x4x64 ![0, 1, 2, 3] bcast_S8x1x4x64_S8x64x4x64_0_1_2_3 (res_main_while0b_v60 V0)) (res_main_while0b_v59 V0)))) (res_main_while0b_v57 V0) : (Proc.devRef .tc main_while0b_v84 : DevRef τ sig).ty.Contents (Elt F)) = Cert.GlaRefIdeal.Step.b56 j s := by
  unfold Cert.GlaRefIdeal.Step.b56
  rw [← al_39 h, ← al_17 h]
  try rfl
set_option maxRecDepth 8192 in
theorem al_57 (h : Holds V0 s j) : (addf (mulf (V0 (Proc.devRef .tc main_v33_6)) (broadcastInDim S8x4x64x64 ![0, 1, 2, 3] bcast_S8x4x64x1_S8x4x64x64_0_1_2_3 (broadcastInDim S8x4x64x1 ![0, 1, 2] bcast_S8x4x64_S8x4x64x1_0_1_2 (Host.exp (shapeCast S8x4x64 (res_main_while0b_v60 V0) shapeCasts_S8x1x4x64_S8x4x64))))) (Host.dotGeneral dot_S8x64x4x64_S8x64x4x64_S8x4x64x64_1_1_3_3_02_02 none (mulf (res_main_while0b_v56 V0) (Host.exp (subf (broadcastInDim S8x64x4x64 ![0, 1, 2, 3] bcast_S8x1x4x64_S8x64x4x64_0_1_2_3 (res_main_while0b_v60 V0)) (res_main_while0b_v59 V0)))) (res_main_while0b_v57 V0)) : (Proc.devRef .tc main_while0b_v85 : DevRef τ sig).ty.Contents (Elt F)) = Cert.GlaRefIdeal.Step.b57 j s := by
  unfold Cert.GlaRefIdeal.Step.b57
  rw [← al_55 h, ← al_56 h]
  try rfl
set_option maxRecDepth 8192 in
theorem al_58 (h : Holds V0 s j) : (broadcastInDim S1x8x64x4x64 ![1, 2, 3, 4] bcast_S8x64x4x64_S1x8x64x4x64_1_2_3_4 (addf (transpose S8x64x4x64 [0, 3, 1, 2] (Host.dotGeneral dot_S8x64x4x64_S8x4x64x64_S8x4x64x64_1_3_3_2_02_01 none (res_main_while0b_v57 V0) (select (broadcastInDim S8x4x64x64 ![2, 3] bcast_S64x64_S8x4x64x64_2_3 (V0 (Proc.devRef .tc main_v33_4))) (Host.dotGeneral dot_S8x64x4x64_S8x64x4x64_S8x4x64x64_3_3_1_1_02_02 none (res_main_while0b_v64 V0) (mulf (res_main_while0b_v56 V0) (Host.exp (Host.negf (res_main_while0b_v59 V0))))) (broadcastInDim S8x4x64x64 ![] bcast_S_S8x4x64x64 (id (constant S_ .f32 0x00000000#32))))) transposes_S8x4x64x64_S8x64x4x64_0_3_1_2) (transpose S8x64x4x64 [0, 3, 1, 2] (Host.dotGeneral dot_S8x4x64x64_S8x64x4x64_S8x4x64x64_2_3_3_1_01_02 none (V0 (Proc.devRef .tc main_v33_6)) (res_main_while0b_v64 V0)) transposes_S8x4x64x64_S8x64x4x64_0_3_1_2)) : (Proc.devRef .tc main_while0b_call7_v0 : DevRef τ sig).ty.Contents (Elt F)) = Cert.GlaRefIdeal.Step.b58 j s := by
  unfold Cert.GlaRefIdeal.Step.b58
  rw [← al_50 h]
  try rfl
set_option maxRecDepth 8192 in
theorem al_59 (h : Holds V0 s j) : (constantI S_ 32 0#32 : (Proc.devRef .tc main_while0b_call7_c : DevRef τ sig).ty.Contents (Elt F)) = Cert.GlaRefIdeal.Step.b59 j s := by
  unfold Cert.GlaRefIdeal.Step.b59
  rfl
set_option maxRecDepth 8192 in
theorem al_60 (h : Holds V0 s j) : (constantI S_ 32 0#32 : (Proc.devRef .tc main_while0b_call7_c_0 : DevRef τ sig).ty.Contents (Elt F)) = Cert.GlaRefIdeal.Step.b60 j s := by
  unfold Cert.GlaRefIdeal.Step.b60
  rfl
set_option maxRecDepth 8192 in
theorem al_61 (h : Holds V0 s j) : (constantI S_ 32 0#32 : (Proc.devRef .tc main_while0b_call7_c_1 : DevRef τ sig).ty.Contents (Elt F)) = Cert.GlaRefIdeal.Step.b61 j s := by
  unfold Cert.GlaRefIdeal.Step.b61
  rfl
set_option maxRecDepth 8192 in
theorem al_62 (h : Holds V0 s j) : (constantI S_ 32 0#32 : (Proc.devRef .tc main_while0b_call7_c_2 : DevRef τ sig).ty.Contents (Elt F)) = Cert.GlaRefIdeal.Step.b62 j s := by
  unfold Cert.GlaRefIdeal.Step.b62
  rfl
set_option maxRecDepth 8192 in
theorem al_63 (h : Holds V0 s j) : (Host.dynamicUpdateSlice (V0 (Proc.devRef .tc main_v33_7)) (broadcastInDim S1x8x64x4x64 ![1, 2, 3, 4] bcast_S8x64x4x64_S1x8x64x4x64_1_2_3_4 (addf (transpose S8x64x4x64 [0, 3, 1, 2] (Host.dotGeneral dot_S8x64x4x64_S8x4x64x64_S8x4x64x64_1_3_3_2_02_01 none (res_main_while0b_v57 V0) (select (broadcastInDim S8x4x64x64 ![2, 3] bcast_S64x64_S8x4x64x64_2_3 (V0 (Proc.devRef .tc main_v33_4))) (Host.dotGeneral dot_S8x64x4x64_S8x64x4x64_S8x4x64x64_3_3_1_1_02_02 none (res_main_while0b_v64 V0) (mulf (res_main_while0b_v56 V0) (Host.exp (Host.negf (res_main_while0b_v59 V0))))) (broadcastInDim S8x4x64x64 ![] bcast_S_S8x4x64x64 (id (constant S_ .f32 0x00000000#32))))) transposes_S8x4x64x64_S8x64x4x64_0_3_1_2) (transpose S8x64x4x64 [0, 3, 1, 2] (Host.dotGeneral dot_S8x4x64x64_S8x64x4x64_S8x4x64x64_2_3_3_1_01_02 none (V0 (Proc.devRef .tc main_v33_6)) (res_main_while0b_v64 V0)) transposes_S8x4x64x64_S8x64x4x64_0_3_1_2))) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) updateFits_S64x8x64x4x64_S1x8x64x4x64 : (Proc.devRef .tc main_while0b_v86 : DevRef τ sig).ty.Contents (Elt F)) = Cert.GlaRefIdeal.Step.b63 j s := by
  unfold Cert.GlaRefIdeal.Step.b63
  rw [← al_58 h, ← al_59 h, ← al_60 h, ← al_61 h, ← al_62 h, h.f_7, h.n_5]
  try rfl

/-! One trip's step of the carried values is `step`, field by field; a counter steps to the next number. -/

theorem step_6 (h : Holds V0 s j) : step_main_v33_6 V0 = (step j s).main_v33_6 := by
  unfold step_main_v33_6 Cert.GlaRefIdeal.Step.step
  show id (addf (mulf (V0 (Proc.devRef .tc main_v33_6)) (broadcastInDim S8x4x64x64 ![0, 1, 2, 3] bcast_S8x4x64x1_S8x4x64x64_0_1_2_3 (broadcastInDim S8x4x64x1 ![0, 1, 2] bcast_S8x4x64_S8x4x64x1_0_1_2 (Host.exp (shapeCast S8x4x64 (res_main_while0b_v60 V0) shapeCasts_S8x1x4x64_S8x4x64))))) (Host.dotGeneral dot_S8x64x4x64_S8x64x4x64_S8x4x64x64_1_1_3_3_02_02 none (mulf (res_main_while0b_v56 V0) (Host.exp (subf (broadcastInDim S8x64x4x64 ![0, 1, 2, 3] bcast_S8x1x4x64_S8x64x4x64_0_1_2_3 (res_main_while0b_v60 V0)) (res_main_while0b_v59 V0)))) (res_main_while0b_v57 V0))) = _
  rw [al_57 h]
  try rfl
theorem step_7 (h : Holds V0 s j) : step_main_v33_7 V0 = (step j s).main_v33_7 := by
  unfold step_main_v33_7 Cert.GlaRefIdeal.Step.step
  show id (Host.dynamicUpdateSlice (V0 (Proc.devRef .tc main_v33_7)) (broadcastInDim S1x8x64x4x64 ![1, 2, 3, 4] bcast_S8x64x4x64_S1x8x64x4x64_1_2_3_4 (addf (transpose S8x64x4x64 [0, 3, 1, 2] (Host.dotGeneral dot_S8x64x4x64_S8x4x64x64_S8x4x64x64_1_3_3_2_02_01 none (res_main_while0b_v57 V0) (select (broadcastInDim S8x4x64x64 ![2, 3] bcast_S64x64_S8x4x64x64_2_3 (V0 (Proc.devRef .tc main_v33_4))) (Host.dotGeneral dot_S8x64x4x64_S8x64x4x64_S8x4x64x64_3_3_1_1_02_02 none (res_main_while0b_v64 V0) (mulf (res_main_while0b_v56 V0) (Host.exp (Host.negf (res_main_while0b_v59 V0))))) (broadcastInDim S8x4x64x64 ![] bcast_S_S8x4x64x64 (id (constant S_ .f32 0x00000000#32))))) transposes_S8x4x64x64_S8x64x4x64_0_3_1_2) (transpose S8x64x4x64 [0, 3, 1, 2] (Host.dotGeneral dot_S8x4x64x64_S8x64x4x64_S8x4x64x64_2_3_3_1_01_02 none (V0 (Proc.devRef .tc main_v33_6)) (res_main_while0b_v64 V0)) transposes_S8x4x64x64_S8x64x4x64_0_3_1_2))) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) updateFits_S64x8x64x4x64_S1x8x64x4x64) = _
  exact al_63 h
theorem step_5 (h : Holds V0 s j) : step_main_v33_5 V0 = constantI S_ 32 (BitVec.ofNat 32 (j + 1)) := by
  unfold step_main_v33_5
  rw [h.n_5]
  funext i
  show BitVec.ofNat 32 j + 1#32 = BitVec.ofNat 32 (j + 1)
  simp only [BitVec.ofNat_add]

set_option maxRecDepth 8192 in
theorem out_main_v54_holds (h : Holds V0 s j) {x_main_arg0 : (⟨S8x4096x7168, .bf16⟩ : BufTy).Contents (Elt F)} (h_main_arg0 : V0 (Proc.devRef .tc main_arg0) = x_main_arg0) {x_main_arg3 : (⟨S256, .f32⟩ : BufTy).Contents (Elt F)} (h_main_arg3 : V0 (Proc.devRef .tc main_arg3) = x_main_arg3) : out_main_v54 V0 = Cert.GlaRefIdeal.Step.R_main_v54 s x_main_arg0 x_main_arg3 := by
  unfold out_main_v54 Cert.GlaRefIdeal.Step.R_main_v54
  rw [h.f_7, h_main_arg0, h_main_arg3]
  try rfl

/-- One trip keeps the valuation holding: `step` of the state, the same set-up values, the next number. -/
theorem holds_step (h : Holds V0 s j) : Holds (STEP V0) (step j s) (j + 1) where
  f_6 := (STEP_main_v33_6 V0).trans (step_6 h)
  f_7 := (STEP_main_v33_7 V0).trans (step_7 h)
  n_5 := (STEP_main_v33_5 V0).trans (step_5 h)
  k_4 := (STEP_main_v33_4 V0).trans h.k_4
  f_0 := (STEP_main_v33_0 V0).trans h.f_0
  f_1 := (STEP_main_v33_1 V0).trans h.f_1
  f_2 := (STEP_main_v33_2 V0).trans h.f_2
  f_3 := (STEP_main_v33_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GlaRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v54) = Cert.GlaRefIdeal.Step.R_main_v54 (it c 64) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v54_holds hk (iter_main_arg0 m c 64) (iter_main_arg3 m c 64)), (h c).2.1, (h c).2.2.1, (h c).2.2.2.1, (h c).2.2.2.2⟩) (Value.run m ρ)

end Cert.GlaRefIdeal.Trips

end
-- ==== Proof.GlaRef.lean ====
module

public import proofs.«01_k».proof.Proof.GlaMath
public import proofs.«01_k».proof.Proof.GlaTrips

/-!
The reference of gated linear attention, read at an index: what one trip of its loop makes of real numbers.
-/

@[expose] public section

set_option maxRecDepth 16384

noncomputable section

open Idealize.ShloMosaic Idealize.SL.Sem

namespace Cert.GlaRefIdeal.Pure
open Cert.GlaRefIdeal Cert.GlaRefIdeal.Gen Cert.GlaRefIdeal.Step Cert.GlaMath Cert.RouterMath

/-- The pattern of one eighth. -/
theorem eighth : Ideal.ofBits .f32 1040187392#32 = ((1 / 8 : ℝ) : EReal) := by
  simp [Ideal.ofBits, Ideal.ieee]; rw [← EReal.coe_mul]; exact congrArg _ (by norm_num)
/-- The pattern of zero. -/
theorem zero : Ideal.ofBits .f32 0#32 = ((0 : ℝ) : EReal) := by simp [Ideal.ofBits, Ideal.ieee]

theorem word (n : Fin 64) : (BitVec.ofNat 32 n.val).toInt = n.val := by revert n; decide

/-- One chunk of a sequence of chunks. -/
theorem slice_at (x : FVec Ideal S64x8x64x4x64 .f32) (start : Fin 5 → Int) (n : Fin 64) (h0 : start 0 = n.val) (h1 : start 1 = 0)
    (h2 : start 2 = 0) (h3 : start 3 = 0) (h4 : start 4 = 0) (b : Fin 8) (i : Fin 64) (h : Fin 4) (d : Fin 64) :
    Host.dynamicSlice S1x8x64x4x64 x start sliceFits_S64x8x64x4x64_S1x8x64x4x64 (ix5 0 b i h d) = x (ix5 n b i h d) := by
  have hn := n.isLt
  refine (Host.dynamicSlice_apply _ _ _ _).trans (congrArg x ?_)
  funext a
  fin_cases a <;> apply Fin.ext <;>
    simp [Host.clampedStart, h0, h1, h2, h3, h4, ix5, Shape.Idx.norm] <;> omega

variable (n : Fin 64) (s : State Ideal) (b : Fin 8) (i : Fin 64) (h : Fin 4) (d e : Fin 64)

theorem q_at : b5 n.val s (ix4 b i h d) = s.main_v33_0 (ix5 n b i h d) := by
  pointwise [b5]
  unfold b4
  refine slice_at _ _ n ?_ ?_ ?_ ?_ ?_ b i h d
  · exact word n
  all_goals rfl
theorem k_at : b11 n.val s (ix4 b i h d) = s.main_v33_1 (ix5 n b i h d) := by
  pointwise [b11]
  unfold b10
  refine slice_at _ _ n ?_ ?_ ?_ ?_ ?_ b i h d
  · exact word n
  all_goals rfl
theorem v_at : b17 n.val s (ix4 b i h d) = s.main_v33_2 (ix5 n b i h d) := by
  pointwise [b17]
  unfold b16
  refine slice_at _ _ n ?_ ?_ ?_ ?_ ?_ b i h d
  · exact word n
  all_goals rfl
theorem a_at : b23 n.val s (ix4 b i h d) = s.main_v33_3 (ix5 n b i h d) := by
  pointwise [b23]
  unfold b22
  refine slice_at _ _ n ?_ ?_ ?_ ?_ ?_ b i h d
  · exact word n
  all_goals rfl

/-- A sum over a window that ends at a row is the sum of the rows up to it. -/
theorem window_sum (i : Fin 64) (f : ℕ → EReal) : (∑ w : Fin 64, if 63 ≤ i.val + w.val then f (i.val + w.val - 63) else 0) =
    ∑ s : Fin 64, if s ≤ i then f s.val else 0 := by
  rw [← Finset.sum_filter, ← Finset.sum_filter]
  refine Finset.sum_bij' (fun w hw => (⟨i.val + w.val - 63, by omega⟩ : Fin 64))
    (fun s hs => (⟨min (s.val + 63 - i.val) 63, by omega⟩ : Fin 64)) ?_ ?_ ?_ ?_ ?_
  all_goals intro w hw; simp only [Finset.mem_filter, Finset.mem_univ, true_and, Fin.le_def, Fin.ext_iff] at hw ⊢
  all_goals omega

/-- A window's sum is the sum over the window's places. -/
theorem window_eq {s : Shape} (window strides lo hi : Fin s.rank → Nat) {t : Shape}
    (h : s.ReduceWindows window strides lo hi t) (x : s.Idx → EReal) (j : t.Idx) :
    Ideal.hostReduceWindowAdd window strides lo hi h x 0 j = ∑ w : (⟨s.rank, window⟩ : Shape).Idx,
      if hin : ∀ a : Fin s.rank, lo a ≤ (j (a.cast h.1.symm)).val * strides a + (w a).val ∧
        (j (a.cast h.1.symm)).val * strides a + (w a).val - lo a < s.size a then
        x (fun a => ⟨(j (a.cast h.1.symm)).val * strides a + (w a).val - lo a, (hin a).2⟩) else 0 := by
  rw [sum_idx_eq_foldl]
  unfold Ideal.hostReduceWindowAdd Host.reduceWindow
  dsimp only
  refine congrArg (fun f => List.foldl f _ _) (funext fun r => funext fun n => congrArg (r + ·) ?_)
  by_cases hin : ∀ a : Fin s.rank, lo a ≤ (j (a.cast h.1.symm)).val * strides a + ((⟨s.rank, window⟩ : Shape).rowMajor.symm n a).val ∧
        (j (a.cast h.1.symm)).val * strides a + ((⟨s.rank, window⟩ : Shape).rowMajor.symm n a).val - lo a < s.size a
  · rw [dif_pos hin, dif_pos hin]
  · rw [dif_neg hin, dif_neg hin]

/-- The running sum over the rows at an index. -/
theorem cumsum_at (x : FVec Ideal S8x64x4x64 .f32) (v : FVec Ideal S_ .f32) (hv : v (Shape.Idx.first h_S_) = 0) (b : Fin 8) (i : Fin 64) (h : Fin 4) (d : Fin 64) :
    Host.reduceWindowAdd ![1, 64, 1, 1] ![1, 1, 1, 1] ![0, 63, 0, 0] ![0, 0, 0, 0] x v
      reduceWindows_S8x64x4x64_S8x64x4x64_w1s1p0_0_w64s1p63_0_w1s1p0_0_w1s1p0_0 h_S_ (ix4 b i h d) =
    ∑ s : Fin 64, if s ≤ i then x (ix4 b s h d) else 0 := by
  unfold Host.reduceWindowAdd
  simp only [Ideal.hostReduceWindowAdd_def]
  rw [hv, window_eq]
  refine (sum_idx4 (n0 := 1) (n1 := 64) (n2 := 1) (n3 := 1) _).trans ?_
  simp only [Fin.sum_univ_one, Fin.isValue]
  refine Eq.trans ?_ (Eq.trans (window_sum i fun k => if hk : k < 64 then x (ix4 b ⟨k, hk⟩ h d) else 0) ?_)
  · refine Finset.sum_congr rfl fun w _ => ?_
    by_cases hw : 63 ≤ i.val + w.val
    · have hk : i.val + w.val - 63 < 64 := by omega
      rw [if_pos hw, dif_pos hk, dif_pos]
      · refine congrArg x (funext fun a => ?_)
        fin_cases a <;> apply Fin.ext <;> simp [ix4]
      · intro a
        have := b.isLt; have := h.isLt; have := d.isLt
        fin_cases a <;> simp [ix4] <;> omega
    · rw [if_neg hw, dif_neg]
      intro hh
      have := (hh 1).1
      simp [ix4] at this
      omega
  · refine Finset.sum_congr rfl fun w _ => ?_
    rw [dif_pos w.isLt]

/-- What a trip reads is real: its chunk of the queries, keys, values and logarithms of the gates, and the state. -/
structure Reads (q k v a : Fin 8 → Chunk) (S : Fin 8 → St) : Prop where
  hq : ∀ b i h d, s.main_v33_0 (ix5 n b i h d) = (q b i (lane h d) : EReal)
  hk : ∀ b i h d, s.main_v33_1 (ix5 n b i h d) = (k b i (lane h d) : EReal)
  hv : ∀ b i h d, s.main_v33_2 (ix5 n b i h d) = (v b i (lane h d) : EReal)
  ha : ∀ b i h d, s.main_v33_3 (ix5 n b i h d) = (a b i (lane h d) : EReal)
  hs : ∀ b h d e, s.main_v33_6 (ix4 b h d e) = (S b h d e : EReal)

/-- A choice between a real number and zero. -/
theorem ite_coe (p : Prop) [Decidable p] (x : ℝ) : (if p then (x : EReal) else 0) = ((if p then x else 0 : ℝ) : EReal) := by
  split_ifs <;> simp

variable {n s} {q k v a : Fin 8 → Chunk} {S : Fin 8 → St} (R : Reads n s q k v a S)
include R

theorem cum_at : b26 n.val s (ix4 b i h d) = (cum (a b) i (lane h d) : EReal) := by
  unfold b26
  rw [cumsum_at _ _ zero]
  simp only [a_at, R.ha, ite_coe, sum_coe]
  rfl

theorem tot_at : b27 n.val s (ix4 b 0 h d) = (tot (a b) (lane h d) : EReal) := by
  pointwise [b27]
  refine (cum_at b 63 h d R).trans ?_
  rw [cum_last]

theorem qd_at : b32 n.val s (ix4 b i h d) = (qd (q b) (a b) i (lane h d) : EReal) := by
  pointwise [b32, b30, b29, b28, b31]
  rw [q_at, cum_at b i h d R, R.hq, Ideal.exp_coe, eighth, ← EReal.coe_mul, ← EReal.coe_mul]
  rfl

theorem ki_at : b35 n.val s (ix4 b i h d) = (ki (k b) (a b) i (lane h d) : EReal) := by
  pointwise [b35, b34, b33]
  rw [k_at, cum_at b i h d R, R.hk, ← EReal.coe_neg, Ideal.exp_coe, ← EReal.coe_mul]
  rfl

theorem ke_at : b39 n.val s (ix4 b i h d) = (ke (k b) (a b) i (lane h d) : EReal) := by
  pointwise [b39, b38, b37, b36]
  rw [k_at, cum_at b i h d R, tot_at b h d R, R.hk, ← EReal.coe_sub, Ideal.exp_coe, ← EReal.coe_mul]
  rfl

omit R in
theorem mask_at (i s : Fin 64) : K_main_v16 (F := Ideal) (ix2 i s) = if s ≤ i then 1#1 else 0#1 := by
  pointwise [K_main_v16, K_main_call0_v4, K_main_call0_v2, K_main_call0_v0, K_main_call0_v1, K_main_call0_c, K_main_call0_v3,
    K_main_v15, K_main_c, K_main_call0_v5, K_main_call0_c_0]
  revert i s
  decide +kernel

theorem att_at (r : Fin 64) : b45 n.val s (ix4 b h i r) =
    ((if r ≤ i then ∑ d : Fin 64, qd (q b) (a b) i (lane h d) * ki (k b) (a b) r (lane h d) else 0 : ℝ) : EReal) := by
  have e : b40 n.val s (ix4 b h i r) = ((∑ d : Fin 64, qd (q b) (a b) i (lane h d) * ki (k b) (a b) r (lane h d) : ℝ) : EReal) := by
    pointwise [b40]
    simp only [qd_at _ _ _ _ R, ki_at _ _ _ _ R, ← EReal.coe_mul, sum_coe]
  pointwise [b45, b43, b44, b42, b41]
  rw [mask_at, e]
  by_cases hr : r ≤ i <;> simp [hr, Scalar.select]

theorem intra_at : b47 n.val s (ix4 b i h e) = (intra (q b) (k b) (v b) (a b) i h e : EReal) := by
  pointwise [b47, b46]
  simp only [v_at, R.hv, att_at _ _ _ R, ← EReal.coe_mul, sum_coe]
  rfl

theorem out_at : b50 n.val s (ix4 b i h e) = (out (q b) (k b) (v b) (a b) (S b) i h e : EReal) := by
  have e2 : b49 n.val s (ix4 b i h e) = ((∑ d : Fin 64, S b h d e * qd (q b) (a b) i (lane h d) : ℝ) : EReal) := by
    pointwise [b49, b48]
    simp only [R.hs, qd_at _ _ _ _ R, ← EReal.coe_mul, sum_coe]
  pointwise [b50]
  rw [intra_at b i h e R, e2, ← EReal.coe_add]
  rfl

theorem next_at : b57 n.val s (ix4 b h d e) = (next (k b) (v b) (a b) (S b) h d e : EReal) := by
  have e2 : b56 n.val s (ix4 b h d e) = ((∑ i : Fin 64, ke (k b) (a b) i (lane h d) * v b i (lane h e) : ℝ) : EReal) := by
    pointwise [b56]
    simp only [ke_at _ _ _ _ R, v_at, R.hv, ← EReal.coe_mul, sum_coe]
  pointwise [b57, b55, b54, b53, b52, b51]
  rw [R.hs, e2, tot_at b h d R, Ideal.exp_coe, ← EReal.coe_mul, ← EReal.coe_add]
  rfl

omit R in
/-- The chunks written so far: the trip's own is new, the others stay. -/
theorem kept_at (x : FVec Ideal S64x8x64x4x64 .f32) (y : FVec Ideal S1x8x64x4x64 .f32) (start : Fin 5 → Int) (n m : Fin 64) (h0 : start 0 = n.val)
    (h1 : start 1 = 0) (h2 : start 2 = 0) (h3 : start 3 = 0) (h4 : start 4 = 0) :
    Host.dynamicUpdateSlice x y start updateFits_S64x8x64x4x64_S1x8x64x4x64 (ix5 m b i h d) =
      if m = n then y (ix5 0 b i h d) else x (ix5 m b i h d) := by
  have hn := n.isLt
  have hb := b.isLt; have hi := i.isLt; have hh := h.isLt; have hd := d.isLt
  rw [Host.dynamicUpdateSlice_apply]
  by_cases hm : m = n
  · subst hm
    rw [if_pos rfl, dif_pos]
    · refine congrArg y (funext fun a => ?_)
      fin_cases a <;> apply Fin.ext <;>
        simp [Host.clampedStart, h0, h1, h2, h3, h4, ix5, Shape.Idx.norm] <;> omega
    · intro a
      fin_cases a <;> simp [Host.clampedStart, h0, h1, h2, h3, h4, ix5] <;> omega
  · rw [if_neg hm, dif_neg]
    intro hc
    have := hc 0
    simp [Host.clampedStart, h0, ix5] at this
    exact hm (Fin.ext (by omega))

theorem outs_at (m : Fin 64) : b63 n.val s (ix5 m b i h e) =
    if m = n then (out (q b) (k b) (v b) (a b) (S b) i h e : EReal) else s.main_v33_7 (ix5 m b i h e) := by
  unfold b63
  refine (kept_at b i h e _ _ _ n m ?_ ?_ ?_ ?_ ?_).trans ?_
  · exact word n
  iterate 4 rfl
  congr 1
  refine Eq.trans ?_ (out_at b i h e R)
  pointwise [b58]

end Cert.GlaRefIdeal.Pure
end
-- ==== Proof.GlaRefLoop.lean ====
module

public import proofs.«01_k».proof.Proof.GlaRef

/-!
The reference of gated linear attention after all 64 trips, read at an index.
-/

@[expose] public section

set_option maxRecDepth 16384

noncomputable section

open Idealize.ShloMosaic Idealize.SL.Sem

namespace Cert.GlaRefIdeal.Pure
open Cert.GlaRefIdeal Cert.GlaRefIdeal.Gen Cert.GlaRefIdeal.Step Cert.GlaMath Cert.RouterMath

/-- The pattern of one. -/
theorem one : Ideal.ofBits .f32 1065353216#32 = ((1 : ℝ) : EReal) := by
  simp [Ideal.ofBits, Ideal.ieee]; rw [← EReal.coe_mul]; exact congrArg _ (by norm_num)
/-- The pattern of sixteen. -/
theorem sixteen : Ideal.ofBits .f32 1098907648#32 = ((16 : ℝ) : EReal) := by
  simp [Ideal.ofBits, Ideal.ieee]; rw [← EReal.coe_mul]; exact congrArg _ (by norm_num)

/-- Row `i` of chunk `n`. -/
def place (n : ℕ) (hn : n < 64) (i : Fin 64) : Fin 4096 := ⟨n * 64 + i.val, by omega⟩

/-- Sixty-four columns of four heads of the projection, from a column on. -/
def part (P : Fin 8 → Fin 4096 → Fin 7168 → ℝ) (o : ℕ) (ho : o + 256 ≤ 7168) (b : Fin 8) (n : ℕ) : Chunk := fun i j =>
  if hn : n < 64 then P b (place n hn i) ⟨o + j.val, by omega⟩ else 0

/-- The logarithms of the gates. -/
def gates (P : Fin 8 → Fin 4096 → Fin 7168 → ℝ) (U : Fin 16 → Fin 256 → ℝ) (B : Fin 256 → ℝ) (b : Fin 8) (n : ℕ) : Chunk := fun i j =>
  if hn : n < 64 then gate ((∑ k : Fin 16, P b (place n hn i) ⟨2816 + k.val, by omega⟩ * U k j) + B j) else 0

variable (x : FVec Ideal S8x4096x7168 .bf16) (u : FVec Ideal S16x256 .f32) (bb : FVec Ideal S256 .f32)
variable (P : Fin 8 → Fin 4096 → Fin 7168 → ℝ) (U : Fin 16 → Fin 256 → ℝ) (B : Fin 256 → ℝ)
variable (hP : ∀ b r j, x (ix3 b r j) = (P b r j : EReal)) (hU : ∀ k j, u (ix2 k j) = (U k j : EReal)) (hB : ∀ j, bb (ix1 j) = (B j : EReal))

theorem q_init (n : Fin 64) (b : Fin 8) (i : Fin 64) (h : Fin 4) (d : Fin 64) : A_main_v21 (F := Ideal) x u bb (ix5 n b i h d) =
    x (ix3 b (place n.val n.isLt i) ⟨1024 + (lane h d).val, by omega⟩) := by
  pointwise [A_main_v21, A_main_v20, A_main_v19, A_main_v18]
  congr 1
theorem k_init (n : Fin 64) (b : Fin 8) (i : Fin 64) (h : Fin 4) (d : Fin 64) : A_main_v25 (F := Ideal) x u bb (ix5 n b i h d) =
    x (ix3 b (place n.val n.isLt i) ⟨1280 + (lane h d).val, by omega⟩) := by
  pointwise [A_main_v25, A_main_v24, A_main_v23, A_main_v22]
  congr 1
theorem v_init (n : Fin 64) (b : Fin 8) (i : Fin 64) (h : Fin 4) (d : Fin 64) : A_main_v29 (F := Ideal) x u bb (ix5 n b i h d) =
    x (ix3 b (place n.val n.isLt i) ⟨1536 + (lane h d).val, by omega⟩) := by
  pointwise [A_main_v29, A_main_v28, A_main_v27, A_main_v26]
  congr 1

include hP hU hB in
theorem a_init (n : Fin 64) (b : Fin 8) (i : Fin 64) (h : Fin 4) (d : Fin 64) : A_main_v31 (F := Ideal) x u bb (ix5 n b i h d) =
    (gates P U B b n.val i (lane h d) : EReal) := by
  have e : ∀ (r : Fin 4096) (j : Fin 256), A_main_v14 (F := Ideal) x u bb (ix3 b r j) =
      (gate ((∑ k : Fin 16, P b r ⟨2816 + k.val, by omega⟩ * U k j) + B j) : EReal) := by
    intro r j
    have e5 : A_main_v5 (F := Ideal) x u bb (ix3 b r j) = (((∑ k : Fin 16, P b r ⟨2816 + k.val, by omega⟩ * U k j) + B j : ℝ) : EReal) := by
      pointwise [A_main_v5, A_main_v4, A_main_v3, A_main_v2, A_main_v1, A_main_v0]
      simp only [hU, hB, hP, ← EReal.coe_mul, sum_coe, ← EReal.coe_add]
    pointwise [A_main_v14, A_main_v12, A_main_v11, A_main_v9, A_main_v7, A_main_v6, K_main_v8, K_main_v10, K_main_v13, K_main_cst, K_main_cst_0, K_main_cst_1]
    rw [e5]
    refine Eq.trans ?_ (gate_plain _)
    rw [← one, ← sixteen]
    pointwise
  unfold gates
  rw [dif_pos n.isLt, ← e]
  pointwise [A_main_v31, A_main_v30]
  congr 1

/-- The states of any sequence of trips hold real numbers: the state of the recursion, and the results of the trips so far. -/
structure Holds (n : ℕ) (s : State Ideal) : Prop where
  s0 : s.main_v33_0 = A_main_v21 (F := Ideal) x u bb
  s1 : s.main_v33_1 = A_main_v25 (F := Ideal) x u bb
  s2 : s.main_v33_2 = A_main_v29 (F := Ideal) x u bb
  s3 : s.main_v33_3 = A_main_v31 (F := Ideal) x u bb
  st : ∀ b h d e, s.main_v33_6 (ix4 b h d e) =
    (states (part P 1280 (by norm_num) b) (part P 1536 (by norm_num) b) (gates P U B b) n h d e : EReal)
  outs : ∀ (m : Fin 64), m.val < n → ∀ b i h e, s.main_v33_7 (ix5 m b i h e) =
    (out (part P 1024 (by norm_num) b m.val) (part P 1280 (by norm_num) b m.val) (part P 1536 (by norm_num) b m.val) (gates P U B b m.val)
      (states (part P 1280 (by norm_num) b) (part P 1536 (by norm_num) b) (gates P U B b) m.val) i h e : EReal)

include hP hU hB in
theorem reads (n : Fin 64) (s : State Ideal) (H : Holds x u bb P U B n.val s) : Reads n s (fun b => part P 1024 (by norm_num) b n.val)
    (fun b => part P 1280 (by norm_num) b n.val) (fun b => part P 1536 (by norm_num) b n.val) (fun b => gates P U B b n.val)
    (fun b => states (part P 1280 (by norm_num) b) (part P 1536 (by norm_num) b) (gates P U B b) n.val) where
  hq b i h d := by rw [H.s0, q_init, hP]; unfold part; rw [dif_pos n.isLt]
  hk b i h d := by rw [H.s1, k_init, hP]; unfold part; rw [dif_pos n.isLt]
  hv b i h d := by rw [H.s2, v_init, hP]; unfold part; rw [dif_pos n.isLt]
  ha b i h d := by rw [H.s3]; exact a_init x u bb P U B hP hU hB n b i h d
  hs b h d e := H.st b h d e

theorem init0 : (init (F := Ideal) x u bb).main_v33_0 = A_main_v21 (F := Ideal) x u bb := by unfold init; dsimp only
theorem init1 : (init (F := Ideal) x u bb).main_v33_1 = A_main_v25 (F := Ideal) x u bb := by unfold init; dsimp only
theorem init2 : (init (F := Ideal) x u bb).main_v33_2 = A_main_v29 (F := Ideal) x u bb := by unfold init; dsimp only
theorem init3 : (init (F := Ideal) x u bb).main_v33_3 = A_main_v31 (F := Ideal) x u bb := by unfold init; dsimp only
theorem init6 : (init (F := Ideal) x u bb).main_v33_6 = K_main_v17 (F := Ideal) := by unfold init; dsimp only
theorem step0 (n : ℕ) (s : State Ideal) : (step n s).main_v33_0 = s.main_v33_0 := by unfold step; dsimp only
theorem step1 (n : ℕ) (s : State Ideal) : (step n s).main_v33_1 = s.main_v33_1 := by unfold step; dsimp only
theorem step2 (n : ℕ) (s : State Ideal) : (step n s).main_v33_2 = s.main_v33_2 := by unfold step; dsimp only
theorem step3 (n : ℕ) (s : State Ideal) : (step n s).main_v33_3 = s.main_v33_3 := by unfold step; dsimp only

include hP hU hB in
theorem holds_all (it : ℕ → State Ideal) (h0 : it 0 = init x u bb) (hs : ∀ n, it (n + 1) = step n (it n)) :
    ∀ n, n ≤ 64 → Holds x u bb P U B n (it n) := by
  intro n
  induction n with
  | zero =>
    intro _
    rw [h0]
    refine ⟨init0 x u bb, init1 x u bb, init2 x u bb, init3 x u bb, fun b h d e => ?_, fun m hm => absurd hm (Nat.not_lt_zero _)⟩
    rw [init6]
    refine Eq.trans ?_ zero
    pointwise [K_main_v17, K_main_cst_2]
  | succ n ih =>
    intro hn
    have H := ih (by omega)
    have R := reads x u bb P U B hP hU hB ⟨n, by omega⟩ (it n) H
    rw [hs]
    refine ⟨(step0 _ _).trans H.s0, (step1 _ _).trans H.s1, (step2 _ _).trans H.s2, (step3 _ _).trans H.s3, fun b h d e => ?_, fun m hm b i h e => ?_⟩
    · rw [step_main_v33_6]
      rw [states_succ]
      exact next_at (n := ⟨n, by omega⟩) (s := it n) b h d e R
    · rw [step_main_v33_7]
      refine (outs_at (n := ⟨n, by omega⟩) (s := it n) b i h e R m).trans ?_
      by_cases hmn : m = ⟨n, by omega⟩
      · rw [if_pos hmn, show m.val = n from congrArg Fin.val hmn]
      · rw [if_neg hmn]
        exact H.outs m (lt_of_le_of_ne (Nat.le_of_lt_succ hm) fun q => hmn (Fin.ext q)) b i h e

/-- The attention's result at a row and a lane. -/
def attended (b : Fin 8) (r : Fin 4096) (h : Fin 4) (e : Fin 64) : ℝ :=
  out (part P 1024 (by norm_num) b (r.val / 64)) (part P 1280 (by norm_num) b (r.val / 64)) (part P 1536 (by norm_num) b (r.val / 64))
    (gates P U B b (r.val / 64)) (states (part P 1280 (by norm_num) b) (part P 1536 (by norm_num) b) (gates P U B b) (r.val / 64))
    ⟨r.val % 64, by omega⟩ h e

/-- The pattern of sixty-four. -/
theorem sixtyfour : Ideal.ofBits .f32 1115684864#32 = ((64 : ℝ) : EReal) := by
  simp [Ideal.ofBits, Ideal.ieee]; rw [← EReal.coe_mul]; exact congrArg _ (by norm_num)

/-- The mean of the squares of a head's 64 lanes, and its scale. -/
def scale (o : Fin 64 → ℝ) : EReal := Ideal.rsqrt (((∑ e : Fin 64, o e * o e) / 64 : ℝ) + Ideal.ofBits .f32 897988541#32)

/-- The result at a row and a lane, of the attention's result, the norm's weight and the output gate. -/
def result (o : Fin 64 → ℝ) (e : Fin 64) (g r : EReal) : EReal :=
  (o e : EReal) * scale o * g * (r * Ideal.div ((1 : ℝ) : EReal) (((1 : ℝ) : EReal) + Ideal.exp (-r)))

include hP hU hB in
/-- The reference's result at an index. -/
theorem reference_at (it : ℕ → State Ideal) (h0 : it 0 = init x u bb) (hs : ∀ n, it (n + 1) = step n (it n)) (g : FVec Ideal S256 .f32)
    (b : Fin 8) (r : Fin 4096) (j : Fin 256) : R_main_v54 (it 64) x g (ix3 b r j) =
      result (attended P U B b r (hd j)) (ln j) (g (ix1 j)) (x (ix3 b r ⟨1792 + j.val, by omega⟩)) := by
  have H := holds_all x u bb P U B hP hU hB it h0 hs 64 le_rfl
  have ho : ∀ h e, (it 64).main_v33_7 (ix5 (⟨r.val / 64, by omega⟩ : Fin 64) b (⟨r.val % 64, by omega⟩ : Fin 64) h e) = (attended P U B b r h e : EReal) :=
    fun h e => H.outs ⟨r.val / 64, by omega⟩ (by dsimp only; omega) b _ h e
  generalize it 64 = s at ho
  pointwise [R_main_v54]
  simp only [ho, ← EReal.coe_mul, sum_coe, sixtyfour]
  rw [div_coe _ _ (by norm_num)]
  unfold result scale
  rw [EReal.coe_one]
  rfl

end Cert.GlaRefIdeal.Pure
end
-- ==== Proof.GlaOut.lean ====
module

public import proofs.«01_k».proof.Proof.GlaHeads
public import proofs.«01_k».proof.Proof.GlaRefLoop

/-!
The gated linear attention kernel's block: the eight chunks' results put together, normalised by head and gated, and the
state after the eighth chunk.
-/

@[expose] public section

set_option maxRecDepth 16384

noncomputable section

open Idealize.ShloMosaic Idealize.SL.Sem

namespace Cert.GlaIdeal.Block
open Cert.GlaIdeal Cert.GlaIdeal.Gen Cert.GlaMath Cert.RouterMath

/-- Eight chunks one below another. -/
def stack (p0 p1 p2 p3 p4 p5 p6 p7 : FVec Ideal S64x256 .f32) : FVec Ideal S512x256 .f32 :=
  concatenate S512x256 0 [⟨S64x256, p0⟩, ⟨S64x256, p1⟩, ⟨S64x256, p2⟩, ⟨S64x256, p3⟩, ⟨S64x256, p4⟩, ⟨S64x256, p5⟩, ⟨S64x256, p6⟩, ⟨S64x256, p7⟩] concatenates_S64x256_S64x256_S64x256_S64x256_S64x256_S64x256_S64x256_S64x256_S512x256_d0

theorem either {α : Type} (p : Prop) [Decidable p] (a : p → α) (b : ¬p → α) (x : α) (h : ∀ q, a q = x) (h' : ∀ q, b q = x) : dite p a b = x := by
  by_cases q : p
  · rw [dif_pos q, h]
  · rw [dif_neg q, h']

theorem stack_at (p0 p1 p2 p3 p4 p5 p6 p7 : FVec Ideal S64x256 .f32) (X : Fin 8 → Fin 64 → Fin 256 → ℝ)
    (h0 : ∀ i c, p0 (ix2 i c) = (X 0 i c : EReal)) (h1 : ∀ i c, p1 (ix2 i c) = (X 1 i c : EReal))
    (h2 : ∀ i c, p2 (ix2 i c) = (X 2 i c : EReal)) (h3 : ∀ i c, p3 (ix2 i c) = (X 3 i c : EReal))
    (h4 : ∀ i c, p4 (ix2 i c) = (X 4 i c : EReal)) (h5 : ∀ i c, p5 (ix2 i c) = (X 5 i c : EReal))
    (h6 : ∀ i c, p6 (ix2 i c) = (X 6 i c : EReal)) (h7 : ∀ i c, p7 (ix2 i c) = (X 7 i c : EReal)) (r : Fin 512) (c : Fin 256) :
    stack p0 p1 p2 p3 p4 p5 p6 p7 (ix2 r c) = (X (up r) (row r) c : EReal) := by
  have key : ∀ (u : Fin 8) (i : Fin 64), r.val = u.val * 64 + i.val → ((X u i c : ℝ) : EReal) = (X (up r) (row r) c : EReal) := by
    intro u i e
    have : r = pos u i := Fin.ext e
    rw [this, up_pos, row_pos]
  have hr := r.isLt
  unfold stack
  pointwise
  refine either _ _ _ _ (fun q => (h0 _ _).trans (key _ _ (by simp; try omega))) fun q0 => ?_
  refine either _ _ _ _ (fun q => (h1 _ _).trans (key _ _ (by simp; try omega))) fun q1 => ?_
  refine either _ _ _ _ (fun q => (h2 _ _).trans (key _ _ (by simp; try omega))) fun q2 => ?_
  refine either _ _ _ _ (fun q => (h3 _ _).trans (key _ _ (by simp; try omega))) fun q3 => ?_
  refine either _ _ _ _ (fun q => (h4 _ _).trans (key _ _ (by simp; try omega))) fun q4 => ?_
  refine either _ _ _ _ (fun q => (h5 _ _).trans (key _ _ (by simp; try omega))) fun q5 => ?_
  refine either _ _ _ _ (fun q => (h6 _ _).trans (key _ _ (by simp; try omega))) fun q6 => ?_
  exact (h7 _ _).trans (key _ _ (by simp; omega))

/-- The normalisation by head of the attention's result, as the kernel computes it. -/
def tail (a z : FVec Ideal S512x256 .f32) (bd : FVec Ideal S256x256 .bf16) : FVec Ideal S512x256 .f32 :=
  have o : FVec Ideal S512x256 .f32 := addf a z
  have s : FVec Ideal S512x256 .f32 := mulf o o
  have b : FVec Ideal S256x256 .bf16 := shapeCast S256x256 bd shapeCasts_S256x256_S256x256
  have hi : FVec Ideal S512x256 .bf16 := truncf .bf16 s bitsLt_bf16_f32
  have lo : FVec Ideal S512x256 .bf16 := truncf .bf16 (subf s (extf .f32 hi bitsLt_bf16_f32)) bitsLt_bf16_f32
  have m : FVec Ideal S512x256 .f32 := addf (matmul dot_S512x256_S256x256_S512x256_1_0_0_1_n_n none hi b (constant S512x256 .f32 0x00000000#32))
    (matmul dot_S512x256_S256x256_S512x256_1_0_0_1_n_n none lo b (constant S512x256 .f32 0x00000000#32))
  mulf o (rsqrt (addf (mulf m (broadcast S512x256 (Scalar.ofBits .f32 0x3C800000#32))) (broadcast S512x256 (Scalar.ofBits .f32 0x358637BD#32))))

theorem tail_at (a z : FVec Ideal S512x256 .f32) (bd : FVec Ideal S256x256 .bf16) (hb : Heads bd) (O : Fin 4 → Fin 64 → ℝ) (r : Fin 512)
    (h : ∀ c, a (ix2 r c) + z (ix2 r c) = (O (hd c) (ln c) : EReal)) (c : Fin 256) :
    tail a z bd (ix2 r c) = (O (hd c) (ln c) : EReal) * GlaRefIdeal.Pure.scale (O (hd c)) := by
  pointwise [tail]
  simp only [h _, hb _ _, sixtyfourth, ← EReal.coe_mul, ← EReal.coe_sub, sum_coe, ← EReal.coe_add, sub_self, zero_mul,
    Finset.sum_const_zero, add_zero]
  unfold GlaRefIdeal.Pure.scale
  rw [sum_head _ (hd c) (fun h' d hh => by rw [hd_lane, if_neg hh, mul_zero]), mul_one_div]
  simp only [hd_lane, ln_lane, if_true, mul_one]

theorem last (v9 : FVec Ideal S512x256 .bf16) (v51 : FVec Ideal S512x256 .f32) (v64 v65 : FVec Ideal S512x256 .bf16) (v239 : FVec Ideal S512x256 .f32)
    (v242 v314 : FVec Ideal S256x256 .f32) (p0 p1 p2 p3 p4 p5 z : FVec Ideal S64x256 .f32) (v315 : FVec Ideal S64x256 .bf16) (v316 v345 : FVec Ideal S256x256 .bf16) :
    k0_pay54 v9 v51 v64 v65 v239 v242 p0 p1 p2 p3 p4 p5 v314 v315 v316 z v345 =
      tail v239 (stack p0 p1 p2 p3 p4 p5 (matmul dot_S64x256_S256x256_S64x256_1_1_0_0_n_n none v315 v316 z)
        (matmul dot_S64x256_S256x256_S64x256_1_1_0_0_n_n none (extractStridedSlice S64x256 ![448, 0] v65 slices_S512x256_o448_0_S64x256)
          (truncf .bf16 (k0_pay52 v9 v51 v64 v242 v314) bitsLt_bf16_f32) (constant S64x256 .f32 0x00000000#32))) v345 := rfl

theorem inter6 {v9 : FVec Ideal S512x256 .bf16} {v51 : FVec Ideal S512x256 .f32} {v64 v65 : FVec Ideal S512x256 .bf16} {v242 v261 v265 : FVec Ideal S256x256 .f32} (i : Fin 64) (c : Fin 256) :
    matmul dot_S64x256_S256x256_S64x256_1_1_0_0_n_n none (k0_pay50 v65) (k0_pay51 v9 v51 v64 v242 v261 v265) (constant S64x256 .f32 0x00000000#32) (ix2 i c) =
      ∑ j : Fin 256, v65 (ix2 (pos 6 i) j) * (k0_pay49 v9 v51 v64 v242 v261 v265) (ix2 c j) := by
  pointwise [k0_pay50, k0_pay51]
  rfl

theorem inter7 {v9 : FVec Ideal S512x256 .bf16} {v51 : FVec Ideal S512x256 .f32} {v64 v65 : FVec Ideal S512x256 .bf16} {v242 v314 : FVec Ideal S256x256 .f32} (i : Fin 64) (c : Fin 256) :
    matmul dot_S64x256_S256x256_S64x256_1_1_0_0_n_n none (extractStridedSlice S64x256 ![448, 0] v65 slices_S512x256_o448_0_S64x256)
          (truncf .bf16 (k0_pay52 v9 v51 v64 v242 v314) bitsLt_bf16_f32) (constant S64x256 .f32 0x00000000#32) (ix2 i c) =
      ∑ j : Fin 256, v65 (ix2 (pos 7 i) j) * (k0_pay52 v9 v51 v64 v242 v314) (ix2 c j) := by
  pointwise
  rfl

theorem gate_at (x1 : FVec Ideal S1x512x128 .bf16) (x2 : FVec Ideal S128x256 .bf16) (x3 : FVec Ideal S1x256 .f32) (r : Fin 512) (j : Fin 256) (y : ℝ)
    (h : (∑ k : Fin 128, x1 (ix3 0 r k) * x2 (ix2 k j) : EReal) + x3 (ix2 0 j) = (y : EReal)) : k0_pay9 (F := Ideal) x1 x2 x3 (ix2 r j) = (gate y : EReal) := by
  refine Eq.trans ?_ (gate_split y)
  rw [← h, ← sixteenth, ← GlaRefIdeal.Pure.one, EReal.coe_zero]
  pointwise [k0_pay9]
  rfl

theorem gated_at (v12 o g : FVec Ideal S512x256 .f32) (r : Fin 512) (j : Fin 256) : k0_pay1 v12 o g (ix3 0 r j) =
    o (ix2 r j) * g (ix2 r j) * (v12 (ix2 r j) * Ideal.div ((1 : ℝ) : EReal) (((1 : ℝ) : EReal) + Ideal.exp (-v12 (ix2 r j)))) := by
  rw [← GlaRefIdeal.Pure.one]
  pointwise [k0_pay1]
  rw [zero_sub]

theorem weight_at (x4 : FVec Ideal S1x256 .f32) (r : Fin 512) (j : Fin 256) : k0_pay55 x4 (ix2 r j) = x4 (ix2 0 j) := by
  pointwise [k0_pay55]

theorem q_at (x0 : FVec Ideal S1x512x1024 .bf16) (r : Fin 512) (j : Fin 256) : k0_pay4 (F := Ideal) x0 (ix2 r j) = x0 (ix3 0 r ⟨0 + j.val, by omega⟩) := by
  pointwise [k0_pay4, k0_pay3]
theorem k_at (x0 : FVec Ideal S1x512x1024 .bf16) (r : Fin 512) (j : Fin 256) : k0_pay5 (F := Ideal) x0 (ix2 r j) = x0 (ix3 0 r ⟨256 + j.val, by omega⟩) := by
  pointwise [k0_pay5, k0_pay3]
theorem v_at (x0 : FVec Ideal S1x512x1024 .bf16) (r : Fin 512) (j : Fin 256) : k0_pay6 (F := Ideal) x0 (ix2 r j) = x0 (ix3 0 r ⟨512 + j.val, by omega⟩) := by
  pointwise [k0_pay6, k0_pay3]
theorem v_at' (x0 : FVec Ideal S1x512x1024 .bf16) (r : Fin 512) (j : Fin 256) : k0_pay7 (F := Ideal) x0 (ix2 r j) = x0 (ix3 0 r ⟨512 + j.val, by omega⟩) := by
  pointwise [k0_pay7, k0_pay6, k0_pay3]
theorem r_at (x0 : FVec Ideal S1x512x1024 .bf16) (r : Fin 512) (j : Fin 256) : k0_pay8 (F := Ideal) x0 (ix2 r j) = x0 (ix3 0 r ⟨768 + j.val, by omega⟩) := by
  pointwise [k0_pay8, k0_pay3]
theorem table_at (x5 : FVec Ideal S512x512 .bf16) : k0_pay10 x5 = x5 := by
  funext y
  idx_vars y
  pointwise [k0_pay10]
theorem heads_at (x8 : FVec Ideal S256x256 .f32) : k0_pay35 x8 = x8 := by
  funext y
  idx_vars y
  pointwise [k0_pay35]
theorem gate_hi (x1 : FVec Ideal S1x512x128 .bf16) (x2 : FVec Ideal S128x256 .bf16) (x3 : FVec Ideal S1x256 .f32) (r : Fin 512) (j : Fin 256) :
    k0_pay11 (F := Ideal) x1 x2 x3 (ix2 r j) = k0_pay9 (F := Ideal) x1 x2 x3 (ix2 r j) := by
  rfl
theorem gate_lo (x1 : FVec Ideal S1x512x128 .bf16) (x2 : FVec Ideal S128x256 .bf16) (x3 : FVec Ideal S1x256 .f32) (r : Fin 512) (j : Fin 256) :
    k0_pay12 (F := Ideal) x1 x2 x3 (ix2 r j) = k0_pay9 (F := Ideal) x1 x2 x3 (ix2 r j) := by
  rfl

theorem before_at (x6 : FVec Ideal S512x512 .f32) (h : ∀ r s, (x6 (ix2 r s) : EReal) = ((if up s = up r ∧ row s ≤ row r then 1 else 0 : ℝ) : EReal)) :
    Before (k0_pay19 (F := Ideal) x6) := by
  intro r s
  pointwise [k0_pay19]
  rw [h]
  by_cases q : up s = up r ∧ row s ≤ row r
  · rw [if_pos q, if_pos q]
    simp [Ideal.cmp]
  · rw [if_neg q, if_neg q]
    simp [Ideal.cmp]

section Chain

variable {Q K W A : Fin 8 → Chunk} {S : ℕ → St}
variable {v9 : FVec Ideal S512x256 .bf16} {v51 : FVec Ideal S512x256 .f32} {v64 v65 : FVec Ideal S512x256 .bf16} {v239 : FVec Ideal S512x256 .f32}
  {v240 v241 : FVec Ideal S256x256 .f32} {v345 : FVec Ideal S256x256 .bf16}

/-- The state after the block's eight chunks, as the kernel computes it. -/
def carried (v9 : FVec Ideal S512x256 .bf16) (v51 : FVec Ideal S512x256 .f32) (v64 : FVec Ideal S512x256 .bf16) (v240 v241 : FVec Ideal S256x256 .f32) :
    FVec Ideal S256x256 .f32 :=
  k0_pay53 v9 v51 v64 (k0_pay35 v241) (k0_pay49 v9 v51 v64 (k0_pay35 v241) (k0_pay39 v9 v51 v64 v240 v241) (k0_pay40 v9 v64 v241))

/-- The block's normalised result, as the kernel computes it. -/
def normed (v9 : FVec Ideal S512x256 .bf16) (v51 : FVec Ideal S512x256 .f32) (v64 v65 : FVec Ideal S512x256 .bf16) (v239 : FVec Ideal S512x256 .f32)
    (v240 v241 : FVec Ideal S256x256 .f32) (v345 : FVec Ideal S256x256 .bf16) : FVec Ideal S512x256 .f32 :=
  k0_pay54 v9 v51 v64 v65 v239 (k0_pay35 v241) (k0_pay36 v65 v240) (k0_pay38 v9 v51 v64 v65 v240 v241)
    (k0_pay42 v65 (k0_pay39 v9 v51 v64 v240 v241) (k0_pay40 v9 v64 v241))
    (k0_pay44 v9 v51 v64 v65 (k0_pay35 v241) (k0_pay39 v9 v51 v64 v240 v241) (k0_pay40 v9 v64 v241))
    (k0_pay46 v9 v51 v64 v65 (k0_pay35 v241) (k0_pay39 v9 v51 v64 v240 v241) (k0_pay40 v9 v64 v241))
    (k0_pay48 v9 v51 v64 v65 (k0_pay35 v241) (k0_pay39 v9 v51 v64 v240 v241) (k0_pay40 v9 v64 v241))
    (k0_pay49 v9 v51 v64 (k0_pay35 v241) (k0_pay39 v9 v51 v64 v240 v241) (k0_pay40 v9 v64 v241))
    (k0_pay50 v65) (k0_pay51 v9 v51 v64 (k0_pay35 v241) (k0_pay39 v9 v51 v64 v240 v241) (k0_pay40 v9 v64 v241))
    (constant S64x256 .f32 0x00000000#32) v345

variable (h9 : Is v9 W) (h51 : ∀ r j, (v51 (ix2 r j) : EReal) = (tot (A (up r)) j : EReal)) (h64 : Is v64 (fun u => ke (K u) (A u)))
  (h65 : Is v65 (fun u => qd (Q u) (A u))) (hb : Heads v241) (hx : Keeps v240 (S 0))
  (hS : ∀ u : Fin 8, S (u.val + 1) = next (K u) (W u) (A u) (S u.val))

include h9 h51 h64 hb hx hS

theorem keeps1 : Keeps (k0_pay37 v9 v51 v64 v240 v241) (S 1) := by
  rw [show S 1 = _ from hS 0]; exact next_of 0 hx h9 h51 h64 hb step0
theorem keeps2 : Keeps (k0_pay41 (k0_pay39 v9 v51 v64 v240 v241) (k0_pay40 v9 v64 v241)) (S 2) := by
  rw [show S 2 = _ from hS 1]; exact next_of 1 (keeps1 h9 h51 h64 hb hx hS) h9 h51 h64 hb step1
theorem keeps3 : Keeps (k0_pay43 v9 v51 v64 v241 (k0_pay39 v9 v51 v64 v240 v241) (k0_pay40 v9 v64 v241)) (S 3) := by
  rw [show S 3 = _ from hS 2]; exact next_of 2 (keeps2 h9 h51 h64 hb hx hS) h9 h51 h64 hb step2
theorem keeps4 : Keeps (k0_pay45 v9 v51 v64 v241 (k0_pay39 v9 v51 v64 v240 v241) (k0_pay40 v9 v64 v241)) (S 4) := by
  rw [show S 4 = _ from hS 3]; exact next_of 3 (keeps3 h9 h51 h64 hb hx hS) h9 h51 h64 hb step3
theorem keeps5 : Keeps (k0_pay47 v9 v51 v64 v241 (k0_pay39 v9 v51 v64 v240 v241) (k0_pay40 v9 v64 v241)) (S 5) := by
  rw [show S 5 = _ from hS 4]; exact next_of 4 (keeps4 h9 h51 h64 hb hx hS) h9 h51 h64 hb step4
theorem keeps6 : Keeps (k0_pay49 v9 v51 v64 v241 (k0_pay39 v9 v51 v64 v240 v241) (k0_pay40 v9 v64 v241)) (S 6) := by
  rw [show S 6 = _ from hS 5]; exact next_of 5 (keeps5 h9 h51 h64 hb hx hS) h9 h51 h64 hb step5
theorem keeps7 : Keeps (k0_pay52 v9 v51 v64 v241 (k0_pay49 v9 v51 v64 v241 (k0_pay39 v9 v51 v64 v240 v241) (k0_pay40 v9 v64 v241))) (S 7) := by
  rw [show S 7 = _ from hS 6]; exact next_of 6 (keeps6 h9 h51 h64 hb hx hS) h9 h51 h64 hb step6
theorem keeps8 : Keeps (carried v9 v51 v64 v240 v241) (S 8) := by
  unfold carried
  rw [heads_at, show S 8 = _ from hS 7]; exact next_of 7 (keeps7 h9 h51 h64 hb hx hS) h9 h51 h64 hb step7

include h65

theorem normed_at (h239 : ∀ r j, v239 (ix2 r j) = (intra (Q (up r)) (K (up r)) (W (up r)) (A (up r)) (row r) (hd j) (ln j) : EReal)) (h345 : Heads v345)
    (r : Fin 512) (j : Fin 256) : normed v9 v51 v64 v65 v239 v240 v241 v345 (ix2 r j) =
      (out (Q (up r)) (K (up r)) (W (up r)) (A (up r)) (S (up r).val) (row r) (hd j) (ln j) : EReal) *
        GlaRefIdeal.Pure.scale (out (Q (up r)) (K (up r)) (W (up r)) (A (up r)) (S (up r).val) (row r) (hd j)) := by
  unfold normed
  rw [heads_at, last]
  refine tail_at _ _ _ h345 (out (Q (up r)) (K (up r)) (W (up r)) (A (up r)) (S (up r).val) (row r)) r (fun c => ?_) j
  rw [h239, stack_at _ _ _ _ _ _ _ _ (fun u i c => ∑ d : Fin 64, S u.val (hd c) d (ln c) * qd (Q u) (A u) i (lane (hd c) d))
    (fun i c => (inter0 i c).trans (inter_of 0 hx h65 i c))
    (fun i c => (inter1 i c).trans (inter_of 1 (keeps1 h9 h51 h64 hb hx hS) h65 i c))
    (fun i c => (inter2 i c).trans (inter_of 2 (keeps2 h9 h51 h64 hb hx hS) h65 i c))
    (fun i c => (inter3 i c).trans (inter_of 3 (keeps3 h9 h51 h64 hb hx hS) h65 i c))
    (fun i c => (inter4 i c).trans (inter_of 4 (keeps4 h9 h51 h64 hb hx hS) h65 i c))
    (fun i c => (inter5 i c).trans (inter_of 5 (keeps5 h9 h51 h64 hb hx hS) h65 i c))
    (fun i c => (inter6 i c).trans (inter_of 6 (keeps6 h9 h51 h64 hb hx hS) h65 i c))
    (fun i c => (inter7 i c).trans (inter_of 7 (keeps7 h9 h51 h64 hb hx hS) h65 i c)), ← EReal.coe_add]
  rfl

end Chain

end Cert.GlaIdeal.Block
end
-- ==== Proof.GlaTile.lean ====
module

public import proofs.«01_k».proof.Proof.GlaOut

/-!
One grid step of the kernel of gated linear attention: eight chunks of one batch entry. From its blocks and the state before it,
the state after it and the rows it stores, as the mathematics of `GlaMath` has them.
-/

@[expose] public section

set_option maxRecDepth 16384

noncomputable section

open Idealize.ShloMosaic Idealize.SL.Sem

namespace Cert.GlaIdeal.Block
open Cert.GlaIdeal Cert.GlaIdeal.Gen Cert.GlaMath Cert.RouterMath

/-- The state a step leaves, of its blocks and the state before it. -/
def carry (x0 : FVec Ideal S1x512x1024 .bf16) (x1 : FVec Ideal S1x512x128 .bf16) (x2 : FVec Ideal S128x256 .bf16) (x3 : FVec Ideal S1x256 .f32)
    (x5 x7 : FVec Ideal S512x512 .bf16) (x8 st : FVec Ideal S256x256 .f32) : FVec Ideal S256x256 .f32 :=
  carried (k0_pay6 x0) (k0_pay14 (k0_pay9 x1 x2 x3) x7)
    (k0_pay17 (k0_pay5 x0) (k0_pay9 x1 x2 x3) (k0_pay10 x5) (k0_pay11 x1 x2 x3) (k0_pay12 x1 x2 x3) x7) st x8

/-- The rows a step stores, of its blocks and the state before it. -/
def stored (x0 : FVec Ideal S1x512x1024 .bf16) (x1 : FVec Ideal S1x512x128 .bf16) (x2 : FVec Ideal S128x256 .bf16) (x3 x4 : FVec Ideal S1x256 .f32)
    (x5 : FVec Ideal S512x512 .bf16) (x6 : FVec Ideal S512x512 .f32) (x7 : FVec Ideal S512x512 .bf16) (x8 : FVec Ideal S256x256 .f32) (x9 : FVec Ideal S256x256 .bf16)
    (st : FVec Ideal S256x256 .f32) : FVec Ideal S1x512x256 .bf16 :=
  k0_pay1 (k0_pay8 x0)
    (normed (k0_pay6 x0) (k0_pay14 (k0_pay9 x1 x2 x3) x7)
      (k0_pay17 (k0_pay5 x0) (k0_pay9 x1 x2 x3) (k0_pay10 x5) (k0_pay11 x1 x2 x3) (k0_pay12 x1 x2 x3) x7)
      (k0_pay18 (k0_pay4 x0) (k0_pay9 x1 x2 x3) (k0_pay10 x5) (k0_pay11 x1 x2 x3) (k0_pay12 x1 x2 x3))
      (within (k0_pay7 x0) (k0_pay15 (k0_pay4 x0) (k0_pay9 x1 x2 x3) (k0_pay10 x5) (k0_pay11 x1 x2 x3) (k0_pay12 x1 x2 x3))
        (k0_pay16 (k0_pay5 x0) (k0_pay9 x1 x2 x3) (k0_pay10 x5) (k0_pay11 x1 x2 x3) (k0_pay12 x1 x2 x3)) (k0_pay19 (F := Ideal) x6))
      st x8 x9)
    (k0_pay55 x4)

section Tile

variable {x0 : FVec Ideal S1x512x1024 .bf16} {x1 : FVec Ideal S1x512x128 .bf16} {x2 : FVec Ideal S128x256 .bf16} {x3 x4 : FVec Ideal S1x256 .f32}
  {x5 : FVec Ideal S512x512 .bf16} {x6 : FVec Ideal S512x512 .f32} {x7 : FVec Ideal S512x512 .bf16} {x8 : FVec Ideal S256x256 .f32} {x9 : FVec Ideal S256x256 .bf16}
  {st : FVec Ideal S256x256 .f32}
variable {Q K W A : Fin 8 → Chunk} {S : ℕ → St}

/-- What a step reads: queries, keys, values, the logarithms of the gates, the tables and the state before it. -/
structure Tile (x0 : FVec Ideal S1x512x1024 .bf16) (x1 : FVec Ideal S1x512x128 .bf16) (x2 : FVec Ideal S128x256 .bf16) (x3 : FVec Ideal S1x256 .f32)
    (x5 : FVec Ideal S512x512 .bf16) (x7 : FVec Ideal S512x512 .bf16) (x8 : FVec Ideal S256x256 .f32)
    (st : FVec Ideal S256x256 .f32) (Q K W A : Fin 8 → Chunk) (S : ℕ → St) : Prop where
  q : ∀ (r : Fin 512) (j : Fin 256), (x0 (ix3 0 r ⟨0 + j.val, by omega⟩) : EReal) = (Q (up r) (row r) j : EReal)
  k : ∀ (r : Fin 512) (j : Fin 256), (x0 (ix3 0 r ⟨256 + j.val, by omega⟩) : EReal) = (K (up r) (row r) j : EReal)
  v : ∀ (r : Fin 512) (j : Fin 256), (x0 (ix3 0 r ⟨512 + j.val, by omega⟩) : EReal) = (W (up r) (row r) j : EReal)
  a : ∀ (r : Fin 512) (j : Fin 256), (k0_pay9 (F := Ideal) x1 x2 x3 (ix2 r j) : EReal) = (A (up r) (row r) j : EReal)
  before : Upto x5
  same : Same x7
  heads : Heads x8
  state : Keeps st (S 0)
  next : ∀ u : Fin 8, S (u.val + 1) = next (K u) (W u) (A u) (S u.val)

variable (T : Tile x0 x1 x2 x3 x5 x7 x8 st Q K W A S)
include T

theorem is_q : Is (k0_pay4 (F := Ideal) x0) Q := fun r j => (q_at x0 r j).trans (T.q r j)
theorem is_k : Is (k0_pay5 (F := Ideal) x0) K := fun r j => (k_at x0 r j).trans (T.k r j)
theorem is_v : Is (k0_pay6 (F := Ideal) x0) W := fun r j => (v_at x0 r j).trans (T.v r j)
theorem is_v' : Is (k0_pay7 (F := Ideal) x0) W := fun r j => (v_at' x0 r j).trans (T.v r j)
theorem is_a : Is (k0_pay9 (F := Ideal) x1 x2 x3) A := fun r j => T.a r j
theorem is_hi : Is (k0_pay11 (F := Ideal) x1 x2 x3) A := fun r j => (gate_hi x1 x2 x3 r j).trans (T.a r j)
theorem is_lo : Is (k0_pay12 (F := Ideal) x1 x2 x3) A := fun r j => (gate_lo x1 x2 x3 r j).trans (T.a r j)
theorem upto5 : Upto (k0_pay10 x5) := by rw [table_at]; exact T.before

/-- The state a step leaves. -/
theorem carry_keeps : Keeps (carry x0 x1 x2 x3 x5 x7 x8 st) (S 8) :=
  keeps8 (is_v T) (tot_at (is_a T) T.same) (ke_at (is_k T) (is_a T) (upto5 T) (is_hi T) (is_lo T) T.same) T.heads T.state T.next

/-- The rows a step stores. -/
theorem stored_at (h6 : ∀ r s, (x6 (ix2 r s) : EReal) = ((if up s = up r ∧ row s ≤ row r then 1 else 0 : ℝ) : EReal)) (h9 : Heads x9) (r : Fin 512) (j : Fin 256) :
    stored x0 x1 x2 x3 x4 x5 x6 x7 x8 x9 st (ix3 0 r j) =
      GlaRefIdeal.Pure.result (out (Q (up r)) (K (up r)) (W (up r)) (A (up r)) (S (up r).val) (row r) (hd j)) (ln j) (x4 (ix2 0 j))
        (x0 (ix3 0 r ⟨768 + j.val, by omega⟩)) := by
  unfold stored
  rw [gated_at, weight_at, r_at, normed_at (is_v T) (tot_at (is_a T) T.same) (ke_at (is_k T) (is_a T) (upto5 T) (is_hi T) (is_lo T) T.same)
    (qd_at' (is_q T) (is_a T) (upto5 T) (is_hi T) (is_lo T)) T.heads T.state T.next
    (within_at (is_v' T) (qd_at (is_q T) (is_a T) (upto5 T) (is_hi T) (is_lo T)) (ki_at (is_k T) (is_a T) (upto5 T) (is_hi T) (is_lo T)) (before_at x6 h6)) h9]
  rfl

end Tile
end Cert.GlaIdeal.Block
end
-- ==== Proof.GlaTables.lean ====
module

public import proofs.«01_k».proof.Proof.GlaOut
public import proofs.«01_k».proof.Proof.Gen.GlaIdeal.Value
public import Idealize.ShloMosaic.Lib.StableHlo.RunRead
public import Idealize.ShloMosaic.Lib.WordCmp

/-!
The gated linear attention kernel's tables of ones: the rows up to a row within a chunk, the rows within a chunk, the
lanes within a head.
-/

@[expose] public section

set_option maxRecDepth 16384

noncomputable section

open Idealize.ShloMosaic Idealize.ShloMosaic.TcCoe Idealize.SL.Sem

namespace Cert.GlaIdeal.Tables
open Cert.GlaIdeal Cert.GlaIdeal.Gen Cert.GlaMath Cert.RouterMath Cert.GlaIdeal.Block

variable (m : (ℓ : Loc nD τ sig) → Buf (Elt Ideal) ℓ)

/-- The quotient by 64, rounded down, of an array of words. -/
def quotS512x1 (x : IVec S512x1 32) : IVec S512x1 32 :=
  select (andi (cmpi .ne (signi x) (broadcastInDim S512x1 ![] bcast_S_S512x1 (signi (constantI S_ 32 64#32)))) (cmpi .ne (Host.remsi x (broadcastInDim S512x1 ![] bcast_S_S512x1 (constantI S_ 32 64#32))) (broadcastInDim S512x1 ![] bcast_S_S512x1 (constantI S_ 32 0#32))))
    (subi (Host.divsi x (broadcastInDim S512x1 ![] bcast_S_S512x1 (constantI S_ 32 64#32))) (broadcastInDim S512x1 ![] bcast_S_S512x1 (constantI S_ 32 1#32))) (Host.divsi x (broadcastInDim S512x1 ![] bcast_S_S512x1 (constantI S_ 32 64#32)))
/-- The quotient by 64, rounded down, of an array of words. -/
def quotS1x512 (x : IVec S1x512 32) : IVec S1x512 32 :=
  select (andi (cmpi .ne (signi x) (broadcastInDim S1x512 ![] bcast_S_S1x512 (signi (constantI S_ 32 64#32)))) (cmpi .ne (Host.remsi x (broadcastInDim S1x512 ![] bcast_S_S1x512 (constantI S_ 32 64#32))) (broadcastInDim S1x512 ![] bcast_S_S1x512 (constantI S_ 32 0#32))))
    (subi (Host.divsi x (broadcastInDim S1x512 ![] bcast_S_S1x512 (constantI S_ 32 64#32))) (broadcastInDim S1x512 ![] bcast_S_S1x512 (constantI S_ 32 1#32))) (Host.divsi x (broadcastInDim S1x512 ![] bcast_S_S1x512 (constantI S_ 32 64#32)))
/-- The quotient by 64, rounded down, of an array of words. -/
def quotS256x1 (x : IVec S256x1 32) : IVec S256x1 32 :=
  select (andi (cmpi .ne (signi x) (broadcastInDim S256x1 ![] bcast_S_S256x1 (signi (constantI S_ 32 64#32)))) (cmpi .ne (Host.remsi x (broadcastInDim S256x1 ![] bcast_S_S256x1 (constantI S_ 32 64#32))) (broadcastInDim S256x1 ![] bcast_S_S256x1 (constantI S_ 32 0#32))))
    (subi (Host.divsi x (broadcastInDim S256x1 ![] bcast_S_S256x1 (constantI S_ 32 64#32))) (broadcastInDim S256x1 ![] bcast_S_S256x1 (constantI S_ 32 1#32))) (Host.divsi x (broadcastInDim S256x1 ![] bcast_S_S256x1 (constantI S_ 32 64#32)))
/-- The quotient by 64, rounded down, of an array of words. -/
def quotS1x256 (x : IVec S1x256 32) : IVec S1x256 32 :=
  select (andi (cmpi .ne (signi x) (broadcastInDim S1x256 ![] bcast_S_S1x256 (signi (constantI S_ 32 64#32)))) (cmpi .ne (Host.remsi x (broadcastInDim S1x256 ![] bcast_S_S1x256 (constantI S_ 32 64#32))) (broadcastInDim S1x256 ![] bcast_S_S1x256 (constantI S_ 32 0#32))))
    (subi (Host.divsi x (broadcastInDim S1x256 ![] bcast_S_S1x256 (constantI S_ 32 64#32))) (broadcastInDim S1x256 ![] bcast_S_S1x256 (constantI S_ 32 1#32))) (Host.divsi x (broadcastInDim S1x256 ![] bcast_S_S1x256 (constantI S_ 32 64#32)))

/-- The rows' numbers, down and across. -/
def down : IVec S512x1 32 := broadcastInDim S512x1 ![0] bcast_S512_S512x1_0 (iotaInDim S512 32 0)
def across : IVec S1x512 32 := broadcastInDim S1x512 ![1] bcast_S512_S1x512_1 (iotaInDim S512 32 0)
/-- The lanes' numbers, down and across. -/
def down' : IVec S256x1 32 := broadcastInDim S256x1 ![0] bcast_S256_S256x1_0 (iotaInDim S256 32 0)
def across' : IVec S1x256 32 := broadcastInDim S1x256 ![1] bcast_S256_S1x256_1 (iotaInDim S256 32 0)

/-- Whether two rows are of one chunk. -/
def same : IVec S512x512 1 := cmpi .eq (broadcastInDim S512x512 ![0, 1] bcast_S512x1_S512x512_0_1 (quotS512x1 down)) (broadcastInDim S512x512 ![0, 1] bcast_S1x512_S512x512_0_1 (quotS1x512 across))
/-- Whether two rows are of one chunk and the second isn't after the first. -/
def upto : IVec S512x512 1 := andi same (cmpi .sle (broadcastInDim S512x512 ![0, 1] bcast_S1x512_S512x512_0_1 across) (broadcastInDim S512x512 ![0, 1] bcast_S512x1_S512x512_0_1 down))
/-- Whether two lanes are of one head. -/
def head : IVec S256x256 1 := cmpi .eq (broadcastInDim S256x256 ![0, 1] bcast_S256x1_S256x256_0_1 (quotS256x1 down')) (broadcastInDim S256x256 ![0, 1] bcast_S1x256_S256x256_0_1 (quotS1x256 across'))

theorem V18 (c : Dev nD) : (V m c main_v18 : FVec Ideal S512x512 .f32) = (uitofp .f32 upto : FVec Ideal S512x512 .f32) := by
  unfold V
  after_reads_simp
  rfl
theorem V28 (c : Dev nD) : (V m c main_v28 : FVec Ideal S512x512 .bf16) = truncf .bf16 (uitofp .f32 upto : FVec Ideal S512x512 .f32) bitsLt_bf16_f32 := by
  unfold V
  after_reads_simp
  rfl
theorem V30 (c : Dev nD) : (V m c main_v30 : FVec Ideal S512x512 .bf16) = truncf .bf16 (uitofp .f32 same : FVec Ideal S512x512 .f32) bitsLt_bf16_f32 := by
  unfold V
  after_reads_simp
  rfl
theorem V27 (c : Dev nD) : (V m c main_v27 : FVec Ideal S256x256 .f32) = (uitofp .f32 head : FVec Ideal S256x256 .f32) := by
  unfold V
  after_reads_simp
  rfl
theorem V31 (c : Dev nD) : (V m c main_v31 : FVec Ideal S256x256 .bf16) = truncf .bf16 (uitofp .f32 head : FVec Ideal S256x256 .f32) bitsLt_bf16_f32 := by
  unfold V
  after_reads_simp
  rfl
theorem V2 (c : Dev nD) : (V m c main_v2 : FVec Ideal S128x256 .bf16) = truncf .bf16 (concatenate S128x256 0 [⟨S16x256, (m ((c : Thread nD τ).loc main_arg1) : FVec Ideal S16x256 .f32)⟩,
    ⟨S112x256, (broadcastInDim S112x256 ![] bcast_S_S112x256 (constant (F := Ideal) S_ .f32 0x00000000#32) : FVec Ideal S112x256 .f32)⟩] concatenates_S16x256_S112x256_S128x256_d0 : FVec Ideal S128x256 .f32) bitsLt_bf16_f32 := by
  unfold V
  after_reads_simp
  rfl
theorem V3 (c : Dev nD) : (V m c main_v3 : FVec Ideal S1x256 .f32) = shapeCast S1x256 (m ((c : Thread nD τ).loc main_arg2) : FVec Ideal S256 .f32) shapeCasts_S256_S1x256 := by
  unfold V
  after_reads_simp
  rfl
theorem V4 (c : Dev nD) : (V m c main_v4 : FVec Ideal S1x256 .f32) = shapeCast S1x256 (m ((c : Thread nD τ).loc main_arg3) : FVec Ideal S256 .f32) shapeCasts_S256_S1x256 := by
  unfold V
  after_reads_simp
  rfl

theorem q1 (r : Fin 512) : quotS512x1 down (ix2 r 0) = BitVec.ofNat 32 (up r).val := by
  pointwise [quotS512x1, down]
  revert r
  decide +kernel
theorem q2 (r : Fin 512) : quotS1x512 across (ix2 0 r) = BitVec.ofNat 32 (up r).val := by
  pointwise [quotS1x512, across]
  revert r
  decide +kernel
theorem q3 (r : Fin 256) : quotS256x1 down' (ix2 r 0) = BitVec.ofNat 32 (hd r).val := by
  pointwise [quotS256x1, down']
  revert r
  decide +kernel
theorem q4 (r : Fin 256) : quotS1x256 across' (ix2 0 r) = BitVec.ofNat 32 (hd r).val := by
  pointwise [quotS1x256, across']
  revert r
  decide +kernel

theorem eq8 : ∀ u v : Fin 8, IntOp.cmpi CmpIPredicate.eq (BitVec.ofNat 32 u.val) (BitVec.ofNat 32 v.val) = if v = u then 1#1 else 0#1 := by decide +kernel
theorem eq4 : ∀ u v : Fin 4, IntOp.cmpi CmpIPredicate.eq (BitVec.ofNat 32 u.val) (BitVec.ofNat 32 v.val) = if u = v then 1#1 else 0#1 := by decide +kernel

theorem same_at (r s : Fin 512) : same (ix2 r s) = if up s = up r then 1#1 else 0#1 := by
  pointwise [same]
  rw [q1, q2, eq8]
theorem head_at (r s : Fin 256) : head (ix2 r s) = if hd r = hd s then 1#1 else 0#1 := by
  pointwise [head]
  rw [q3, q4, eq4]
theorem upto_at (r s : Fin 512) : upto (ix2 r s) = if up s = up r ∧ row s ≤ row r then 1#1 else 0#1 := by
  pointwise [upto]
  rw [same_at]
  pointwise [across, down]
  have hr := r.isLt
  have hs := s.isLt
  rw [WordCmp.cmpi_sle_eq, WordCmp.toInt_ofNat_of_lt (by omega), WordCmp.toInt_ofNat_of_lt (by omega)]
  by_cases q : up s = up r
  · rw [if_pos q]
    by_cases p : row s ≤ row r
    · have : s.val ≤ r.val := by
        have := congrArg Fin.val q
        have p' : (row s).val ≤ (row r).val := p
        unfold up at this; unfold row at p'
        dsimp only at this p'
        omega
      rw [if_pos ⟨q, p⟩, decide_eq_true (by exact_mod_cast this)]
      rfl
    · have : ¬s.val ≤ r.val := by
        have := congrArg Fin.val q
        have p' : ¬(row s).val ≤ (row r).val := p
        unfold up at this; unfold row at p'
        dsimp only at this p'
        omega
      rw [if_neg (fun z => p z.2), decide_eq_false (by exact_mod_cast this)]
      rfl
  · rw [if_neg q, if_neg (fun z => q z.1)]
    by_cases p : ((s.val : ℤ) ≤ (r.val : ℤ)) <;> simp [p, IntOp.andi]

theorem one_of (x : BitVec 1) (p : Prop) [Decidable p] (h : x = if p then 1#1 else 0#1) : (FloatOps.uitofp (F := Ideal) .f32 x : EReal) = ((if p then 1 else 0 : ℝ) : EReal) := by
  subst h
  by_cases q : p
  · rw [if_pos q, if_pos q]; simp [FloatOps.uitofp]
  · rw [if_neg q, if_neg q]; simp [FloatOps.uitofp]

theorem upto_table (c : Dev nD) : Upto (V m c main_v28 : FVec Ideal S512x512 .bf16) := by
  intro r s
  rw [V28]
  pointwise
  exact one_of _ _ (upto_at r s)
theorem mask_table (c : Dev nD) (r s : Fin 512) : ((V m c main_v18 : FVec Ideal S512x512 .f32) (ix2 r s) : EReal) = ((if up s = up r ∧ row s ≤ row r then 1 else 0 : ℝ) : EReal) := by
  rw [V18]
  pointwise
  exact one_of _ _ (upto_at r s)
theorem same_table (c : Dev nD) : Same (V m c main_v30 : FVec Ideal S512x512 .bf16) := by
  intro r s
  rw [V30]
  pointwise
  exact one_of _ _ (same_at r s)
theorem head_table (c : Dev nD) : Heads (φ := .f32) (V m c main_v27 : FVec Ideal S256x256 .f32) := by
  intro r s
  rw [V27]
  pointwise
  exact one_of _ _ (head_at r s)
theorem head_table' (c : Dev nD) : Heads (φ := .bf16) (V m c main_v31 : FVec Ideal S256x256 .bf16) := by
  intro r s
  rw [V31]
  pointwise
  exact one_of _ _ (head_at r s)

theorem weight_table (c : Dev nD) (k : Fin 128) (j : Fin 256) : ((V m c main_v2 : FVec Ideal S128x256 .bf16) (ix2 k j) : EReal) =
    if h : k.val < 16 then (m ((c : Thread nD τ).loc main_arg1) : FVec Ideal S16x256 .f32) (ix2 ⟨k.val, h⟩ j) else (0 : EReal) := by
  rw [V2]
  pointwise

end Cert.GlaIdeal.Tables
end
-- ==== Proof.RouterPre.lean ====
module

public import proofs.«01_k».proof.Proof.Gen.Pre_finite_router
public import Idealize.ShloMosaic.Lib.Pointwise
public import Idealize.ShloMosaic.Lib.WordCmp
public import Idealize.ShloMosaic.Lib.ReduceAll
public import proofs.«01_k».proof.Proof.RouterMath

/-!
What the precondition says of one number: it is real.
-/

@[expose] public section

set_option maxRecDepth 16384

noncomputable section

open Idealize.ShloMosaic Idealize.SL.Sem

namespace Cert.RouterPre
open Cert.Pre_finite_router Cert.RouterMath

variable (x : FVec Ideal S32768x1024 .f32) (g : FVec Ideal S1024 .f32) (we : FVec Ideal S1024x16 .f32)
  (be : FVec Ideal S16 .f32) (wg : FVec Ideal S1024x4 .f32) (bg : FVec Ideal S4 .f32)

/-- A rank-zero array has one index. -/
instance : Subsingleton S_.Idx := ⟨fun a b => funext fun k => k.elim0⟩

/-- The pattern of plus infinity. -/
theorem inf : Ideal.ofBits .f32 2139095040#32 = ⊤ := by simp [Ideal.ofBits, Ideal.ieee]

/-- A word that is one compared two numbers of which the first is smaller. -/
theorem lt_of_cmp (a b : EReal) (h : Ideal.cmp .olt a b = 1#1) : a < b := by
  by_contra q
  simp [Ideal.cmp, q] at h

/-- Under the precondition every number of every argument but the rows is real. -/
theorem reals (hpre : fn (F := Ideal) x g we be wg bg = fun _ => 1#1) : (∀ i, IsReal (g i)) ∧
    (∀ i, IsReal (we i)) ∧ (∀ i, IsReal (be i)) ∧ (∀ i, IsReal (wg i)) ∧ (∀ i, IsReal (bg i)) := by
  have h := congrFun hpre ix0
  unfold fn at h
  obtain ⟨h, h6⟩ := IntOp.andi_eq_one.1 h
  obtain ⟨h, h5⟩ := IntOp.andi_eq_one.1 h
  obtain ⟨h, h4⟩ := IntOp.andi_eq_one.1 h
  obtain ⟨h2, h3⟩ := IntOp.andi_eq_one.1 h
  refine ⟨fun i => real_of_abs _ ?_, fun i => real_of_abs _ ?_, fun i => real_of_abs _ ?_,
    fun i => real_of_abs _ ?_, fun i => real_of_abs _ ?_⟩
  · exact inf ▸ lt_of_cmp _ _ (Host.reduce_andi_all _ _ _ _ _ h2 i)
  · exact inf ▸ lt_of_cmp _ _ (Host.reduce_andi_all _ _ _ _ _ h3 i)
  · exact inf ▸ lt_of_cmp _ _ (Host.reduce_andi_all _ _ _ _ _ h4 i)
  · exact inf ▸ lt_of_cmp _ _ (Host.reduce_andi_all _ _ _ _ _ h5 i)
  · exact inf ▸ lt_of_cmp _ _ (Host.reduce_andi_all _ _ _ _ _ h6 i)

end Cert.RouterPre
end
-- ==== Proof.GlaPre.lean ====
module

public import proofs.«01_k».proof.Proof.Gen.Pre_finite_gla
public import proofs.«01_k».proof.Proof.RouterPre

/-!
What the precondition of gated linear attention says: every number of the projection and of the gate's weights and bias
is real.
-/

@[expose] public section

set_option maxRecDepth 16384

noncomputable section

open Idealize.ShloMosaic Idealize.SL.Sem

namespace Cert.GlaPre
open Cert.Pre_finite_gla Cert.RouterMath Cert.RouterPre

variable (x : FVec Ideal S8x4096x7168 .bf16) (u : FVec Ideal S16x256 .f32) (b g : FVec Ideal S256 .f32)

/-- A rank-zero array has one index. -/
instance : Subsingleton S_.Idx := ⟨fun a b => funext fun k => k.elim0⟩

/-- The pattern of plus infinity, in the projection's format. -/
theorem inf' : Ideal.ofBits .bf16 32640#16 = ⊤ := by simp [Ideal.ofBits, Ideal.ieee]

/-- Under the precondition every number of the projection and of the gate's weights and bias is real. -/
theorem reals (hpre : fn (F := Ideal) x u b g = fun _ => 1#1) : (∀ i, IsReal (x i)) ∧ (∀ i, IsReal (u i)) ∧ (∀ i, IsReal (b i)) := by
  have h := congrFun hpre ix0
  unfold fn at h
  obtain ⟨h, h3⟩ := IntOp.andi_eq_one.1 h
  obtain ⟨h1, h2⟩ := IntOp.andi_eq_one.1 h
  refine ⟨fun i => real_of_abs _ ?_, fun i => real_of_abs _ ?_, fun i => real_of_abs _ ?_⟩
  · exact inf' ▸ lt_of_cmp _ _ (Host.reduce_andi_all _ _ _ _ _ h1 i)
  · exact inf ▸ lt_of_cmp _ _ (Host.reduce_andi_all _ _ _ _ _ h2 i)
  · exact inf ▸ lt_of_cmp _ _ (Host.reduce_andi_all _ _ _ _ _ h3 i)

/-- … so there are real numbers they are. -/
theorem chosen (hpre : fn (F := Ideal) x u b g = fun _ => 1#1) : ∃ (P : Fin 8 → Fin 4096 → Fin 7168 → ℝ) (U : Fin 16 → Fin 256 → ℝ) (B : Fin 256 → ℝ),
    (∀ i r j, x (ix3 i r j) = (P i r j : EReal)) ∧ (∀ k j, u (ix2 k j) = (U k j : EReal)) ∧ (∀ j, b (ix1 j) = (B j : EReal)) := by
  obtain ⟨hx, hu, hb⟩ := reals x u b g hpre
  choose P hP using hx
  choose U hU using hu
  choose B hB using hb
  exact ⟨fun i r j => P (ix3 i r j), fun k j => U (ix2 k j), fun j => B (ix1 j), fun _ _ _ => hP _, fun _ _ => hU _, fun _ => hB _⟩

end Cert.GlaPre
end
-- ==== Proof.GlaValue.lean ====
module

public import proofs.«01_k».proof.Proof.GlaTile
public import proofs.«01_k».proof.Proof.GlaTables
public import proofs.«01_k».proof.Proof.GlaPre
public import proofs.«01_k».proof.Proof.GlaTrips
public import proofs.«01_k».proof.Proof.Gen.GlaIdeal.Value
public import Idealize.ShloMosaic.Lib.Claim
public import Idealize.ShloMosaic.Lib.Pipeline.ValueKit
public import Idealize.ShloMosaic.Lib.Pipeline.ReadBack

/-!
The kernel of gated linear attention computes its reference: what a grid step reads, the state it carries to the next step, the rows
it stores, and the result array after the run.
-/

@[expose] public section

set_option maxRecDepth 16384

noncomputable section

open Idealize.ShloMosaic Idealize.ShloMosaic.TcCoe Idealize.SL.Sem
open Idealize.ShloMosaic.Pipeline (Dat)

namespace Cert.GlaIdeal.Final
open Cert.GlaIdeal Cert.GlaIdeal.Gen Cert.GlaMath Cert.RouterMath Cert.GlaIdeal.Block Cert.GlaIdeal.Tables Cert.GlaRefIdeal.Pure

variable (m : (ℓ : Loc nD τ sig) → Buf (Elt Ideal) ℓ)

/-- Which blocks a step reads and writes. -/
theorem idx : ∀ t : Fin cfg0.N, win0_0.index t = ![t.val / 8, t.val % 8, 1] ∧ win0_1.index t = ![t.val / 8, t.val % 8, 22] ∧
    win0_2.index t = ![0, 0] ∧ win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![t.val / 8, t.val % 8, 0] :=
  (by decide +kernel : ∀ t : Fin grid0.N, _)

/-- The batch entry of a step. -/
def entry (t : Fin cfg0.N) : Fin 8 := ⟨t.val / 8, by have hN : t.val < 64 := lt_of_lt_of_eq t.isLt N_0; omega⟩
/-- The row of the projection under a row of a step's block. -/
def under (t : Fin cfg0.N) (r : Fin 512) : Fin 4096 := ⟨t.val % 8 * 512 + r.val, by omega⟩

theorem x_at (c : Dev nD) (t : Fin cfg0.N) (r : Fin 512) (k : Fin 1024) : (iblk m c 0 t : FVec Ideal S1x512x1024 .bf16) (ix3 0 r k) =
    (m ((c : Thread nD τ).loc main_arg0) : FVec Ideal S8x4096x7168 .bf16) (ix3 (entry t) (under t r) ⟨1024 + k.val, by omega⟩) := by
  have hN : t.val < 64 := lt_of_lt_of_eq t.isLt N_0
  unfold entry under
  blk_point [iblk, V, idx t]

theorem y_at (c : Dev nD) (t : Fin cfg0.N) (r : Fin 512) (k : Fin 128) : (iblk m c 1 t : FVec Ideal S1x512x128 .bf16) (ix3 0 r k) =
    (m ((c : Thread nD τ).loc main_arg0) : FVec Ideal S8x4096x7168 .bf16) (ix3 (entry t) (under t r) ⟨2816 + k.val, by omega⟩) := by
  have hN : t.val < 64 := lt_of_lt_of_eq t.isLt N_0
  unfold entry under
  blk_point [iblk, V, idx t]

theorem b2 (c : Dev nD) (t : Fin cfg0.N) (k : Fin 128) (j : Fin 256) : (iblk m c 2 t : FVec Ideal S128x256 .bf16) (ix2 k j) = (V m c main_v2 : FVec Ideal S128x256 .bf16) (ix2 k j) := by
  generalize hw : V m c main_v2 = w
  blk_ext [iblk, hw, idx t]
theorem b3 (c : Dev nD) (t : Fin cfg0.N) (j : Fin 256) : (iblk m c 3 t : FVec Ideal S1x256 .f32) (ix2 0 j) = (m ((c : Thread nD τ).loc main_arg2) : FVec Ideal S256 .f32) (ix1 j) := by
  have e : (V m c main_v3 : FVec Ideal S1x256 .f32) (ix2 0 j) = (m ((c : Thread nD τ).loc main_arg2) : FVec Ideal S256 .f32) (ix1 j) := by
    rw [V3]
    pointwise
  rw [← e]
  generalize hw : V m c main_v3 = w
  blk_ext [iblk, hw, idx t]
theorem b4 (c : Dev nD) (t : Fin cfg0.N) (j : Fin 256) : (iblk m c 4 t : FVec Ideal S1x256 .f32) (ix2 0 j) = (m ((c : Thread nD τ).loc main_arg3) : FVec Ideal S256 .f32) (ix1 j) := by
  have e : (V m c main_v4 : FVec Ideal S1x256 .f32) (ix2 0 j) = (m ((c : Thread nD τ).loc main_arg3) : FVec Ideal S256 .f32) (ix1 j) := by
    rw [V4]
    pointwise
  rw [← e]
  generalize hw : V m c main_v4 = w
  blk_ext [iblk, hw, idx t]
theorem b5 (c : Dev nD) (t : Fin cfg0.N) (k j : Fin 512) : (iblk m c 5 t : FVec Ideal S512x512 .bf16) (ix2 k j) = (V m c main_v28 : FVec Ideal S512x512 .bf16) (ix2 k j) := by
  generalize hw : V m c main_v28 = w
  blk_ext [iblk, hw, idx t]
theorem b6 (c : Dev nD) (t : Fin cfg0.N) (k j : Fin 512) : (iblk m c 6 t : FVec Ideal S512x512 .f32) (ix2 k j) = (V m c main_v18 : FVec Ideal S512x512 .f32) (ix2 k j) := by
  generalize hw : V m c main_v18 = w
  blk_ext [iblk, hw, idx t]
theorem b7 (c : Dev nD) (t : Fin cfg0.N) (k j : Fin 512) : (iblk m c 7 t : FVec Ideal S512x512 .bf16) (ix2 k j) = (V m c main_v30 : FVec Ideal S512x512 .bf16) (ix2 k j) := by
  generalize hw : V m c main_v30 = w
  blk_ext [iblk, hw, idx t]
theorem b8 (c : Dev nD) (t : Fin cfg0.N) (k j : Fin 256) : (iblk m c 8 t : FVec Ideal S256x256 .f32) (ix2 k j) = (V m c main_v27 : FVec Ideal S256x256 .f32) (ix2 k j) := by
  generalize hw : V m c main_v27 = w
  blk_ext [iblk, hw, idx t]
theorem b9 (c : Dev nD) (t : Fin cfg0.N) (k j : Fin 256) : (iblk m c 9 t : FVec Ideal S256x256 .bf16) (ix2 k j) = (V m c main_v31 : FVec Ideal S256x256 .bf16) (ix2 k j) := by
  generalize hw : V m c main_v31 = w
  blk_ext [iblk, hw, idx t]

section Run

variable (c : Dev nD) {P : Fin 8 → Fin 4096 → Fin 7168 → ℝ} {U : Fin 16 → Fin 256 → ℝ} {B : Fin 256 → ℝ}
variable (hP : ∀ b r j, ((m ((c : Thread nD τ).loc main_arg0) : FVec Ideal S8x4096x7168 .bf16) (ix3 b r j) : EReal) = (P b r j : EReal))
  (hU : ∀ k j, ((m ((c : Thread nD τ).loc main_arg1) : FVec Ideal S16x256 .f32) (ix2 k j) : EReal) = (U k j : EReal))
  (hB : ∀ j, ((m ((c : Thread nD τ).loc main_arg2) : FVec Ideal S256 .f32) (ix1 j) : EReal) = (B j : EReal))

theorem place_eq (t : Fin cfg0.N) (r : Fin 512) (hn : 8 * (t.val % 8) + (up r).val < 64) : place (8 * (t.val % 8) + (up r).val) hn (row r) = under t r :=
  Fin.ext (by unfold place under up row; dsimp only; omega)

theorem bound (t : Fin cfg0.N) (r : Fin 512) : 8 * (t.val % 8) + (up r).val < 64 := by
  have := (up r).isLt
  omega

theorem part_at (o : ℕ) (ho : o + 256 ≤ 7168) (t : Fin cfg0.N) (r : Fin 512) (j : Fin 256) :
    part P o ho (entry t) (8 * (t.val % 8) + (up r).val) (row r) j = P (entry t) (under t r) ⟨o + j.val, by omega⟩ := by
  unfold part
  rw [dif_pos (bound t r), place_eq]

theorem gates_at (t : Fin cfg0.N) (r : Fin 512) (j : Fin 256) : gates P U B (entry t) (8 * (t.val % 8) + (up r).val) (row r) j =
    gate ((∑ k : Fin 16, P (entry t) (under t r) ⟨2816 + k.val, by omega⟩ * U k j) + B j) := by
  unfold gates
  rw [dif_pos (bound t r), place_eq]

/-- The terms of a sum over 128 columns past the sixteenth are zero. -/
theorem sum_sixteen (f : Fin 16 → ℝ) : ∑ k : Fin 128, (if h : k.val < 16 then f ⟨k.val, h⟩ else 0) = ∑ k, f k := by
  refine (Fin.sum_univ_add (a := 16) (b := 112) (fun k : Fin 128 => if h : k.val < 16 then f ⟨k.val, h⟩ else 0)).trans ?_
  have z : ∑ i : Fin 112, (fun k : Fin 128 => if h : k.val < 16 then f ⟨k.val, h⟩ else 0) (Fin.natAdd 16 i) = 0 :=
    Finset.sum_eq_zero fun i _ => dif_neg (by simp only [Fin.val_natAdd]; omega)
  refine (congrArg (_ + ·) z).trans ((add_zero _).trans (Finset.sum_congr rfl fun k _ => ?_))
  exact dif_pos (by simp only [Fin.val_castAdd]; omega)

include hP in
theorem read_at (o : ℕ) (ho : o + 256 ≤ 7168) (t : Fin cfg0.N) (r : Fin 512) (j : Fin 256) (k : Fin 1024) (hk : 1024 + k.val = o + j.val) :
    ((iblk m c 0 t : FVec Ideal S1x512x1024 .bf16) (ix3 0 r k) : EReal) = (part P o ho (entry t) (8 * (t.val % 8) + (up r).val) (row r) j : EReal) := by
  rw [x_at, hP, part_at]
  exact congrArg (fun q => ((P (entry t) (under t r) q : ℝ) : EReal)) (Fin.ext hk)

/-- The gate's linear map, of 128 columns whose weights past the sixteenth are zero. -/
theorem gate_sum (x1 : FVec Ideal S1x512x128 .bf16) (x2 : FVec Ideal S128x256 .bf16) (x3 : FVec Ideal S1x256 .f32) (r : Fin 512) (j : Fin 256)
    (p : Fin 128 → ℝ) (u : Fin 16 → ℝ) (b : ℝ) (h1 : ∀ k, (x1 (ix3 0 r k) : EReal) = (p k : EReal))
    (h2 : ∀ k : Fin 128, (x2 (ix2 k j) : EReal) = if h : k.val < 16 then (u ⟨k.val, h⟩ : EReal) else (0 : EReal)) (h3 : (x3 (ix2 0 j) : EReal) = (b : EReal)) :
    (∑ k : Fin 128, x1 (ix3 0 r k) * x2 (ix2 k j) : EReal) + x3 (ix2 0 j) = (((∑ k : Fin 16, p ⟨k.val, by omega⟩ * u k) + b : ℝ) : EReal) := by
  have term : ∀ k : Fin 128, (x1 (ix3 0 r k) * x2 (ix2 k j) : EReal) = ((if h : k.val < 16 then p ⟨k.val, by omega⟩ * u ⟨k.val, h⟩ else 0 : ℝ) : EReal) := by
    intro k
    rw [h1, h2]
    by_cases h : k.val < 16
    · rw [dif_pos h, dif_pos h, EReal.coe_mul]
    · rw [dif_neg h, dif_neg h, mul_zero, EReal.coe_zero]
  rw [Finset.sum_congr rfl fun k _ => term k, sum_coe, h3, ← EReal.coe_add]
  exact congrArg (fun z : ℝ => ((z + b : ℝ) : EReal)) (sum_sixteen fun k => p ⟨k.val, by omega⟩ * u k)

include hP hU hB in
theorem gate_read (t : Fin cfg0.N) (r : Fin 512) (j : Fin 256) :
    (k0_pay9 (F := Ideal) (iblk m c 1 t) (iblk m c 2 t) (iblk m c 3 t) (ix2 r j) : EReal) = (gates P U B (entry t) (8 * (t.val % 8) + (up r).val) (row r) j : EReal) := by
  rw [gates_at]
  refine gate_at _ _ _ r j _ (gate_sum _ _ _ r j (fun k => P (entry t) (under t r) ⟨2816 + k.val, by omega⟩) (fun k => U k j) (B j) (fun k => ?_) (fun k => ?_) ?_)
  · rw [y_at, hP]
  · rw [b2, weight_table]
    by_cases h : k.val < 16
    · rw [dif_pos h, dif_pos h, hU]
    · rw [dif_neg h, dif_neg h]
  · rw [b3, hB]

/-- The state before a chunk of a batch entry. -/
abbrev mem (P : Fin 8 → Fin 4096 → Fin 7168 → ℝ) (U : Fin 16 → Fin 256 → ℝ) (B : Fin 256 → ℝ) (b : Fin 8) : ℕ → St :=
  states (part P 1280 (by norm_num) b) (part P 1536 (by norm_num) b) (gates P U B b)

include hP hU hB in
/-- What a step reads, its state being the one before its first chunk. -/
theorem tile (t : Fin cfg0.N) (st : FVec Ideal S256x256 .f32) (h : Keeps st (mem P U B (entry t) (8 * (t.val % 8)))) :
    Tile (iblk m c 0 t) (iblk m c 1 t) (iblk m c 2 t) (iblk m c 3 t) (iblk m c 5 t) (iblk m c 7 t) (iblk m c 8 t) st
      (fun u => part P 1024 (by norm_num) (entry t) (8 * (t.val % 8) + u.val)) (fun u => part P 1280 (by norm_num) (entry t) (8 * (t.val % 8) + u.val))
      (fun u => part P 1536 (by norm_num) (entry t) (8 * (t.val % 8) + u.val)) (fun u => gates P U B (entry t) (8 * (t.val % 8) + u.val))
      (fun u => mem P U B (entry t) (8 * (t.val % 8) + u)) where
  q := fun r j => read_at m c hP 1024 (by norm_num) t r j _ (by dsimp only; omega)
  k := fun r j => read_at m c hP 1280 (by norm_num) t r j _ (by dsimp only; omega)
  v := fun r j => read_at m c hP 1536 (by norm_num) t r j _ (by dsimp only; omega)
  a := fun r j => gate_read m c hP hU hB t r j
  before := fun r s => (b5 m c t r s).trans (upto_table m c r s)
  same := fun r s => (b7 m c t r s).trans (same_table m c r s)
  heads := fun r s => (b8 m c t r s).trans (head_table m c r s)
  state := h
  next := fun u => states_succ _ _ _ _

theorem zero_keeps (b : Fin 8) : Keeps (k0_pay2 (F := Ideal)) (mem P U B b 0) := by
  intro e j
  have z : (if hd e = hd j then mem P U B b 0 (hd j) (ln j) (ln e) else 0) = (0 : ℝ) := by
    split_ifs
    · rfl
    · rfl
  rw [z, EReal.coe_zero]
  pointwise [k0_pay2]

include hP hU hB in
/-- The state a step leaves is the one after its eight chunks. -/
theorem kept : ∀ (n : ℕ) (h : n < cfg0.N), Keeps (φ := .f32) (outsAt0 m c n h).2 (mem P U B (entry ⟨n, h⟩) (8 * (n % 8) + 8)) := by
  intro n
  induction n with
  | zero =>
    intro h e j
    rw [outsAt0_A m c ⟨0, h⟩ rfl]
    frame_out
    exact carry_keeps (tile m c hP hU hB ⟨0, h⟩ _ (zero_keeps _)) e j
  | succ n ih =>
    intro h
    have hN : n + 1 < 64 := lt_of_lt_of_eq h N_0
    by_cases h0 : (n + 1) % 8 = 0
    · intro e j
      rw [outsAt0_A m c ⟨n + 1, h⟩ h0]
      frame_out
      refine carry_keeps (tile m c hP hU hB ⟨n + 1, h⟩ _ ?_) e j
      dsimp only
      rw [h0]
      exact zero_keeps _
    · intro e j
      rw [outsAt0_B m c ⟨n + 1, h⟩ h0]
      frame_out
      rw [read_unread_whole]
      refine carry_keeps (tile m c hP hU hB ⟨n + 1, h⟩ _ ?_) e j
      have q := ih (by omega)
      rw [show entry ⟨n, by omega⟩ = entry ⟨n + 1, h⟩ from Fin.ext (by unfold entry; dsimp only; omega), show 8 * (n % 8) + 8 = 8 * ((n + 1) % 8) by omega] at q
      exact q

/-- A step's result is the attention's at the row under it. -/
theorem result_eq (t : Fin cfg0.N) (r : Fin 512) (j : Fin 256) (g x : EReal) :
    result (out (part P 1024 (by norm_num) (entry t) (8 * (t.val % 8) + (up r).val)) (part P 1280 (by norm_num) (entry t) (8 * (t.val % 8) + (up r).val))
      (part P 1536 (by norm_num) (entry t) (8 * (t.val % 8) + (up r).val)) (gates P U B (entry t) (8 * (t.val % 8) + (up r).val))
      (mem P U B (entry t) (8 * (t.val % 8) + (up r).val)) (row r) (hd j)) (ln j) g x =
    result (attended P U B (entry t) (under t r) (hd j)) (ln j) g x := by
  have e : (under t r).val / 64 = 8 * (t.val % 8) + (up r).val := by unfold under up; dsimp only; omega
  have f : (⟨(under t r).val % 64, by omega⟩ : Fin 64) = row r := Fin.ext (by unfold under row; dsimp only; omega)
  refine congrArg (fun o => result o (ln j) g x) (funext fun d => ?_)
  unfold attended
  rw [e, f]

include hP hU hB in
/-- What a step leaves to be stored is the attention's result. -/
theorem left (t : Fin cfg0.N) (r : Fin 512) (j : Fin 256) : (outsAt0 m c t.val t.isLt).1 (ix3 0 r j) =
    result (attended P U B (entry t) (under t r) (hd j)) (ln j) ((m ((c : Thread nD τ).loc main_arg3) : FVec Ideal S256 .f32) (ix1 j))
      ((m ((c : Thread nD τ).loc main_arg0) : FVec Ideal S8x4096x7168 .bf16) (ix3 (entry t) (under t r) ⟨1792 + j.val, by omega⟩)) := by
  have hx : (iblk m c 0 t : FVec Ideal S1x512x1024 .bf16) (ix3 0 r ⟨768 + j.val, by omega⟩) =
      (m ((c : Thread nD τ).loc main_arg0) : FVec Ideal S8x4096x7168 .bf16) (ix3 (entry t) (under t r) ⟨1792 + j.val, by omega⟩) := by
    rw [x_at]
    exact congrArg (fun q => (m ((c : Thread nD τ).loc main_arg0) : FVec Ideal S8x4096x7168 .bf16) (ix3 (entry t) (under t r) q)) (Fin.ext (by dsimp only; omega))
  rw [← hx, ← b4 m c t j, ← result_eq]
  have h6 : ∀ r s, ((iblk m c 6 t : FVec Ideal S512x512 .f32) (ix2 r s) : EReal) = ((if up s = up r ∧ row s ≤ row r then 1 else 0 : ℝ) : EReal) :=
    fun r s => (b6 m c t r s).trans (mask_table m c r s)
  have h9 : Heads (φ := .bf16) (iblk m c 9 t : FVec Ideal S256x256 .bf16) := fun r s => (b9 m c t r s).trans (head_table' m c r s)
  by_cases h0 : t.val % 8 = 0
  · rw [outsAt0_A m c t h0]
    frame_out
    refine stored_at (tile m c hP hU hB t _ ?_) h6 h9 r j
    rw [h0]
    exact zero_keeps _
  · have hN : t.val < 64 := lt_of_lt_of_eq t.isLt N_0
    rw [outsAt0_B m c t h0]
    frame_out
    rw [read_unread_whole]
    refine stored_at (tile m c hP hU hB t _ ?_) h6 h9 r j
    have q := kept m c hP hU hB (t.val - 1) (by omega)
    rw [show entry ⟨t.val - 1, by omega⟩ = entry t from Fin.ext (by unfold entry; dsimp only; omega),
      show 8 * ((t.val - 1) % 8) + 8 = 8 * (t.val % 8) by omega] at q
    exact q

end Run

/-- The result array after the run is the reference's result of the argument arrays. -/
theorem final (c : Dev nD) (hpre : Cert.Pre_finite_gla.fn (F := Ideal) (m ((c : Thread nD τ).loc main_arg0)) (m ((c : Thread nD τ).loc main_arg1))
      (m ((c : Thread nD τ).loc main_arg2)) (m ((c : Thread nD τ).loc main_arg3)) = fun _ => 1#1)
    (it : ℕ → Cert.GlaRefIdeal.Step.State Ideal)
    (h0 : it 0 = Cert.GlaRefIdeal.Step.init (m ((c : Thread nD τ).loc main_arg0)) (m ((c : Thread nD τ).loc main_arg1)) (m ((c : Thread nD τ).loc main_arg2)))
    (hs : ∀ n, it (n + 1) = Cert.GlaRefIdeal.Step.step n (it n)) : (dats m 0 c).arrAt 10 cfg0.N =
    Cert.GlaRefIdeal.Step.R_main_v54 (F := Ideal) (it 64) (m ((c : Thread nD τ).loc main_arg0)) (m ((c : Thread nD τ).loc main_arg3)) := by
  obtain ⟨P, U, B, hP, hU, hB⟩ := Cert.GlaPre.chosen _ _ _ _ hpre
  refine (dats m 0 c).arrAt_eq_of_covers 10 _ (by decide +kernel) fun t _ y => ?_
  have hN : t.val < 64 := lt_of_lt_of_eq t.isLt N_0
  blk_simp
  rw [after0_10]
  idx_vars y
  have e : (((View.whole main_v32).slice (win0_10.rect t)).emb (ix3 y0 y1 y2)) = ix3 (entry t) (under t y1) y2 := by
    unfold entry under
    blk_ext [idx t]
  have z : y0 = 0 := Subsingleton.elim _ _
  subst z
  refine (left m c hP hU hB t y1 y2).trans (Eq.trans ?_ (congrArg _ e).symm)
  exact (Cert.GlaRefIdeal.Pure.reference_at _ _ _ P U B hP hU hB it h0 hs _ _ _ _).symm

end Cert.GlaIdeal.Final
end
-- ==== Proof.ConvBlock.lean ====
module

public import proofs.«01_k».proof.Proof.Gen.ConvIdeal.Frame
public import Idealize.ShloMosaic.Lib.Pointwise
public import Idealize.ShloMosaic.Lib.WordCmp

/-!
What one grid step of the gated convolution computes, read at one entry.
-/

@[expose] public section

set_option maxRecDepth 16384

noncomputable section

open Idealize.ShloMosaic Idealize.ShloMosaic.TcCoe Idealize.SL.Sem

namespace Cert.ConvIdeal.Block

open Cert.ConvIdeal Cert.ConvIdeal.Gen

/-- Choosing by the equality of two small numbers. -/
theorem pick (n k : ℕ) (hn : n < 512) (hk : k < 512) (a b : EReal) :
    Scalar.select (IntOp.cmpi CmpIPredicate.eq (BitVec.ofNat 32 n) (BitVec.ofNat 32 k)) a b = if n = k then a else b := by
  by_cases h : n = k
  · simp [Scalar.select, IntOp.cmpi, h]
  · have q : ¬ (BitVec.ofNat 32 n = BitVec.ofNat 32 k) := fun q => h (by
      have := congrArg BitVec.toNat q
      simp only [BitVec.toNat_ofNat] at this
      omega)
    simp [Scalar.select, IntOp.cmpi, h, beq_eq_false_iff_ne.2 q]

/-- Whether a step is not the first of its sequence, as the machine word the kernel compares. -/
theorem later : ∀ k : Fin 8, Scalar.cmpi CmpIPredicate.sgt (BitVec.ofNat 32 k.val) 0#32 = if 0 < k.val then 1#1 else 0#1 := by
  decide

/-- A gated input of the step's own rows. -/
theorem own_at (x : FVec Ideal S1x512x768 .bf16) (r : Fin 512) (n : Fin 256) : k0_pay3 (F := Ideal) x (ix2 r n) =
    x (ix3 0 r ⟨512 + n.val, by omega⟩) * x (ix3 0 r ⟨n.val, by omega⟩) := by
  pointwise [k0_pay3, k0_pay2]

/-- A gated input of the eight rows before the step's own; zero at the first step of a sequence. -/
theorem before_at (i : grid0.Coords) (p : FVec Ideal S1x8x768 .bf16) (r : Fin 8) (n : Fin 256) : k0_pay4 (F := Ideal) i p (ix2 r n) =
    if 0 < (i 1).val then (p (ix3 0 r ⟨512 + n.val, by omega⟩) * p (ix3 0 r ⟨n.val, by omega⟩) : EReal) else 0 := by
  pointwise [k0_pay4]
  rw [later (i 1)]
  by_cases h : 0 < (i 1).val
  · rw [if_pos h, if_pos h]
    rfl
  · rw [if_neg h, if_neg h]
    rfl

/-- The weighted gated input of the row before. -/
theorem one_at (i : grid0.Coords) (x : FVec Ideal S1x512x768 .bf16) (p : FVec Ideal S1x8x768 .bf16) (w : FVec Ideal S3x256 .f32) (r : Fin 512) (n : Fin 256) :
    k0_pay6 (F := Ideal) i x p w (ix2 r n) =
    w (ix2 1 n) * if h : r.val = 0 then k0_pay4 (F := Ideal) i p (ix2 7 n) else k0_pay3 (F := Ideal) x (ix2 ⟨r.val - 1, by omega⟩ n) := by
  unfold k0_pay6
  generalize k0_pay3 (F := Ideal) x = u
  generalize k0_pay4 (F := Ideal) i p = v
  pointwise
  rw [pick r.val 0 r.isLt (by decide)]
  refine congrArg (_ * ·) ?_
  by_cases h : r.val = 0
  · rw [if_pos h, dif_pos h]
  · rw [if_neg h, dif_neg h]
    exact congrArg (fun q => u (ix2 q n)) (Fin.ext (by dsimp only; omega))

/-- The weighted gated input two rows before. -/
theorem two_at (i : grid0.Coords) (x : FVec Ideal S1x512x768 .bf16) (p : FVec Ideal S1x8x768 .bf16) (w : FVec Ideal S3x256 .f32) (r : Fin 512) (n : Fin 256) :
    k0_pay5 (F := Ideal) i x p w (ix2 r n) =
    w (ix2 0 n) * if h : r.val = 0 then k0_pay4 (F := Ideal) i p (ix2 6 n) else if h : r.val = 1 then k0_pay4 (F := Ideal) i p (ix2 7 n)
      else k0_pay3 (F := Ideal) x (ix2 ⟨r.val - 2, by omega⟩ n) := by
  unfold k0_pay5
  generalize k0_pay3 (F := Ideal) x = u
  generalize k0_pay4 (F := Ideal) i p = v
  pointwise
  rw [pick r.val 0 r.isLt (by decide), pick r.val 1 r.isLt (by decide)]
  refine congrArg (_ * ·) ?_
  by_cases h : r.val = 0
  · rw [if_pos h, dif_pos h]
  · rw [if_neg h, dif_neg h]
    by_cases h1 : r.val = 1
    · rw [if_pos h1, dif_pos h1]
    · rw [if_neg h1, dif_neg h1]
      exact congrArg (fun q => u (ix2 q n)) (Fin.ext (by dsimp only; omega))

/-- The stored block: the weighted rows and the bias, through the gate. -/
theorem stored_at (x : FVec Ideal S512x768 .f32) (u0 : FVec Ideal S512x256 .f32) (w : FVec Ideal S3x256 .f32) (u2 u1 : FVec Ideal S512x256 .f32)
    (b : FVec Ideal S1x256 .f32) (r : Fin 512) (n : Fin 256) : k0_pay1 (F := Ideal) x u0 w u2 u1 b (ix3 0 r n) =
      x (ix2 r ⟨256 + n.val, by omega⟩) * (u2 (ix2 r n) + u1 (ix2 r n) + w (ix2 2 n) * u0 (ix2 r n) + b (ix2 0 n)) := by
  pointwise [k0_pay1]

/-- The gate columns of the step's rows. -/
theorem gate_at (x : FVec Ideal S1x512x768 .bf16) (r : Fin 512) (k : Fin 768) : k0_pay2 (F := Ideal) x (ix2 r k) = x (ix3 0 r k) := by
  pointwise [k0_pay2]

end Cert.ConvIdeal.Block
end
-- ==== Proof.ConvRef.lean ====
module

public import proofs.«01_k».proof.Proof.Gen.ConvRefIdeal.Read
public import Idealize.ShloMosaic.Lib.Pointwise

/-!
What the gated convolution's reference computes, read at one entry.
-/

@[expose] public section

set_option maxRecDepth 16384

noncomputable section

open Idealize.ShloMosaic Idealize.ShloMosaic.TcCoe Idealize.SL.Sem

namespace Cert.ConvRefIdeal.Pure

open Cert.ConvRefIdeal Cert.ConvRefIdeal.Gen Cert.ConvRefIdeal.Read

variable (x : FVec Ideal S8x4096x7168 .bf16) (w : FVec Ideal S3x256 .f32) (b : FVec Ideal S256 .f32)

/-- A gated input: the input column times its gate column. -/
def gated (q : Fin 8) (s : Fin 4096) (n : Fin 256) : EReal := x (ix3 q s ⟨512 + n.val, by omega⟩) * x (ix3 q s ⟨n.val, by omega⟩)

/-- The gated inputs with two rows of zeros before them. -/
theorem padded_at (q : Fin 8) (s : Fin 4098) (n : Fin 256) : val_main_v6 (F := Ideal) x (ix3 q s n) =
    if h : s.val < 2 then 0 else gated x q ⟨s.val - 2, by omega⟩ n := by
  have z : val_main_call0_v0 (F := Ideal) ix0 = (0 : EReal) := by
    pointwise [val_main_call0_v0, val_main_c]
    simp [FloatOps.sitofp]
  pointwise [val_main_v6, val_main_v5, val_main_v4, val_main_v2, val_main_v1, val_main_v0]
  rw [show (Shape.Idx.first h_S_) = ix0 from by decide, z]
  by_cases h : s.val < 2
  · rw [dif_pos h, dif_neg (by omega)]
  · rw [dif_neg h, dif_pos (by omega)]
    rfl

/-- The gated input `k` rows back, zero before the sequence starts. -/
def back (q : Fin 8) (s : Fin 4096) (k : ℕ) (n : Fin 256) : EReal :=
  if h : s.val < k then 0 else gated x q ⟨s.val - k, by omega⟩ n

/-- The reference's result at one entry: three weighted gated inputs and the bias, through the gate. -/
theorem reference_at (q : Fin 8) (s : Fin 4096) (n : Fin 256) : val_main_v31 (F := Ideal) x w b (ix3 q s n) =
    x (ix3 q s ⟨256 + n.val, by omega⟩) * (back x q s 2 n * w (ix2 0 n) + back x q s 1 n * w (ix2 1 n) + gated x q s n * w (ix2 2 n) + b (ix1 n)) := by
  have e2 : val_main_v6 (F := Ideal) x (ix3 q ⟨s.val, by omega⟩ n) = back x q s 2 n := padded_at x q _ n
  have e1 : val_main_v6 (F := Ideal) x (ix3 q ⟨1 + s.val, by omega⟩ n) = back x q s 1 n := by
    refine (padded_at x q _ n).trans ?_
    unfold back
    by_cases h : s.val < 1
    · rw [dif_pos h, dif_pos (by dsimp only; omega)]
    · rw [dif_neg h, dif_neg (by dsimp only; omega)]
      exact congrArg (fun r => gated x q r n) (Fin.ext (by dsimp only; omega))
  have e0 : val_main_v6 (F := Ideal) x (ix3 q ⟨2 + s.val, by omega⟩ n) = gated x q s n := by
    refine (padded_at x q _ n).trans ?_
    rw [dif_neg (by dsimp only; omega)]
    exact congrArg (fun r => gated x q r n) (Fin.ext (by dsimp only; omega))
  rw [← e2, ← e1, ← e0]
  unfold val_main_v31 val_main_v30 val_main_v29 val_main_v26 val_main_v25 val_main_v20 val_main_v19 val_main_v18 val_main_v13 val_main_v12 val_main_v7
  generalize val_main_v6 (F := Ideal) x = p
  pointwise [val_main_v3, val_main_v1, val_main_v0, val_main_v8, val_main_v9, val_main_v10, val_main_v11, val_main_v14, val_main_v15, val_main_v16, val_main_v17,
    val_main_v21, val_main_v22, val_main_v23, val_main_v24, val_main_v27, val_main_v28]

end Cert.ConvRefIdeal.Pure
end
-- ==== Proof.ConvValue.lean ====
module

public import proofs.«01_k».proof.Proof.ConvBlock
public import proofs.«01_k».proof.Proof.ConvRef
public import proofs.«01_k».proof.Proof.Gen.ConvIdeal.Value
public import Idealize.ShloMosaic.Lib.Claim
public import Idealize.ShloMosaic.Lib.Pipeline.ValueKit
public import Idealize.ShloMosaic.Lib.Pipeline.ReadBack

/-!
The gated convolution's result array after the run is the reference's result: each step weighs its rows' gated inputs
and, at its first two rows, those of the eight rows before.
-/

@[expose] public section

set_option maxRecDepth 16384

noncomputable section

open Idealize.ShloMosaic Idealize.ShloMosaic.TcCoe Idealize.SL.Sem
open Idealize.ShloMosaic.Pipeline (Dat)

namespace Cert.ConvIdeal.Final
open Cert.ConvIdeal Cert.ConvIdeal.Gen Cert.ConvRefIdeal.Pure

variable (m : (ℓ : Loc nD τ sig) → Buf (Elt Ideal) ℓ)

/-- The block each window reads or writes at a grid step. -/
theorem idx : ∀ t : Fin cfg0.N, win0_0.index t = ![(grid0.coords t 0).val, (grid0.coords t 1).val, 0] ∧
    win0_1.index t = ![(grid0.coords t 0).val, (grid0.coords t 1).val * 64 - 1, 0] ∧ win0_2.index t = ![0, 0] ∧ win0_3.index t = ![0, 0] ∧
    win0_4.index t = ![(grid0.coords t 0).val, (grid0.coords t 1).val, 0] :=
  (by decide +kernel : ∀ t : Fin grid0.N, _)

/-- The input array, typed. -/
def input (c : Dev nD) : FVec Ideal S8x4096x7168 .bf16 := m ((c : Thread nD τ).loc main_arg0)

/-- The sequence a step works on. -/
def seq (t : Fin cfg0.N) : Fin 8 := ⟨(grid0.coords t 0).val, (grid0.coords t 0).isLt⟩

/-- The row of the sequence that a row of a step's block is. -/
def row (t : Fin cfg0.N) (r : Fin 512) : Fin 4096 :=
  ⟨(grid0.coords t 1).val * 512 + r.val, by have g1 : (grid0.coords t 1).val < 8 := (grid0.coords t 1).isLt; omega⟩

/-- An entry of a step's own rows. -/
theorem own (c : Dev nD) (t : Fin cfg0.N) (r : Fin 512) (k : Fin 768) : (X0_0 m c t : FVec Ideal S1x512x768 .bf16) (ix3 0 r k) =
    input m c (ix3 (seq t) (row t r) ⟨k.val, by omega⟩) := by
  unfold X0_0 Pipeline.Window.fill input
  rw [dif_pos (moved0_0 t _)]
  blk_ext [iblk, V, idx t, seq, row]

/-- An entry of the eight rows before a step's own. -/
theorem before (c : Dev nD) (t : Fin cfg0.N) (h : 0 < (grid0.coords t 1).val) (r : Fin 8) (k : Fin 768) :
    (X0_1 m c t : FVec Ideal S1x8x768 .bf16) (ix3 0 r k) =
    input m c (ix3 (seq t) ⟨(grid0.coords t 1).val * 512 + r.val - 8, by have g1 : (grid0.coords t 1).val < 8 := (grid0.coords t 1).isLt; omega⟩ ⟨k.val, by omega⟩) := by
  unfold X0_1 Pipeline.Window.fill input
  rw [dif_pos (moved0_1 t _)]
  blk_ext [iblk, V, idx t, seq, row]

/-- A step's own rows gated are the sequence's. -/
theorem own_gated (c : Dev nD) (t : Fin cfg0.N) (r : Fin 512) (n : Fin 256) :
    k0_pay3 (F := Ideal) (X0_0 m c t) (ix2 r n) = gated (input m c) (seq t) (row t r) n :=
  (Block.own_at _ r n).trans (congrArg₂ (fun a b : EReal => a * b) (own m c t r _) (own m c t r _))

/-- The eight rows before a step's own, gated, are the sequence's; zero at the first step. -/
theorem before_gated (c : Dev nD) (t : Fin cfg0.N) (r : Fin 8) (n : Fin 256) (k : ℕ) (q : Fin 512) (hq : r.val + k = q.val + 8) (hk : q.val < k) :
    k0_pay4 (F := Ideal) (grid0.coords t) (X0_1 m c t) (ix2 r n) = back (input m c) (seq t) (row t q) k n := by
  have g1 : (grid0.coords t 1).val < 8 := (grid0.coords t 1).isLt
  refine (Block.before_at _ _ r n).trans ?_
  unfold back row
  by_cases h : 0 < (grid0.coords t 1).val
  · rw [if_pos h, dif_neg (by dsimp only; omega)]
    refine (congrArg₂ (fun a b : EReal => a * b) (before m c t h r _) (before m c t h r _)).trans ?_
    exact congrArg (fun s => gated (input m c) (seq t) s n) (Fin.ext (by dsimp only; omega))
  · rw [if_neg h, dif_pos (by dsimp only; omega)]

/-- The weighted gated input one row back, as the step computes it. -/
theorem one (c : Dev nD) (t : Fin cfg0.N) (w : FVec Ideal S3x256 .f32) (r : Fin 512) (n : Fin 256) :
    k0_pay6 (F := Ideal) (grid0.coords t) (X0_0 m c t) (X0_1 m c t) w (ix2 r n) = back (input m c) (seq t) (row t r) 1 n * w (ix2 1 n) := by
  refine (Block.one_at _ _ _ _ r n).trans ((mul_comm _ _).trans (congrArg (· * _) ?_))
  by_cases h : r.val = 0
  · rw [dif_pos h]
    exact before_gated m c t 7 n 1 r (by change 7 + 1 = _; omega) (by omega)
  · rw [dif_neg h, own_gated]
    unfold back row
    rw [dif_neg (by dsimp only; omega)]
    exact congrArg (fun s => gated (input m c) (seq t) s n) (Fin.ext (by dsimp only; omega))

/-- The weighted gated input two rows back, as the step computes it. -/
theorem two (c : Dev nD) (t : Fin cfg0.N) (w : FVec Ideal S3x256 .f32) (r : Fin 512) (n : Fin 256) :
    k0_pay5 (F := Ideal) (grid0.coords t) (X0_0 m c t) (X0_1 m c t) w (ix2 r n) = back (input m c) (seq t) (row t r) 2 n * w (ix2 0 n) := by
  refine (Block.two_at _ _ _ _ r n).trans ((mul_comm _ _).trans (congrArg (· * _) ?_))
  by_cases h : r.val = 0
  · rw [dif_pos h]
    exact before_gated m c t 6 n 2 r (by change 6 + 2 = _; omega) (by omega)
  · rw [dif_neg h]
    by_cases h1 : r.val = 1
    · rw [dif_pos h1]
      exact before_gated m c t 7 n 2 r (by change 7 + 2 = _; omega) (by omega)
    · rw [dif_neg h1, own_gated]
      unfold back row
      rw [dif_neg (by dsimp only; omega)]
      exact congrArg (fun s => gated (input m c) (seq t) s n) (Fin.ext (by dsimp only; omega))

/-- The result array after the run is the reference's result of the argument arrays. -/
theorem final (c : Dev nD) : (dats m 0 c).arrAt 4 cfg0.N =
    Cert.ConvRefIdeal.Read.val_main_v31 (F := Ideal) (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]
  unfold outsAt0 out0_A_4
  frame_out
  idx_vars y
  obtain rfl : y0 = 0 := Subsingleton.elim _ _
  have e : (((View.whole main_v1).slice (win0_4.rect t)).emb (ix3 (0 : Fin 1) y1 y2)) = ix3 (seq t) (row t y1) y2 := by
    blk_ext [idx t, seq, row]
  refine (Block.stored_at _ _ _ _ _ _ _ _).trans (Eq.trans ?_ (congrArg _ e).symm)
  refine Eq.trans ?_ (reference_at _ _ _ _ _ _).symm
  have x2 : ∀ k : Fin 3, (iblk m c 2 t : FVec Ideal S3x256 .f32) (ix2 k y2) = (m ((c : Thread nD τ).loc main_arg1) : FVec Ideal S3x256 .f32) (ix2 k y2) := by
    intro k
    blk_ext [iblk, V, idx t]
  have x3 : (iblk m c 3 t : FVec Ideal S1x256 .f32) (ix2 0 y2) = (m ((c : Thread nD τ).loc main_arg2) : FVec Ideal S256 .f32) (ix1 y2) := by
    blk_point [iblk, V, idx t]
  refine congrArg₂ (fun a b : EReal => a * b) ((Block.gate_at _ _ _).trans (own m c t y1 _)) ?_
  refine congrArg₂ (fun a b : EReal => a + b) (congrArg₂ (fun a b : EReal => a + b) (congrArg₂ (fun a b : EReal => a + b) ?_ ?_) ?_) x3
  · exact (two m c t _ y1 y2).trans (congrArg _ (x2 0))
  · exact (one m c t _ y1 y2).trans (congrArg _ (x2 1))
  · exact (congrArg₂ (fun a b : EReal => a * b) (x2 2) (own_gated m c t y1 y2)).trans (mul_comm _ _)

end Cert.ConvIdeal.Final
end
-- ==== Proof.RouterRow.lean ====
module

public import proofs.«01_k».proof.Proof.RouterMath

/-!
Four real numbers in four neighbouring lanes of a row of 128, minus infinity in the others.
-/

@[expose] public section

noncomputable section

open Idealize.ShloMosaic Idealize.SL.Sem

namespace Cert.RouterMath

/-- A row with four numbers from lane `s` on. -/
def row (s : ℕ) (f : Fin 4 → ℝ) (l : Fin 128) : EReal :=
  if h : s ≤ l.val ∧ l.val < s + 4 then ((f ⟨l.val - s, by omega⟩ : ℝ) : EReal) else ⊥

/-- The row without one of the four. -/
def rest (s : ℕ) (f : Fin 4 → ℝ) (a : Fin 4) (l : Fin 128) : EReal := if l.val = s + a.val then ⊥ else row s f l

/-- A lane of the four. -/
theorem row_in (s : ℕ) (f : Fin 4 → ℝ) (k : Fin 4) (h : s + k.val < 128) : row s f ⟨s + k.val, h⟩ = (f k : EReal) := by
  unfold row
  rw [dif_pos ⟨by dsimp only; omega, by dsimp only; omega⟩]
  have e : (⟨s + k.val - s, by omega⟩ : Fin 4) = k := Fin.ext (by dsimp only; omega)
  exact congrArg (fun j => ((f j : ℝ) : EReal)) e

/-- The others. -/
theorem row_out (s : ℕ) (f : Fin 4 → ℝ) (l : Fin 128) (h : ¬(s ≤ l.val ∧ l.val < s + 4)) : row s f l = ⊥ := dif_neg h

/-- The number that leads the four leads the row. -/
theorem row_ahead (s : ℕ) (f : Fin 4 → ℝ) (a : Fin 4) (hs : s + a.val < 128) (h : ∀ j, j ≠ a → Ahead f a j) (l : Fin 128)
    (hl : l ≠ ⟨s + a.val, hs⟩) : Ahead (row s f) ⟨s + a.val, hs⟩ l := by
  unfold Ahead
  rw [row_in]
  by_cases q : s ≤ l.val ∧ l.val < s + 4
  · have n : (⟨l.val - s, by omega⟩ : Fin 4) ≠ a := fun z => hl (Fin.ext (by have := congrArg Fin.val z; dsimp only at this ⊢; omega))
    unfold row
    rw [dif_pos q]
    rcases h _ n with h | ⟨h, h'⟩
    · exact .inl (EReal.coe_lt_coe_iff.2 h)
    · exact .inr ⟨EReal.coe_eq_coe_iff.2 h, by rw [Fin.lt_def] at h' ⊢; dsimp only at h' ⊢; omega⟩
  · rw [row_out _ _ _ q]
    exact .inl (EReal.bot_lt_coe _)

/-- The number that leads the other three leads the row without the first. -/
theorem rest_ahead (s : ℕ) (f : Fin 4 → ℝ) (a b : Fin 4) (hs : s + b.val < 128) (hb : b ≠ a) (h : ∀ j, j ≠ a → j ≠ b → Ahead f b j) (l : Fin 128)
    (hl : l ≠ ⟨s + b.val, hs⟩) : Ahead (rest s f a) ⟨s + b.val, hs⟩ l := by
  have hb' : ¬ b.val = a.val := fun z => hb (Fin.ext z)
  have e : rest s f a ⟨s + b.val, hs⟩ = (f b : EReal) := by
    unfold rest
    rw [if_neg (by change ¬ s + b.val = s + a.val; omega), row_in]
  unfold Ahead
  rw [e]
  unfold rest
  by_cases q1 : l.val = s + a.val
  · rw [if_pos q1]
    exact .inl (EReal.bot_lt_coe _)
  rw [if_neg q1]
  by_cases q : s ≤ l.val ∧ l.val < s + 4
  · have n : (⟨l.val - s, by omega⟩ : Fin 4) ≠ b := fun z => hl (Fin.ext (by have := congrArg Fin.val z; dsimp only at this ⊢; omega))
    have n1 : (⟨l.val - s, by omega⟩ : Fin 4) ≠ a := fun z => q1 (by have := congrArg Fin.val z; dsimp only at this ⊢; omega)
    unfold row
    rw [dif_pos q]
    rcases h _ n1 n with h | ⟨h, h'⟩
    · exact .inl (EReal.coe_lt_coe_iff.2 h)
    · exact .inr ⟨EReal.coe_eq_coe_iff.2 h, by rw [Fin.lt_def] at h' ⊢; dsimp only at h' ⊢; omega⟩
  · rw [row_out _ _ _ q]
    exact .inl (EReal.bot_lt_coe _)

/-- The exponentials of the row's differences add up to those of the four. -/
theorem row_sum (s : ℕ) (hs : s + 4 ≤ 128) (f : Fin 4 → ℝ) (M : ℝ) :
    (∑ l : Fin 128, Ideal.exp (row s f l - (M : EReal))) = ((∑ k, Real.exp (f k - M) : ℝ) : EReal) := by
  rw [← sum_coe]
  refine (Fintype.sum_of_injective (fun k : Fin 4 => (⟨s + k.val, by omega⟩ : Fin 128)) ?_ _ _ ?_ ?_).symm
  · intro k k' h
    have := congrArg Fin.val h
    exact Fin.ext (by change s + k.val = s + k'.val at this; omega)
  · intro l hl
    rw [row_out, EReal.bot_sub]
    · rfl
    · intro q
      exact hl ⟨⟨l.val - s, by omega⟩, Fin.ext (by change s + (l.val - s) = l.val; omega)⟩
  · intro k
    rw [row_in, ← EReal.coe_sub, Ideal.exp_coe]

/-- The four lanes of an expert's group. -/
theorem lane (l : Fin 128) (k : Fin 4) : (Ideal.liftRound Int.floor (((l.val : ℝ) : EReal) * ((1 / 4 : ℝ) : EReal)) = ((k.val : ℝ) : EReal)) ↔
    (4 * k.val ≤ l.val ∧ l.val < 4 * k.val + 4) := by
  rw [← EReal.coe_mul]
  have q : ⌊((l.val : ℝ) * (1 / 4))⌋ = ((l.val / 4 : ℕ) : ℤ) := by
    rw [Int.floor_eq_iff]
    have h1 : 4 * (l.val / 4) ≤ l.val := by omega
    have h2 : l.val < 4 * (l.val / 4) + 4 := by omega
    have h1' : (4 : ℝ) * ((l.val / 4 : ℕ) : ℝ) ≤ (l.val : ℝ) := by exact_mod_cast h1
    have h2' : (l.val : ℝ) < (4 : ℝ) * ((l.val / 4 : ℕ) : ℝ) + 4 := by exact_mod_cast h2
    rw [Int.cast_natCast]
    constructor <;> linarith
  change ((⌊((l.val : ℝ) * (1 / 4))⌋ : ℝ) : EReal) = _ ↔ _
  rw [q, EReal.coe_eq_coe_iff, Int.cast_natCast, Nat.cast_inj]
  omega

end Cert.RouterMath
end
-- ==== Proof.RouterBlock.lean ====
module

public import proofs.«01_k».proof.Proof.Gen.RouterIdeal.Frame
public import proofs.«01_k».proof.Proof.CrossMath
public import proofs.«01_k».proof.Proof.RouterRow
public import Idealize.ShloMosaic.Lib.Pointwise
public import Idealize.ShloMosaic.Lib.WordCmp

/-!
One block of the router: the normalised rows, their logits, and the weights of the chosen experts.
-/

@[expose] public section

set_option maxRecDepth 16384

noncomputable section

open Idealize.ShloMosaic Idealize.ShloMosaic.TcCoe Idealize.SL.Sem

namespace Cert.RouterIdeal.Block
open Cert.RouterIdeal Cert.RouterIdeal.Gen Cert.CrossMath Cert.RouterMath

/-- The normalised rows of a block. -/
theorem normed_at (v0 : FVec Ideal S512x1024 .f32) (v1 : FVec Ideal S1x1024 .f32) (r : Fin 512) (k : Fin 1024) :
    k0_pay2 (F := Ideal) v0 v1 (ix2 r k) = v0 (ix2 r k) * scale (fun l => v0 (ix2 r l)) * v1 (ix2 0 k) := by
  pointwise [k0_pay2]
  rfl

/-- What a block stores of them. -/
theorem stored_at (v0 : FVec Ideal S512x1024 .f32) (v1 : FVec Ideal S1x1024 .f32) (r : Fin 512) (k : Fin 1024) :
    k0_pay3 (F := Ideal) v0 v1 (ix2 r k) = v0 (ix2 r k) * scale (fun l => v0 (ix2 r l)) * v1 (ix2 0 k) :=
  normed_at v0 v1 r k

/-- The logits of a block. -/
theorem logits_at (v0 : FVec Ideal S512x1024 .f32) (v1 : FVec Ideal S1x1024 .f32) (v17 : FVec Ideal S1024x128 .f32) (v20 : FVec Ideal S1x128 .f32)
    (r : Fin 512) (l : Fin 128) : k0_pay4 (F := Ideal) v0 v1 v17 v20 (ix2 r l) =
      (∑ k : Fin 1024, v0 (ix2 r k) * scale (fun l => v0 (ix2 r l)) * v1 (ix2 0 k) * v17 (ix2 k l)) + v20 (ix2 0 l) := by
  simp only [← normed_at]
  unfold k0_pay4
  generalize k0_pay2 (F := Ideal) v0 v1 = h
  pointwise

/-- The lanes' numbers. -/
theorem lanes_at (r : Fin 512) (l : Fin 128) : k0_pay5 (F := Ideal) (ix2 r l) = ((l.val : ℝ) : EReal) := by
  pointwise [k0_pay5]
  have q : ∀ l : Fin 128, (BitVec.ofNat 32 l.val).toInt = (l.val : ℤ) := by decide
  simp [FloatOps.sitofp, q]

/-- Lane 16 to lane 19, as the words' comparisons say it. -/
theorem sixteen : ∀ l : Fin 128, IntOp.andi (IntOp.cmpi .sge (BitVec.ofNat 32 l.val) 16#32) (IntOp.cmpi .slt (BitVec.ofNat 32 l.val) 20#32) =
    if 16 ≤ l.val ∧ l.val < 16 + 4 then 1#1 else 0#1 := by
  decide

/-- Minus infinity. -/
theorem bot_bits : Ideal.ofBits .f32 4286578688#32 = ⊥ := by simp [Ideal.ofBits, Ideal.ieee]

/-- Plus infinity. -/
theorem top_bits : Ideal.ofBits .f32 2139095040#32 = ⊤ := by simp [Ideal.ofBits, Ideal.ieee]

/-- The constant 128. -/
theorem far_bits : Ideal.ofBits .f32 1124073472#32 = ((128 : ℝ) : EReal) := by
  simp [Ideal.ofBits, Ideal.ieee]
  rw [← EReal.coe_mul]
  exact congrArg _ (by norm_num)

/-- The constant 16. -/
theorem sixteen_bits : Ideal.ofBits .f32 1098907648#32 = ((16 : ℝ) : EReal) := by
  simp [Ideal.ofBits, Ideal.ieee]
  rw [← EReal.coe_mul]
  exact congrArg _ (by norm_num)

/-- The constant 1/4. -/
theorem quarter_bits : Ideal.ofBits .f32 1048576000#32 = ((1 / 4 : ℝ) : EReal) := by
  simp [Ideal.ofBits, Ideal.ieee]
  rw [← EReal.coe_mul]
  exact congrArg _ (by norm_num)

/-- The first of the lanes that hold the leading number of a row. -/
theorem first_lane (f : Fin 128 → EReal) (k : Fin 128) (M : EReal) (hM : f k = M) (h : ∀ l, l ≠ k → Ahead f k l) :
    Finset.univ.fold min (⊤ : EReal) (fun l => if f l = M then ((l.val : ℝ) : EReal) else ((128 : ℝ) : EReal)) = ((k.val : ℝ) : EReal) := by
  subst hM
  exact fold_min f k h _ _ le_top (EReal.coe_le_coe_iff.2 (by exact_mod_cast k.isLt.le))

section groups
variable (v0 : FVec Ideal S512x1024 .f32) (v1 : FVec Ideal S1x1024 .f32) (v17 : FVec Ideal S1024x128 .f32) (v20 : FVec Ideal S1x128 .f32)

/-- The lanes of the groups' logits. -/
theorem groups_at (r : Fin 512) (G : Fin 4 → ℝ) (hG : ∀ j : Fin 4, k0_pay4 (F := Ideal) v0 v1 v17 v20 (ix2 r ⟨16 + j.val, by omega⟩) = (G j : EReal))
    (l : Fin 128) : k0_pay6 (F := Ideal) v0 v1 v17 v20 (ix2 r l) = row 16 G l := by
  unfold k0_pay6
  generalize k0_pay4 (F := Ideal) v0 v1 v17 v20 = lg at hG
  pointwise
  rw [sixteen, bot_bits]
  by_cases h : 16 ≤ l.val ∧ l.val < 16 + 4
  · rw [if_pos h]
    have e : l = ⟨16 + (⟨l.val - 16, by omega⟩ : Fin 4).val, by dsimp only; omega⟩ := Fin.ext (by dsimp only; omega)
    rw [e, row_in]
    exact hG _
  · rw [if_neg h, row_out _ _ _ h]
    rfl

/-- The largest of them. -/
theorem top_at (r : Fin 512) (f : Fin 128 → EReal) (k : Fin 128) (hf : ∀ l, k0_pay6 (F := Ideal) v0 v1 v17 v20 (ix2 r l) = f l)
    (h : ∀ l, l ≠ k → Ahead f k l) : k0_pay7 (F := Ideal) v0 v1 v17 v20 (ix2 r 0) = f k := by
  unfold k0_pay7
  generalize k0_pay6 (F := Ideal) v0 v1 v17 v20 = w at hf
  pointwise
  rw [bot_bits, funext hf]
  exact fold_max f k h _ bot_le

/-- Where a lane holds the largest, its number; 128 elsewhere. -/
theorem mark_at (r : Fin 512) (l : Fin 128) : k0_pay8 (F := Ideal) v0 v1 v17 v20 (ix2 r l) =
    if k0_pay6 (F := Ideal) v0 v1 v17 v20 (ix2 r l) = k0_pay7 (F := Ideal) v0 v1 v17 v20 (ix2 r 0) then ((l.val : ℝ) : EReal) else ((128 : ℝ) : EReal) := by
  rw [← lanes_at r l, ← far_bits]
  unfold k0_pay8
  generalize k0_pay6 (F := Ideal) v0 v1 v17 v20 = w
  generalize k0_pay7 (F := Ideal) v0 v1 v17 v20 = w'
  generalize k0_pay5 (F := Ideal) = ln
  pointwise

end groups

/-- The weight of the chosen group. -/
theorem group_at (v32 : FVec Ideal S512x128 .f32) (v34 : FVec Ideal S512x1 .f32) (r : Fin 512) (G : Fin 4 → ℝ) (k : Fin 4)
    (h32 : ∀ l, v32 (ix2 r l) = row 16 G l) (h34 : v34 (ix2 r 0) = (G k : EReal)) : k0_pay9 (F := Ideal) v32 v34 (ix2 r 0) = (soft G k : EReal) := by
  pointwise [k0_pay9]
  simp only [h32, h34]
  rw [row_sum 16 (by omega), ← soft_lead]
  exact div_coe 1 _ (sum_pos fun j => G j - G k).ne'

variable (v23 v25 v38 : FVec Ideal S512x128 .f32)

/-- The lanes of the chosen group's experts. -/
theorem experts_at (r : Fin 512) (k : Fin 4) (e : Fin 4 → ℝ) (h25 : ∀ l, v25 (ix2 r l) = ((l.val : ℝ) : EReal))
    (h38 : Finset.univ.fold min (⊤ : EReal) (fun l => v38 (ix2 r l)) = (((16 + k.val : ℕ) : ℝ) : EReal))
    (he : ∀ j : Fin 4, v23 (ix2 r ⟨4 * k.val + j.val, by omega⟩) = (e j : EReal)) (l : Fin 128) :
    k0_pay10 (F := Ideal) v23 v25 v38 (ix2 r l) = row (4 * k.val) e l := by
  pointwise [k0_pay10]
  have q : (((16 + k.val : ℕ) : ℝ) : EReal) - ((16 : ℝ) : EReal) = ((k.val : ℝ) : EReal) := by
    rw [← EReal.coe_sub]
    congr 1
    push_cast
    ring
  rw [bot_bits, top_bits, sixteen_bits, quarter_bits, h38, h25, q]
  by_cases h : 4 * k.val ≤ l.val ∧ l.val < 4 * k.val + 4
  · rw [if_pos ((lane l k).2 h)]
    have e : l = ⟨4 * k.val + (⟨l.val - 4 * k.val, by omega⟩ : Fin 4).val, by dsimp only; omega⟩ := Fin.ext (by dsimp only; omega)
    rw [e, row_in]
    exact he _
  · rw [if_neg (fun z => h ((lane l k).1 z)), row_out _ _ _ h]

/-- The largest of a row. -/
theorem first_top (r : Fin 512) (f : Fin 128 → EReal) (k : Fin 128) (hf : ∀ l, k0_pay10 (F := Ideal) v23 v25 v38 (ix2 r l) = f l)
    (h : ∀ l, l ≠ k → Ahead f k l) : k0_pay11 (F := Ideal) v23 v25 v38 (ix2 r 0) = f k := by
  unfold k0_pay11
  generalize k0_pay10 (F := Ideal) v23 v25 v38 = w at hf
  pointwise
  rw [bot_bits, funext hf]
  exact fold_max f k h _ bot_le

/-- The lane of it. -/
theorem first_place (r : Fin 512) (f : Fin 128 → EReal) (k : Fin 128) (h25 : ∀ l, v25 (ix2 r l) = ((l.val : ℝ) : EReal))
    (hf : ∀ l, k0_pay10 (F := Ideal) v23 v25 v38 (ix2 r l) = f l)
    (h : ∀ l, l ≠ k → Ahead f k l) : k0_pay12 (F := Ideal) v23 v25 v38 (ix2 r 0) = ((k.val : ℝ) : EReal) := by
  have t := first_top v23 v25 v38 r f k hf h
  unfold k0_pay12
  generalize k0_pay10 (F := Ideal) v23 v25 v38 = w at hf
  generalize k0_pay11 (F := Ideal) v23 v25 v38 = w' at t
  pointwise
  rw [top_bits, far_bits, t]
  simp only [hf, h25]
  exact first_lane f k _ rfl h

/-- The lanes without the first expert's. -/
theorem rest_at (r : Fin 512) (s : ℕ) (e : Fin 4 → ℝ) (a : Fin 4) (h25 : ∀ l, v25 (ix2 r l) = ((l.val : ℝ) : EReal))
    (hf : ∀ l, k0_pay10 (F := Ideal) v23 v25 v38 (ix2 r l) = row s e l)
    (ha : k0_pay12 (F := Ideal) v23 v25 v38 (ix2 r 0) = (((s + a.val : ℕ) : ℝ) : EReal)) (l : Fin 128) :
    k0_pay13 (F := Ideal) v23 v25 v38 (ix2 r l) = rest s e a l := by
  unfold k0_pay13
  generalize k0_pay10 (F := Ideal) v23 v25 v38 = w at hf
  generalize k0_pay12 (F := Ideal) v23 v25 v38 = w' at ha
  pointwise
  rw [bot_bits, ha, h25, hf]
  unfold rest
  simp only [EReal.coe_eq_coe_iff, Nat.cast_inj]

/-- The second largest of the group. -/
theorem second_top (r : Fin 512) (f : Fin 128 → EReal) (k : Fin 128) (hf : ∀ l, k0_pay13 (F := Ideal) v23 v25 v38 (ix2 r l) = f l)
    (h : ∀ l, l ≠ k → Ahead f k l) : k0_pay14 (F := Ideal) v23 v25 v38 (ix2 r 0) = f k := by
  unfold k0_pay14
  generalize k0_pay13 (F := Ideal) v23 v25 v38 = w at hf
  pointwise
  rw [bot_bits, funext hf]
  exact fold_max f k h _ bot_le

/-- The lane of it. -/
theorem second_place (r : Fin 512) (f : Fin 128 → EReal) (k : Fin 128) (h25 : ∀ l, v25 (ix2 r l) = ((l.val : ℝ) : EReal))
    (hf : ∀ l, k0_pay13 (F := Ideal) v23 v25 v38 (ix2 r l) = f l)
    (h : ∀ l, l ≠ k → Ahead f k l) : k0_pay15 (F := Ideal) v23 v25 v38 (ix2 r 0) = ((k.val : ℝ) : EReal) := by
  have t := second_top v23 v25 v38 r f k hf h
  unfold k0_pay15
  generalize k0_pay13 (F := Ideal) v23 v25 v38 = w at hf
  generalize k0_pay14 (F := Ideal) v23 v25 v38 = w' at t
  pointwise
  rw [top_bits, far_bits, t]
  simp only [hf, h25]
  exact first_lane f k _ rfl h

/-- The exponential of the two logits' difference. -/
theorem ratio_at (r : Fin 512) (p q : ℝ) (hp : k0_pay11 (F := Ideal) v23 v25 v38 (ix2 r 0) = (p : EReal))
    (hq : k0_pay14 (F := Ideal) v23 v25 v38 (ix2 r 0) = (q : EReal)) : k0_pay16 (F := Ideal) v23 v25 v38 (ix2 r 0) = (Real.exp (q - p) : EReal) := by
  unfold k0_pay16
  generalize k0_pay11 (F := Ideal) v23 v25 v38 = w at hp
  generalize k0_pay14 (F := Ideal) v23 v25 v38 = w' at hq
  pointwise
  rw [hp, hq, ← EReal.coe_sub, Ideal.exp_coe]

/-- The first expert's share. -/
theorem share_at (r : Fin 512) (p : ℝ) (hp : k0_pay16 (F := Ideal) v23 v25 v38 (ix2 r 0) = (p : EReal)) (h0 : 0 < p) :
    k0_pay17 (F := Ideal) v23 v25 v38 (ix2 r 0) = ((1 / (1 + p) : ℝ) : EReal) := by
  unfold k0_pay17
  generalize k0_pay16 (F := Ideal) v23 v25 v38 = w at hp
  pointwise
  rw [hp]
  exact div_coe 1 (1 + p) (by positivity)

/-- What a block stores in the end. -/
theorem weights_at (v49 v64 v76 v78 v82 : FVec Ideal S512x1 .f32) (one : Ideal .f32) (r : Fin 512) (l : Fin 128) :
    k0_pay1 (F := Ideal) v25 v49 v64 v76 v78 v82 one (ix2 r l) =
      if v25 (ix2 r l) = v64 (ix2 r 0) then v49 (ix2 r 0) * v82 (ix2 r 0)
      else if v25 (ix2 r l) = v76 (ix2 r 0) then v49 (ix2 r 0) * Ideal.div (v78 (ix2 r 0)) (one + v78 (ix2 r 0)) else 0 := by
  pointwise [k0_pay1]

/-- The block's second result, when the logits of the row are real and a group and two experts lead. -/
theorem combine_at (v0 : FVec Ideal S512x1024 .f32) (v1 : FVec Ideal S1x1024 .f32) (v17 : FVec Ideal S1024x128 .f32) (v20 : FVec Ideal S1x128 .f32)
    (one : Ideal .f32) (hone : one = ((1 : ℝ) : EReal)) (r : Fin 512) (l : Fin 128) (E : Fin 16 → ℝ) (G : Fin 4 → ℝ) (k a b : Fin 4)
    (hE : ∀ n : Fin 16, k0_pay4 (F := Ideal) v0 v1 v17 v20 (ix2 r ⟨n.val, by omega⟩) = (E n : EReal))
    (hG : ∀ j : Fin 4, k0_pay4 (F := Ideal) v0 v1 v17 v20 (ix2 r ⟨16 + j.val, by omega⟩) = (G j : EReal))
    (hk : ∀ j, j ≠ k → Ahead G k j) (hba : b ≠ a) (ha : ∀ j, j ≠ a → Ahead (fun j : Fin 4 => E ⟨4 * k.val + j.val, by omega⟩) a j)
    (hb : ∀ j, j ≠ a → j ≠ b → Ahead (fun j : Fin 4 => E ⟨4 * k.val + j.val, by omega⟩) b j) :
    k0_pay1 (F := Ideal) (k0_pay5 (F := Ideal)) (k0_pay9 (k0_pay6 v0 v1 v17 v20) (k0_pay7 v0 v1 v17 v20))
      (k0_pay12 (k0_pay4 v0 v1 v17 v20) (k0_pay5 (F := Ideal)) (k0_pay8 v0 v1 v17 v20))
      (k0_pay15 (k0_pay4 v0 v1 v17 v20) (k0_pay5 (F := Ideal)) (k0_pay8 v0 v1 v17 v20))
      (k0_pay16 (k0_pay4 v0 v1 v17 v20) (k0_pay5 (F := Ideal)) (k0_pay8 v0 v1 v17 v20))
      (k0_pay17 (k0_pay4 v0 v1 v17 v20) (k0_pay5 (F := Ideal)) (k0_pay8 v0 v1 v17 v20)) one (ix2 r l) = (share E G k a b l.val : EReal) := by
  have g6 := groups_at v0 v1 v17 v20 r G hG
  have lead := row_ahead 16 G k (by omega) hk
  have g7 := (top_at v0 v1 v17 v20 r _ _ g6 lead).trans (row_in 16 G k (by omega))
  have g9 := group_at _ _ r G k g6 g7
  have g8 : Finset.univ.fold min (⊤ : EReal) (fun l => k0_pay8 (F := Ideal) v0 v1 v17 v20 (ix2 r l)) = (((16 + k.val : ℕ) : ℝ) : EReal) := by
    simp only [mark_at, g6, g7]
    exact first_lane (row 16 G) ⟨16 + k.val, by omega⟩ _ (row_in 16 G k (by omega)) lead
  have h25 := lanes_at r
  have he : ∀ j : Fin 4, k0_pay4 (F := Ideal) v0 v1 v17 v20 (ix2 r ⟨4 * k.val + j.val, by omega⟩) = ((fun j : Fin 4 => E ⟨4 * k.val + j.val, by omega⟩) j : EReal) :=
    fun j => hE ⟨4 * k.val + j.val, by omega⟩
  unfold share
  generalize (fun j : Fin 4 => E ⟨4 * k.val + j.val, by omega⟩) = e at ha hb he
  generalize k0_pay4 (F := Ideal) v0 v1 v17 v20 = v23 at he
  generalize k0_pay8 (F := Ideal) v0 v1 v17 v20 = v38 at g8
  generalize k0_pay5 (F := Ideal) = v25 at h25
  generalize k0_pay9 (F := Ideal) (k0_pay6 v0 v1 v17 v20) (k0_pay7 v0 v1 v17 v20) = v49 at g9
  have e10 := experts_at v23 v25 v38 r k e h25 g8 he
  have la := row_ahead (4 * k.val) e a (by omega) ha
  have e11 := (first_top v23 v25 v38 r _ _ e10 la).trans (row_in _ _ _ _)
  have e12 := first_place v23 v25 v38 r _ _ h25 e10 la
  have e13 := rest_at v23 v25 v38 r _ e a h25 e10 e12
  have lb := rest_ahead (4 * k.val) e a b (by omega) hba hb
  have nb : ¬ b.val = a.val := fun z => hba (Fin.ext z)
  have e14 : k0_pay14 (F := Ideal) v23 v25 v38 (ix2 r 0) = (e b : EReal) := by
    refine (second_top v23 v25 v38 r _ _ e13 lb).trans ?_
    unfold rest
    rw [if_neg (by change ¬ 4 * k.val + b.val = 4 * k.val + a.val; omega), row_in]
  have e15 := second_place v23 v25 v38 r _ _ h25 e13 lb
  have e16 := ratio_at v23 v25 v38 r _ _ e11 e14
  have e17 := share_at v23 v25 v38 r _ e16 (Real.exp_pos _)
  refine (weights_at v25 _ _ _ _ _ _ r l).trans ?_
  rw [g9, e12, e15, e16, e17, h25, hone, ← EReal.coe_add, div_coe _ _ (by positivity), first_share, second_share]
  simp only [EReal.coe_eq_coe_iff, Nat.cast_inj]
  rw [← EReal.coe_mul, ← EReal.coe_mul]
  by_cases c0 : l.val = 4 * k.val + a.val
  · rw [if_pos c0, if_pos c0]
  rw [if_neg c0, if_neg c0]
  by_cases c1 : l.val = 4 * k.val + b.val
  · rw [if_pos c1, if_pos c1]
  rw [if_neg c1, if_neg c1]
  rfl

end Cert.RouterIdeal.Block
end
-- ==== Proof.RouterRef.lean ====
module

public import proofs.«01_k».proof.Proof.Gen.RouterRefIdeal.Read
public import proofs.«01_k».proof.Proof.CrossMath
public import proofs.«01_k».proof.Proof.RouterMath
public import Idealize.ShloMosaic.Lib.Pointwise
public import Idealize.ShloMosaic.Lib.WordCmp

/-!
The router's reference, read at one entry.
-/

@[expose] public section

set_option maxRecDepth 16384

noncomputable section

open Idealize.ShloMosaic Idealize.SL.Sem

namespace Cert.RouterRefIdeal.Pure
open Cert.RouterRefIdeal Cert.RouterRefIdeal.Gen Cert.RouterRefIdeal.Read Cert.CrossMath Cert.RouterMath

variable (x : FVec Ideal S32768x1024 .f32) (g : FVec Ideal S1024 .f32) (we : FVec Ideal S1024x16 .f32)
  (be : FVec Ideal S16 .f32) (wg : FVec Ideal S1024x4 .f32) (bg : FVec Ideal S4 .f32)

/-- The normalised row. -/
def normed (r : Fin 32768) (k : Fin 1024) : EReal := x (ix2 r k) * scale (fun l => x (ix2 r l)) * g (ix1 k)

/-- An expert's logit. -/
def eLogit (r : Fin 32768) (n : Fin 16) : EReal := (∑ k, normed x g r k * we (ix2 k n)) + be (ix1 n)

/-- A group's logit. -/
def gLogit (r : Fin 32768) (j : Fin 4) : EReal := (∑ k, normed x g r k * wg (ix2 k j)) + bg (ix1 j)

/-- The reference's normalised row. -/
theorem normed_at (r : Fin 32768) (k : Fin 1024) : val_main_v12 (F := Ideal) x g (ix2 r k) = normed x g r k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The first result of the reference. -/
theorem stored_at (r : Fin 32768) (k : Fin 1024) : val_main_v59 (F := Ideal) x g (ix2 r k) = normed x g r k :=
  normed_at x g r k

/-- The reference's group logits. -/
theorem gLogit_at (r : Fin 32768) (j : Fin 4) : val_main_v16 (F := Ideal) x g wg bg (ix2 r j) = gLogit x g wg bg r j := by
  unfold val_main_v16 val_main_v13
  simp only [gLogit, ← normed_at]
  generalize val_main_v12 (F := Ideal) x g = h
  pointwise [val_main_v15, val_main_v14]

/-- The reference's expert logits. -/
theorem eLogit_at (r : Fin 32768) (n : Fin 16) : val_main_v33 (F := Ideal) x g we be (ix2 r n) = eLogit x g we be r n := by
  unfold val_main_v33 val_main_v30
  simp only [eLogit, ← normed_at]
  generalize val_main_v12 (F := Ideal) x g = h
  pointwise [val_main_v32, val_main_v31]

/-- The order of the four numbers of a row. -/
abbrev order (v : Fin 4 → EReal) (k : Fin 4) : Fin 4 := sortedFrom (fun k k' => decide (v k' < v k)) k

/-- The axis a row runs along. -/
abbrev axis : Fin S32768x4.rank := ⟨1, Nat.lt_succ_self 1⟩

/-- Changing one coordinate of a rank-two index. -/
theorem along_at (r : Fin 32768) (j k : Fin 4) :
    (ix2 r j : S32768x4.Idx).along axis k = ix2 r k := by
  funext a
  fin_cases a <;> rfl

/-- The order the reference sorts a row in. -/
theorem order_at (y : FVec Ideal S32768x4 .f32) (r : Fin 32768) (j : Fin 4) :
    sortedFrom (fun k k' : Fin 4 => FloatOps.cmpfTotal .gt (y ((ix2 r j : S32768x4.Idx).along axis k))
      (y ((ix2 r j : S32768x4.Idx).along axis k')) == 1#1) j = order (fun k => y (ix2 r k)) j := by
  refine congrFun (sortedFrom_congr _ _ fun k k' _ => ?_) j
  rw [along_at, along_at]
  change (Ideal.cmp .ogt (y (ix2 r k)) (y (ix2 r k')) == 1#1) = _
  by_cases h : y (ix2 r k') < y (ix2 r k) <;> simp [Ideal.cmp, h]

/-- The values of the greatest two. -/
theorem two_values (y : FVec Ideal S32768x4 .f32) (r : Fin 32768) (j : Fin 2) :
    (Host.topK S32768x2 1 (FloatOps.cmpfTotal .gt) y sliceFits_S32768x4_S32768x2).1 (ix2 r j) =
      y (ix2 r (order (fun k => y (ix2 r k)) ⟨j.val, by omega⟩)) := by
  rw [← order_at y r ⟨j.val, by omega⟩, ← along_at r ⟨j.val, by omega⟩]
  pointwise [Host.topK]
  rfl

/-- The positions of the greatest two. -/
theorem two_places (y : FVec Ideal S32768x4 .f32) (r : Fin 32768) (j : Fin 2) :
    (Host.topK S32768x2 1 (FloatOps.cmpfTotal .gt) y sliceFits_S32768x4_S32768x2).2 (ix2 r j) =
      BitVec.ofNat 32 (order (fun k => y (ix2 r k)) ⟨j.val, by omega⟩).val := by
  rw [← order_at y r ⟨j.val, by omega⟩]
  pointwise [Host.topK]
  rfl

/-- The value of the greatest. -/
theorem one_value (y : FVec Ideal S32768x4 .f32) (r : Fin 32768) :
    (Host.topK S32768x1 1 (FloatOps.cmpfTotal .gt) y sliceFits_S32768x4_S32768x1).1 (ix2 r 0) = y (ix2 r (order (fun k => y (ix2 r k)) 0)) := by
  rw [← order_at y r 0, ← along_at r 0]
  pointwise [Host.topK]
  rfl

/-- The position of the greatest. -/
theorem one_place (y : FVec Ideal S32768x4 .f32) (r : Fin 32768) :
    (Host.topK S32768x1 1 (FloatOps.cmpfTotal .gt) y sliceFits_S32768x4_S32768x1).2 (ix2 r 0) =
      BitVec.ofNat 32 (order (fun k => y (ix2 r k)) 0).val := by
  rw [← order_at y r 0]
  pointwise [Host.topK]
  rfl

/-- The pattern of minus infinity. -/
theorem ninf : Ideal.ofBits .f32 4286578688#32 = ⊥ := by simp [Ideal.ofBits, Ideal.ieee]

/-- A row's maximum and the softmax of four real numbers. -/
theorem soft_at (L : Fin 4 → EReal) (e : Fin 4 → ℝ) (h : ∀ j, L j = (e j : EReal)) (j : Fin 4) :
    Ideal.div (Ideal.exp (L j - max (Ideal.ofBits .f32 4286578688#32) (Finset.univ.fold max (Ideal.ofBits .f32 4286578688#32) L)))
      (∑ k, Ideal.exp (L k - max (Ideal.ofBits .f32 4286578688#32) (Finset.univ.fold max (Ideal.ofBits .f32 4286578688#32) L))) = (soft e j : EReal) := by
  obtain rfl : L = fun j => (e j : EReal) := funext h
  obtain ⟨M, hM⟩ := top_real e
  rw [ninf, hM, max_eq_right bot_le]
  exact soft_shift e M j

/-- The groups' softmax. -/
theorem groups_at (r : Fin 32768) (G : Fin 4 → ℝ) (h : ∀ j, gLogit x g wg bg r j = (G j : EReal)) (j : Fin 4) :
    val_main_v27 (F := Ideal) x g wg bg (ix2 r j) = (soft G j : EReal) := by
  rw [← soft_at (fun j => val_main_v16 (F := Ideal) x g wg bg (ix2 r j)) G (fun j => (gLogit_at x g wg bg r j).trans (h j))]
  unfold val_main_v27 val_main_v26 val_main_v25 val_main_v24 val_main_v23 val_main_v22 val_main_v21 val_main_v20 val_main_v19 val_main_v17
  generalize val_main_v16 (F := Ideal) x g wg bg = L
  pointwise [val_main_v18, val_main_cst_2, val_main_cst_3, val_main_cst_4]

/-- Whether two small numbers are equal, as zero or one. -/
theorem same (a b : ℕ) (ha : a < 32) (hb : b < 32) :
    FloatOps.uitofp (F := Ideal) FTy.f32 (IntOp.cmpi CmpIPredicate.eq (BitVec.ofNat 32 a) (BitVec.ofNat 32 b)) = if a = b then (1 : EReal) else 0 := by
  by_cases h : a = b
  · simp [IntOp.cmpi, h, FloatOps.uitofp]
  · have q : ¬ (BitVec.ofNat 32 a = BitVec.ofNat 32 b) := fun q => h (by
      have := congrArg BitVec.toNat q
      simp only [BitVec.toNat_ofNat] at this
      omega)
    simp [IntOp.cmpi, h, beq_eq_false_iff_ne.2 q, FloatOps.uitofp]

/-- An expert's number among sixteen, from its group and its place there. -/
theorem number : ∀ k i : Fin 4, IntOp.addi (IntOp.muli (BitVec.ofNat 32 k.val) 4#32) (BitVec.ofNat 32 i.val) = BitVec.ofNat 32 (4 * k.val + i.val) := by
  decide

/-- The chosen experts' logits. -/
theorem chosen_at (r : Fin 32768) (k : Fin 4) (E : Fin 16 → ℝ) (h : ∀ n, eLogit x g we be r n = (E n : EReal))
    (hk : val_main_indices (F := Ideal) x g wg bg (ix2 r 0) = BitVec.ofNat 32 k.val) (j : Fin 4) :
    val_main_v35 (F := Ideal) x g we be wg bg (ix2 r j) = ((E ⟨4 * k.val + j.val, by omega⟩ : ℝ) : EReal) := by
  have h' : ∀ n, val_main_v33 (F := Ideal) x g we be (ix2 r n) = (E n : EReal) := fun n => (eLogit_at x g we be r n).trans (h n)
  unfold val_main_v35 val_main_v34 val_main_v29 val_main_call0_v4 val_main_call0_v2 val_main_call0_v0 val_main_v28
  generalize val_main_v33 (F := Ideal) x g we be = L at h'
  generalize val_main_indices (F := Ideal) x g wg bg = I at hk
  pointwise [val_main_call0_v3, val_main_call0_v1]
  rw [Finset.sum_eq_single k]
  · rw [hk, same _ _ (by omega) (by omega), if_pos rfl, mul_one]
    refine (h' _).trans (congrArg (fun n => ((E n : ℝ) : EReal)) (Fin.ext (by dsimp only; omega)))
  · intro b _ hb
    rw [hk, same _ _ (by omega) (by omega), if_neg (fun q => hb (Fin.ext q.symm)), mul_zero]
  · intro q
    exact absurd (Finset.mem_univ _) q

/-- The chosen experts' softmax. -/
theorem experts_at (r : Fin 32768) (e : Fin 4 → ℝ) (h : ∀ j, val_main_v35 (F := Ideal) x g we be wg bg (ix2 r j) = (e j : EReal)) (j : Fin 4) :
    val_main_v46 (F := Ideal) x g we be wg bg (ix2 r j) = (soft e j : EReal) := by
  rw [← soft_at (fun j => val_main_v35 (F := Ideal) x g we be wg bg (ix2 r j)) e h]
  unfold val_main_v46 val_main_v45 val_main_v44 val_main_v43 val_main_v42 val_main_v41 val_main_v40 val_main_v39 val_main_v38 val_main_v36
  generalize val_main_v35 (F := Ideal) x g we be wg bg = L
  pointwise [val_main_v37, val_main_cst_5, val_main_cst_6, val_main_cst_7]

/-- The padded weights from the chosen values and positions. -/
theorem weights_at (r : Fin 32768) (n : Fin 128) (E : Fin 16 → ℝ) (G : Fin 4 → ℝ) (k : Fin 4) (i : Fin 2 → Fin 4) (hne : i 1 ≠ i 0)
    (hp : val_main_values (F := Ideal) x g wg bg (ix2 r 0) = (soft G k : EReal))
    (hk : val_main_indices (F := Ideal) x g wg bg (ix2 r 0) = BitVec.ofNat 32 k.val)
    (hv : ∀ j, val_main_values_8 (F := Ideal) x g we be wg bg (ix2 r j) = (soft (fun j => E ⟨4 * k.val + j.val, by omega⟩) (i j) : EReal))
    (hi : ∀ j, val_main_indices_9 (F := Ideal) x g we be wg bg (ix2 r j) = BitVec.ofNat 32 (i j).val) :
    val_main_v60 (F := Ideal) x g we be wg bg (ix2 r n) = (share E G k (i 0) (i 1) n.val : EReal) := by
  unfold val_main_v60 val_main_v58 val_main_v57 val_main_v56 val_main_v55 val_main_call1_v4 val_main_call1_v2 val_main_call1_v0 val_main_v54 val_main_v53 val_main_v52 val_main_v50 val_main_v49 val_main_v48 val_main_v47
  generalize val_main_values (F := Ideal) x g wg bg = V at hp
  generalize val_main_indices (F := Ideal) x g wg bg = I at hk
  generalize val_main_values_8 (F := Ideal) x g we be wg bg = V2 at hv
  generalize val_main_indices_9 (F := Ideal) x g we be wg bg = I2 at hi
  pointwise [val_main_v51, val_main_c, val_main_call1_v3, val_main_call1_v1, val_main_cst_10, val_main_call2_v0, val_main_c_11]
  have q : (i 1).val ≠ (i 0).val := fun q => hne (Fin.ext q)
  unfold share
  generalize (fun j : Fin 4 => E ⟨4 * k.val + j.val, by omega⟩) = e at hv
  have s0 := soft_pos e (i 0)
  have s1 := soft_pos e (i 1)
  by_cases h : n.val < 16
  · rw [dif_pos h, Fin.sum_univ_two, Fin.sum_univ_two, hk, hp, hi, hi, hv, hv, number, number, same _ _ (by omega) (by omega), same _ _ (by omega) (by omega)]
    rw [← EReal.coe_add, div_coe _ _ (add_pos s0 s1).ne', div_coe _ _ (add_pos s0 s1).ne', ← EReal.coe_mul, ← EReal.coe_mul]
    dsimp only
    by_cases h0 : 4 * k.val + (i 0).val = n.val
    · rw [if_pos h0, if_neg (by omega), if_pos h0.symm, one_mul, zero_mul, add_zero]
    · have h0' : ¬ n.val = 4 * k.val + (i 0).val := fun z => h0 z.symm
      rw [if_neg h0, if_neg h0']
      by_cases h1 : 4 * k.val + (i 1).val = n.val
      · rw [if_pos h1, if_pos h1.symm, one_mul, zero_mul, zero_add]
      · have h1' : ¬ n.val = 4 * k.val + (i 1).val := fun z => h1 z.symm
        rw [if_neg h1, if_neg h1', zero_mul, zero_mul, zero_add, EReal.coe_zero]
  · rw [dif_neg h]
    dsimp only
    rw [if_neg (by omega), if_neg (by omega)]
    simp [FloatOps.sitofp]

/-- What a choice of a group and two experts has to satisfy: the group leads the groups, the first expert leads its group, the second the rest. -/
def Chosen (E : Fin 16 → ℝ) (G : Fin 4 → ℝ) (k a b : Fin 4) : Prop :=
  (∀ j, j ≠ k → Ahead G k j) ∧ b ≠ a ∧ (∀ j, j ≠ a → Ahead (fun j : Fin 4 => E ⟨4 * k.val + j.val, by omega⟩) a j) ∧
    ∀ j, j ≠ a → j ≠ b → Ahead (fun j : Fin 4 => E ⟨4 * k.val + j.val, by omega⟩) b j

/-- The second result of the reference, when all logits of the row are real. -/
theorem combine_at (r : Fin 32768) (E : Fin 16 → ℝ) (G : Fin 4 → ℝ) (hE : ∀ n, eLogit x g we be r n = (E n : EReal))
    (hG : ∀ j, gLogit x g wg bg r j = (G j : EReal)) :
    ∃ k a b, Chosen E G k a b ∧ ∀ n : Fin 128, val_main_v60 (F := Ideal) x g we be wg bg (ix2 r n) = (share E G k a b n.val : EReal) := by
  have p := groups_at x g wg bg r G hG
  have hk : val_main_indices (F := Ideal) x g wg bg (ix2 r 0) = BitVec.ofNat 32 (order (fun j => (soft G j : EReal)) 0).val := by
    refine (one_place _ r).trans ?_
    rw [funext p]
  have hp : val_main_values (F := Ideal) x g wg bg (ix2 r 0) = (soft G (order (fun j => (soft G j : EReal)) 0) : EReal) := by
    refine (one_value _ r).trans ((p _).trans ?_)
    rw [funext p]
  have c := chosen_at x g we be wg bg r _ E hE hk
  have w := experts_at x g we be wg bg r _ c
  have lead : ∀ j, j ≠ order (fun j => (soft G j : EReal)) 0 → Ahead G (order (fun j => (soft G j : EReal)) 0) j := fun j hj => ahead_soft G _ j (first_leads (fun j => (soft G j : EReal)) j hj)
  generalize order (fun j => (soft G j : EReal)) 0 = k at hk hp c w lead
  have l0 := fun j hj => ahead_soft _ _ j (first_leads (fun j => (soft (fun j : Fin 4 => E ⟨4 * k.val + j.val, by omega⟩) j : EReal)) j hj)
  have l1 := fun j hj hj1 => ahead_soft _ _ j (second_leads (fun j => (soft (fun j : Fin 4 => E ⟨4 * k.val + j.val, by omega⟩) j : EReal)) j hj hj1)
  have ne := second_ne (fun j => (soft (fun j : Fin 4 => E ⟨4 * k.val + j.val, by omega⟩) j : EReal))
  refine ⟨k, _, _, ⟨lead, ne, l0, l1⟩, fun n => ?_⟩
  refine weights_at x g we be wg bg r n E G k (fun j => order (fun j => (soft (fun j : Fin 4 => E ⟨4 * k.val + j.val, by omega⟩) j : EReal)) ⟨j.val, by omega⟩) ne hp hk ?_ ?_
  · intro j
    refine (two_values _ r j).trans ((w _).trans ?_)
    rw [funext w]
  · intro j
    refine (two_places _ r j).trans ?_
    rw [funext w]

end Cert.RouterRefIdeal.Pure
end
-- ==== Proof.RouterValue.lean ====
module

public import proofs.«01_k».proof.Proof.RouterBlock
public import proofs.«01_k».proof.Proof.RouterRef
public import proofs.«01_k».proof.Proof.RouterPre
public import proofs.«01_k».proof.Proof.Gen.RouterIdeal.Value
public import Idealize.ShloMosaic.Lib.Claim
public import Idealize.ShloMosaic.Lib.Pipeline.ValueKit
public import Idealize.ShloMosaic.Lib.Pipeline.ReadBack

/-!
The router's result arrays after the run are the reference's results: each step normalises 512 rows, takes their
logits, chooses a group and two of its experts for every row and stores their weights.
-/

@[expose] public section

set_option maxRecDepth 16384

noncomputable section

open Idealize.ShloMosaic Idealize.ShloMosaic.TcCoe Idealize.SL.Sem
open Idealize.ShloMosaic.Pipeline (Dat)

namespace Cert.RouterIdeal.Final
open Cert.RouterIdeal Cert.RouterIdeal.Gen Cert.CrossMath Cert.RouterMath Cert.RouterRefIdeal.Pure

/-- The scale of a row of real numbers is real. -/
theorem scale_real (x : Fin 1024 → EReal) (h : ∀ k, IsReal (x k)) : IsReal (scale x) := by
  choose f hf using h
  have s : (∑ k, x k * x k) = ((∑ k, f k * f k : ℝ) : EReal) := by
    rw [← sum_coe]
    exact Finset.sum_congr rfl fun k _ => by rw [hf, ← EReal.coe_mul]
  have n : (0 : ℝ) ≤ ∑ k, f k * f k := Finset.sum_nonneg fun k _ => mul_self_nonneg _
  have c : Ideal.ofBits .f32 1149239296#32 = ((1024 : ℝ) : EReal) := by
    simp [Ideal.ofBits, Ideal.ieee]
    rw [← EReal.coe_mul]
    exact congrArg _ (by norm_num)
  have e : Ideal.ofBits .f32 897988541#32 = (((8796093 : ℝ) * (2 : ℝ) ^ (-43 : ℤ) : ℝ) : EReal) := by
    simp [Ideal.ofBits, Ideal.ieee]
  have p : (0 : ℝ) < (∑ k, f k * f k) / 1024 + (8796093 : ℝ) * (2 : ℝ) ^ (-43 : ℤ) := by positivity
  unfold scale
  rw [s, c, e, div_coe _ _ (by norm_num), ← EReal.coe_add, Ideal.rsqrt_coe, if_neg (by linarith), if_neg p.ne']
  exact ⟨_, rfl⟩

/-- A row with an infinite number has scale zero. -/
theorem scale_zero (x : Fin 1024 → EReal) (j : Fin 1024) (h : x j = ⊤ ∨ x j = ⊥) : scale x = 0 := by
  have s : (∑ k, x k * x k) = ⊤ := by
    refine top_le_iff.1 ?_
    have q : x j * x j = ⊤ := by rcases h with h | h <;> rw [h] <;> rfl
    have n : ∀ k, 0 ≤ x k * x k := by
      intro k
      induction x k with
      | bot => exact le_top
      | top => exact le_top
      | coe r => exact_mod_cast mul_self_nonneg r
    calc (⊤ : EReal) = x j * x j := q.symm
      _ ≤ ∑ k, x k * x k := Finset.single_le_sum (fun k _ => n k) (Finset.mem_univ j)
  have c : Ideal.ofBits .f32 1149239296#32 = ((1024 : ℝ) : EReal) := by
    simp [Ideal.ofBits, Ideal.ieee]
    rw [← EReal.coe_mul]
    exact congrArg _ (by norm_num)
  have e : Ideal.ofBits .f32 897988541#32 = (((8796093 : ℝ) * (2 : ℝ) ^ (-43 : ℤ) : ℝ) : EReal) := by
    simp [Ideal.ofBits, Ideal.ieee]
  unfold scale
  rw [s, c, e, Ideal.div_coe (by norm_num), EReal.top_mul_coe_of_pos (by norm_num), EReal.top_add_coe, Ideal.rsqrt_top]

/-- A number of a row times the row's scale is real, whatever the row holds. -/
theorem scaled_real (x : Fin 1024 → EReal) (k : Fin 1024) : IsReal (x k * scale x) := by
  by_cases h : ∃ j, x j = ⊤ ∨ x j = ⊥
  · obtain ⟨j, h⟩ := h
    rw [scale_zero x j h, mul_zero]
    exact ⟨0, rfl⟩
  · have r : ∀ k, IsReal (x k) := by
      intro k
      have t : x k ≠ ⊤ := fun z => h ⟨k, .inl z⟩
      have b : x k ≠ ⊥ := fun z => h ⟨k, .inr z⟩
      exact ⟨(x k).toReal, (EReal.coe_toReal t b).symm⟩
    exact (r k).mul (scale_real x r)

variable (m : (ℓ : Loc nD τ sig) → Buf (Elt Ideal) ℓ)

/-- The block each window reads or writes at a grid step. -/
theorem idx : ∀ t : Fin cfg0.N, win0_0.index t = ![t.val, 0] ∧ win0_1.index t = ![0, 0] ∧
    win0_2.index t = ![0, 0] ∧ win0_3.index t = ![0, 0] ∧ win0_4.index t = ![t.val, 0] ∧ win0_5.index t = ![t.val, 0] :=
  (by decide +kernel : ∀ t : Fin grid0.N, _)

/-- The rows a step reads. -/
theorem x_at (c : Dev nD) (t : Fin cfg0.N) (hN : t.val < 64) (r : Fin 512) (k : Fin 1024) : (iblk m c 0 t : FVec Ideal S512x1024 .f32) (ix2 r k) =
    (m ((c : Thread nD τ).loc main_arg0) : FVec Ideal S32768x1024 .f32) (ix2 ⟨t.val * 512 + r.val, by omega⟩ k) := by
  blk_ext [iblk, V, idx t]

/-- The norm's factors. -/
theorem g_at (c : Dev nD) (t : Fin cfg0.N) (k : Fin 1024) : (iblk m c 1 t : FVec Ideal S1x1024 .f32) (ix2 0 k) =
    (m ((c : Thread nD τ).loc main_arg1) : FVec Ideal S1024 .f32) (ix1 k) := by
  blk_point [iblk, V, idx t]

/-- The joined weight. -/
theorem weight_eq (c : Dev nD) : (V m c main_v1 : FVec Ideal S1024x128 .f32) =
    concatenate S1024x128 1 [⟨S1024x16, (m ((c : Thread nD τ).loc main_arg2) : FVec Ideal S1024x16 .f32)⟩,
      ⟨S1024x4, (m ((c : Thread nD τ).loc main_arg4) : FVec Ideal S1024x4 .f32)⟩,
      ⟨S1024x108, (broadcastInDim S1024x108 ![] bcast_S_S1024x108 (constant (F := Ideal) S_ .f32 0x00000000#32) : FVec Ideal S1024x108 .f32)⟩]
      concatenates_S1024x16_S1024x4_S1024x108_S1024x128_d1 := rfl

/-- The joined bias, as one row. -/
theorem bias_eq (c : Dev nD) : (V m c main_v5 : FVec Ideal S1x128 .f32) =
    shapeCast S1x128 (concatenate S128 0 [⟨S16, (m ((c : Thread nD τ).loc main_arg3) : FVec Ideal S16 .f32)⟩,
      ⟨S4, (m ((c : Thread nD τ).loc main_arg5) : FVec Ideal S4 .f32)⟩,
      ⟨S108, shapeCast S108 (extractStridedSlice S1x108 ![0, 0]
        (broadcastInDim S1024x108 ![] bcast_S_S1024x108 (constant (F := Ideal) S_ .f32 0x00000000#32) : FVec Ideal S1024x108 .f32) slices_S1024x108_S1x108_0_0)
        shapeCasts_S1x108_S108⟩]
      concatenates_S16_S4_S108_S128_d0) shapeCasts_S128_S1x128 := rfl

/-- A lane of the joined weight. -/
theorem weight_lane (a : FVec Ideal S1024x16 .f32) (b : FVec Ideal S1024x4 .f32) (d : FVec Ideal S1024x108 .f32) (k : Fin 1024) (n : Fin 128) :
    concatenate S1024x128 1 [⟨S1024x16, a⟩, ⟨S1024x4, b⟩, ⟨S1024x108, d⟩] concatenates_S1024x16_S1024x4_S1024x108_S1024x128_d1 (ix2 k n) =
      if h : n.val < 16 then a (ix2 k ⟨n.val, h⟩) else if h : n.val - 16 < 4 then b (ix2 k ⟨n.val - 16, h⟩) else d (ix2 k ⟨n.val - 16 - 4, by omega⟩) := by
  pointwise

/-- A lane of the joined bias. -/
theorem bias_lane (a : FVec Ideal S16 .f32) (b : FVec Ideal S4 .f32) (d : FVec Ideal S108 .f32) (n : Fin 128) :
    shapeCast S1x128 (concatenate S128 0 [⟨S16, a⟩, ⟨S4, b⟩, ⟨S108, d⟩] concatenates_S16_S4_S108_S128_d0) shapeCasts_S128_S1x128 (ix2 0 n) =
      if h : n.val < 16 then a (ix1 ⟨n.val, h⟩) else if h : n.val - 16 < 4 then b (ix1 ⟨n.val - 16, h⟩) else d (ix1 ⟨n.val - 16 - 4, by omega⟩) := by
  pointwise

/-- A step reads the whole joined weight. -/
theorem weight_at (c : Dev nD) (t : Fin cfg0.N) (k : Fin 1024) (n : Fin 128) : (iblk m c 2 t : FVec Ideal S1024x128 .f32) (ix2 k n) =
    (V m c main_v1 : FVec Ideal S1024x128 .f32) (ix2 k n) := by
  generalize hw : V m c main_v1 = w
  blk_ext [iblk, hw, idx t]

/-- A step reads the whole joined bias. -/
theorem bias_at (c : Dev nD) (t : Fin cfg0.N) (n : Fin 128) : (iblk m c 3 t : FVec Ideal S1x128 .f32) (ix2 0 n) =
    (V m c main_v5 : FVec Ideal S1x128 .f32) (ix2 0 n) := by
  generalize hw : V m c main_v5 = w
  blk_ext [iblk, hw, idx t]

/-- The experts' columns of the joined weight. -/
theorem we_at (c : Dev nD) (t : Fin cfg0.N) (k : Fin 1024) (n : Fin 16) : (iblk m c 2 t : FVec Ideal S1024x128 .f32) (ix2 k ⟨n.val, by omega⟩) =
    (m ((c : Thread nD τ).loc main_arg2) : FVec Ideal S1024x16 .f32) (ix2 k n) := by
  rw [weight_at, weight_eq, weight_lane]
  exact dif_pos n.isLt

/-- The groups' columns of the joined weight. -/
theorem wg_at (c : Dev nD) (t : Fin cfg0.N) (k : Fin 1024) (j : Fin 4) : (iblk m c 2 t : FVec Ideal S1024x128 .f32) (ix2 k ⟨16 + j.val, by omega⟩) =
    (m ((c : Thread nD τ).loc main_arg4) : FVec Ideal S1024x4 .f32) (ix2 k j) := by
  have q : (⟨16 + j.val - 16, by omega⟩ : Fin 4) = j := Fin.ext (by dsimp only; omega)
  rw [weight_at, weight_eq, weight_lane, dif_neg (by change ¬ 16 + j.val < 16; omega), dif_pos (by change 16 + j.val - 16 < 4; omega)]
  exact congrArg (fun z => (m ((c : Thread nD τ).loc main_arg4) : FVec Ideal S1024x4 .f32) (ix2 k z)) q

/-- The experts' part of the joined bias. -/
theorem be_at (c : Dev nD) (t : Fin cfg0.N) (n : Fin 16) : (iblk m c 3 t : FVec Ideal S1x128 .f32) (ix2 0 ⟨n.val, by omega⟩) =
    (m ((c : Thread nD τ).loc main_arg3) : FVec Ideal S16 .f32) (ix1 n) := by
  rw [bias_at, bias_eq, bias_lane]
  exact dif_pos n.isLt

/-- The groups' part of the joined bias. -/
theorem bg_at (c : Dev nD) (t : Fin cfg0.N) (j : Fin 4) : (iblk m c 3 t : FVec Ideal S1x128 .f32) (ix2 0 ⟨16 + j.val, by omega⟩) =
    (m ((c : Thread nD τ).loc main_arg5) : FVec Ideal S4 .f32) (ix1 j) := by
  have q : (⟨16 + j.val - 16, by omega⟩ : Fin 4) = j := Fin.ext (by dsimp only; omega)
  rw [bias_at, bias_eq, bias_lane, dif_neg (by change ¬ 16 + j.val < 16; omega), dif_pos (by change 16 + j.val - 16 < 4; omega)]
  exact congrArg (fun z => (m ((c : Thread nD τ).loc main_arg5) : FVec Ideal S4 .f32) (ix1 z)) q

/-- The first result array. -/
theorem final4 (c : Dev nD) : (dats m 0 c).arrAt 4 cfg0.N =
    Cert.RouterRefIdeal.Read.val_main_v59 (F := Ideal) (m ((c : Thread nD τ).loc main_arg0)) (m ((c : Thread nD τ).loc main_arg1)) := by
  refine (dats m 0 c).arrAt_eq_of_covers 4 _ (by decide +kernel) fun t _ y => ?_
  have hN : t.val < 64 := lt_of_lt_of_eq t.isLt N_0
  blk_simp
  rw [after0_4]
  unfold_out out0_4
  frame_out
  idx_vars y
  have e : (((View.whole main_v7_0).slice (win0_4.rect t)).emb (ix2 y0 y1)) = ix2 (⟨t.val * 512 + y0.val, by omega⟩ : Fin 32768) y1 := by
    blk_ext [idx t]
  refine (Block.stored_at _ _ _ _).trans (Eq.trans ?_ (congrArg _ e).symm)
  refine Eq.trans ?_ (stored_at _ _ _ _).symm
  simp only [x_at m c t hN, g_at m c t]
  rfl

/-- The second result array. -/
theorem final5 (c : Dev nD) (hr : (∀ i, IsReal ((m ((c : Thread nD τ).loc main_arg1) : FVec Ideal S1024 .f32) i)) ∧
    (∀ i, IsReal ((m ((c : Thread nD τ).loc main_arg2) : FVec Ideal S1024x16 .f32) i)) ∧
    (∀ i, IsReal ((m ((c : Thread nD τ).loc main_arg3) : FVec Ideal S16 .f32) i)) ∧
    (∀ i, IsReal ((m ((c : Thread nD τ).loc main_arg4) : FVec Ideal S1024x4 .f32) i)) ∧
    (∀ i, IsReal ((m ((c : Thread nD τ).loc main_arg5) : FVec Ideal S4 .f32) i))) : (dats m 0 c).arrAt 5 cfg0.N =
    Cert.RouterRefIdeal.Read.val_main_v60 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t _ y => ?_
  have hN : t.val < 64 := lt_of_lt_of_eq t.isLt N_0
  blk_simp
  rw [after0_5]
  unfold_out out0_5
  frame_out
  idx_vars y
  have e : (((View.whole main_v7_1).slice (win0_5.rect t)).emb (ix2 y0 y1)) = ix2 (⟨t.val * 512 + y0.val, by omega⟩ : Fin 32768) y1 := by
    blk_ext [idx t]
  refine Eq.trans ?_ (congrArg _ e).symm
  obtain ⟨hg, hwe, hbe, hwg, hbg⟩ := hr
  have lE : ∀ n : Fin 16, k0_pay4 (F := Ideal) (iblk m c 0 t) (iblk m c 1 t) (iblk m c 2 t) (iblk m c 3 t) (ix2 y0 ⟨n.val, by omega⟩) =
      eLogit (m ((c : Thread nD τ).loc main_arg0)) (m ((c : Thread nD τ).loc main_arg1)) (m ((c : Thread nD τ).loc main_arg2)) (m ((c : Thread nD τ).loc main_arg3))
        ⟨t.val * 512 + y0.val, by omega⟩ n := by
    intro n
    refine (Block.logits_at _ _ _ _ _ _).trans ?_
    simp only [x_at m c t hN, g_at m c t, we_at m c t, be_at m c t]
    rfl
  have lG : ∀ j : Fin 4, k0_pay4 (F := Ideal) (iblk m c 0 t) (iblk m c 1 t) (iblk m c 2 t) (iblk m c 3 t) (ix2 y0 ⟨16 + j.val, by omega⟩) =
      gLogit (m ((c : Thread nD τ).loc main_arg0)) (m ((c : Thread nD τ).loc main_arg1)) (m ((c : Thread nD τ).loc main_arg4)) (m ((c : Thread nD τ).loc main_arg5))
        ⟨t.val * 512 + y0.val, by omega⟩ j := by
    intro j
    refine (Block.logits_at _ _ _ _ _ _).trans ?_
    simp only [x_at m c t hN, g_at m c t, wg_at m c t, bg_at m c t]
    rfl
  have hn : ∀ (r : Fin 32768) (k : Fin 1024), IsReal (normed (m ((c : Thread nD τ).loc main_arg0)) (m ((c : Thread nD τ).loc main_arg1)) r k) :=
    fun r k => (scaled_real (fun l => (m ((c : Thread nD τ).loc main_arg0) : FVec Ideal S32768x1024 .f32) (ix2 r l)) k).mul (hg _)
  have hE : ∀ n, IsReal (eLogit (m ((c : Thread nD τ).loc main_arg0)) (m ((c : Thread nD τ).loc main_arg1)) (m ((c : Thread nD τ).loc main_arg2)) (m ((c : Thread nD τ).loc main_arg3))
        ⟨t.val * 512 + y0.val, by omega⟩ n) := fun n => (IsReal.sum _ _ fun k => (hn _ _).mul (hwe _)).add (hbe _)
  have hG : ∀ j, IsReal (gLogit (m ((c : Thread nD τ).loc main_arg0)) (m ((c : Thread nD τ).loc main_arg1)) (m ((c : Thread nD τ).loc main_arg4)) (m ((c : Thread nD τ).loc main_arg5))
        ⟨t.val * 512 + y0.val, by omega⟩ j) := fun j => (IsReal.sum _ _ fun k => (hn _ _).mul (hwg _)).add (hbg _)
  choose E hE using hE
  choose G hG using hG
  obtain ⟨k, a, b, ⟨hk, hba, ha, hb⟩, q⟩ := combine_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) ⟨t.val * 512 + y0.val, by omega⟩ E G hE hG
  refine Eq.trans ?_ (q y1).symm
  refine Block.combine_at _ _ _ _ _ ?_ _ _ E G k a b (fun n => (lE n).trans (hE n)) (fun j => (lG j).trans (hG j)) hk hba ha hb
  change Ideal.ofBits .f32 1065353216#32 = _
  simp [Ideal.ofBits, Ideal.ieee]
  rw [← EReal.coe_mul]
  exact congrArg _ (by norm_num)

end Cert.RouterIdeal.Final
end
-- ==== Proof.lean ====
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.Pre_finite_weights
public import proofs.«01_k».proof.Proof.Gen.CrossIdeal.Value
public import proofs.«01_k».proof.Proof.Gen.CrossRefIdeal.Run
public import proofs.«01_k».proof.Proof.Gen.CrossRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.ProjectIdeal.Value
public import proofs.«01_k».proof.Proof.Gen.ProjectRefIdeal.Run
public import proofs.«01_k».proof.Proof.Gen.ProjectRefIdeal.Read
public import proofs.«01_k».proof.Proof.Gen.ExpertsIdeal.Value
public import proofs.«01_k».proof.Proof.Gen.ExpertsRefIdeal.Run
public import proofs.«01_k».proof.Proof.Gen.ExpertsRefIdeal.Read
public import proofs.«01_k».proof.Proof.CrossValue
public import proofs.«01_k».proof.Proof.MergeValue
public import proofs.«01_k».proof.Proof.ProjectValue
public import proofs.«01_k».proof.Proof.ExpertsValue
public import proofs.«01_k».proof.Proof.Gen.Inner
public import proofs.«01_k».proof.Proof.Gen.Inner.Skeleton
public import proofs.«01_k».proof.Proof.Gen.Inner.Launch
public import proofs.«01_k».proof.Proof.Gen.Inner.Points
public import proofs.«01_k».proof.Proof.Gen.Inner.Frame
public import proofs.«01_k».proof.Proof.Gen.InnerIdeal
public import proofs.«01_k».proof.Proof.Gen.InnerIdeal.Skeleton
public import proofs.«01_k».proof.Proof.Gen.InnerIdeal.Launch
public import proofs.«01_k».proof.Proof.Gen.InnerIdeal.Points
public import proofs.«01_k».proof.Proof.Gen.InnerIdeal.Frame
public import proofs.«01_k».proof.Proof.Gen.InnerRefIdeal
public import proofs.«01_k».proof.Proof.Gen.InnerIdeal.Value
public import proofs.«01_k».proof.Proof.Gen.InnerRefIdeal.Run
public import proofs.«01_k».proof.Proof.Gen.InnerRefIdeal.Read
public import proofs.«01_k».proof.Proof.InnerValue
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryIdeal.Value
public import proofs.«01_k».proof.Proof.Gen.MemoryRefIdeal.Run
public import proofs.«01_k».proof.Proof.Gen.MemoryRefIdeal.Read
public import proofs.«01_k».proof.Proof.MemoryValue
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.GlaIdeal.Value
public import proofs.«01_k».proof.Proof.Gen.GlaRefIdeal.Run
public import proofs.«01_k».proof.Proof.Gen.GlaRefIdeal.Step
public import proofs.«01_k».proof.Proof.GlaValue
public import proofs.«01_k».proof.Proof.GlaTrips
public import proofs.«01_k».proof.Proof.ConvValue
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterRefIdeal
public import proofs.«01_k».proof.Proof.Gen.RouterIdeal.Value
public import proofs.«01_k».proof.Proof.RouterValue
public import proofs.«01_k».proof.Proof.Gen.RouterRefIdeal.Run
public import proofs.«01_k».proof.Proof.Gen.RouterRefIdeal.Read
public import proofs.«01_k».proof.Proof.Gen.Pre_finite_router
public import proofs.«01_k».proof.Proof.Gen.Pre_finite_gla
public import Idealize.ShloMosaic.Lib.Claim
public import Idealize.ShloMosaic.Adequacy
public import Idealize.ShloMosaic.Init

@[expose] public section

noncomputable section

namespace Cert.Proof

open Idealize.ShloMosaic Idealize.SL.Sem Cert.Experts

/-- The cross attention computes its reference. -/
theorem cross : Cert.algebraic_CrossIdeal_CrossRefIdeal := by
  pair_intro
  · run_from Cert.CrossIdeal.Value.run_blocks m g
  · run_from Cert.CrossRefIdeal.Value.run m' g'
    rw [Cert.CrossRefIdeal.Read.val_main_v38_eq]
    obtain ⟨h0, h1, h2, h3, h4⟩ := hagree c
    rw [h0, h1, h2, h3, h4]
    exact (Cert.CrossIdeal.Final.final m c).symm

/-- The gated merge computes its reference. -/
theorem merge : Cert.algebraic_MergeIdeal_MergeRefIdeal := by
  pair_intro
  · run_from Cert.MergeIdeal.Value.run_blocks m g
  · run_from Cert.MergeRefIdeal.Value.run m' g'
    rw [Cert.MergeRefIdeal.Read.val_main_v56_eq]
    exact (Cert.MergeIdeal.Final.final m c).symm

/-- The input projection computes its reference. -/
theorem project : Cert.algebraic_ProjectIdeal_ProjectRefIdeal := by
  pair_intro
  · run_from Cert.ProjectIdeal.Value.run_blocks m g
  · run_from Cert.ProjectRefIdeal.Value.run m' g'
    rw [Cert.ProjectRefIdeal.Read.val_main_v14_eq]
    exact (Cert.ProjectIdeal.Final.final m c).symm

/-- The experts compute their reference. -/
theorem experts : Cert.algebraic_ExpertsIdeal_ExpertsRefIdeal_pre_finite_weights := by
  pair_intro
  · run_from Cert.ExpertsIdeal.Value.run_blocks m g
  · run_from Cert.ExpertsRefIdeal.Value.run m' g'
    obtain ⟨h0, h1, h2, h3, h4, h5, h6⟩ := hagree c
    rw [← h6]
    refine (Cert.ExpertsRefIdeal.Read.val_main_v255_eq (StableHlo.launchContents m' c)).trans ?_
    show Cert.ExpertsRefIdeal.Read.val_main_v255 (F := Ideal) (m' ((c.tc).loc Cert.ExpertsRefIdeal.main_arg0)) (m' ((c.tc).loc Cert.ExpertsRefIdeal.main_arg1))
      (m' ((c.tc).loc Cert.ExpertsRefIdeal.main_arg2)) (m' ((c.tc).loc Cert.ExpertsRefIdeal.main_arg3)) (m' ((c.tc).loc Cert.ExpertsRefIdeal.main_arg4))
      (m' ((c.tc).loc Cert.ExpertsRefIdeal.main_arg5)) (m' ((c.tc).loc Cert.ExpertsRefIdeal.main_arg6)) = _
    rw [h0, h1, h2, h3, h4, h5, h6]
    exact (Cert.ExpertsIdeal.Final.final m c (hpre c)).symm

/-- The first layer's experts compute their reference. -/
theorem inner : Cert.algebraic_InnerIdeal_InnerRefIdeal_pre_finite_weights := by
  pair_intro
  · run_from Cert.InnerIdeal.Value.run_blocks m g
  · run_from Cert.InnerRefIdeal.Value.run m' g'
    obtain ⟨h0, h1, h2, h3, h4, h5, h6⟩ := hagree c
    rw [← h0, ← h2, ← h4, ← h5]
    refine (Cert.InnerRefIdeal.Read.val_main_v242_eq (StableHlo.launchContents m' c)).trans ?_
    show Cert.InnerRefIdeal.Read.val_main_v242 (F := Ideal) (m' ((c.tc).loc Cert.InnerRefIdeal.main_arg0)) (m' ((c.tc).loc Cert.InnerRefIdeal.main_arg1))
      (m' ((c.tc).loc Cert.InnerRefIdeal.main_arg2)) (m' ((c.tc).loc Cert.InnerRefIdeal.main_arg3)) (m' ((c.tc).loc Cert.InnerRefIdeal.main_arg4))
      (m' ((c.tc).loc Cert.InnerRefIdeal.main_arg5)) = _
    rw [h0, h1, h2, h3, h4, h5]
    exact (Cert.InnerIdeal.Final.final m c (hpre c)).symm

/-- The memory projection computes its reference. -/
theorem memory : Cert.algebraic_MemoryIdeal_MemoryRefIdeal := by
  pair_intro
  · run_from Cert.MemoryIdeal.Value.run_blocks m g
  · run_from Cert.MemoryRefIdeal.Value.run m' g'
    rw [Cert.MemoryRefIdeal.Read.val_main_v14_eq]
    exact (Cert.MemoryIdeal.Final.final m c).symm

/-- The gated convolution computes its reference. -/
theorem conv : Cert.algebraic_ConvIdeal_ConvRefIdeal := by
  pair_intro
  · run_from Cert.ConvIdeal.Value.run_blocks m g
  · run_from Cert.ConvRefIdeal.Value.run m' g'
    rw [Cert.ConvRefIdeal.Read.val_main_v31_eq]
    exact (Cert.ConvIdeal.Final.final m c).symm

/-- The router computes its reference. -/
theorem router : Cert.algebraic_RouterIdeal_RouterRefIdeal_pre_finite_router := by
  pair_intro
  · run_from Cert.RouterIdeal.Value.run_blocks m g
  · run_from Cert.RouterRefIdeal.Value.run m' g'
    · exact (Cert.RouterRefIdeal.Read.val_main_v59_eq _ _).trans (Cert.RouterIdeal.Final.final4 m c).symm
    · obtain ⟨h0, h1, h2, h3, h4, h5⟩ := hagree c
      refine (Cert.RouterRefIdeal.Read.val_main_v60_eq m' c).trans ?_
      rw [h0, h1, h2, h3, h4, h5]
      exact (Cert.RouterIdeal.Final.final5 m c (Cert.RouterPre.reals _ _ _ _ _ _ (hpre c))).symm

/-- The states of the reference's loop over the chunks, from its first. -/
def glaState (m : (ℓ : Loc Cert.GlaRefIdeal.nD Cert.GlaRefIdeal.τ Cert.GlaRefIdeal.sig) → Buf (Elt Ideal) ℓ) (c : Dev Cert.GlaRefIdeal.nD) :
    ℕ → Cert.GlaRefIdeal.Step.State Ideal
  | 0 => Cert.GlaRefIdeal.Trips.initState m c
  | n + 1 => Cert.GlaRefIdeal.Step.step n (glaState m c n)

/-- The reference's run, its result read off the last state of its loop. -/
theorem glaRun (m : (ℓ : Loc Cert.GlaRefIdeal.nD Cert.GlaRefIdeal.τ Cert.GlaRefIdeal.sig) → Buf (Elt Ideal) ℓ) (ρ : Dev Cert.GlaRefIdeal.nD → PrngReg) :
    θ_run (Cert.GlaRefIdeal.defs (F := Ideal)) (onTc (τ := Cert.GlaRefIdeal.τ) (Cert.GlaRefIdeal.main (F := Ideal))) ⟨m, fun _ => 0, ρ⟩ fun r => ∀ c : Dev Cert.GlaRefIdeal.nD,
      r.2.mem ((c.tc : Thread Cert.GlaRefIdeal.nD Cert.GlaRefIdeal.τ).loc Cert.GlaRefIdeal.main_v54) =
        Cert.GlaRefIdeal.Step.R_main_v54 (glaState m c 64) (m ((c.tc : Thread Cert.GlaRefIdeal.nD Cert.GlaRefIdeal.τ).loc Cert.GlaRefIdeal.main_arg0))
          (m ((c.tc : Thread Cert.GlaRefIdeal.nD Cert.GlaRefIdeal.τ).loc Cert.GlaRefIdeal.main_arg3))
      ∧ r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3) :=
  Cert.GlaRefIdeal.Trips.run_iter m ρ (fun c => glaState m c) (fun _ => rfl) (fun _ _ => rfl)

/-- Gated linear attention computes its reference. -/
theorem gla : Cert.algebraic_GlaIdeal_GlaRefIdeal_pre_finite_gla := by
  pair_intro
  · run_from Cert.GlaIdeal.Value.run_blocks m g
  · run_from glaRun m' g'
    obtain ⟨h0, h1, h2, h3⟩ := hagree c
    refine (Cert.GlaIdeal.Final.final m c (hpre c) (glaState m' c) ?_ fun _ => rfl).symm
    show Cert.GlaRefIdeal.Step.init _ _ _ = _
    rw [h0, h1, h2]

theorem claim : Cert.Claim := ⟨Cert.Experts.Gen.facts, Cert.ExpertsIdeal.Gen.facts, Cert.ExpertsRefIdeal.Gen.facts, Cert.Cross.Gen.facts, Cert.CrossIdeal.Gen.facts, Cert.CrossRefIdeal.Gen.facts, Cert.Merge.Gen.facts, Cert.MergeIdeal.Gen.facts, Cert.MergeRefIdeal.Gen.facts, Cert.Project.Gen.facts, Cert.ProjectIdeal.Gen.facts, Cert.ProjectRefIdeal.Gen.facts, Cert.Inner.Gen.facts, Cert.InnerIdeal.Gen.facts, Cert.InnerRefIdeal.Gen.facts, Cert.Memory.Gen.facts, Cert.MemoryIdeal.Gen.facts, Cert.MemoryRefIdeal.Gen.facts, Cert.Conv.Gen.facts, Cert.ConvIdeal.Gen.facts, Cert.ConvRefIdeal.Gen.facts, Cert.Router.Gen.facts, Cert.RouterIdeal.Gen.facts, Cert.RouterRefIdeal.Gen.facts, Cert.Gla.Gen.facts, Cert.GlaIdeal.Gen.facts, Cert.GlaRefIdeal.Gen.facts, Cert.Pre_finite_weights.Gen.facts, Cert.Pre_finite_router.Gen.facts, Cert.Pre_finite_gla.Gen.facts,
  fun m ρ _ => Cert.Experts.Gen.frame m ρ,
  fun m ρ _ => Cert.ExpertsIdeal.Gen.frame m ρ,
  fun m ρ _ => Cert.ExpertsIdeal.Gen.frame m ρ,
  fun m ρ _ => (θ_run _ _ _).mono (fun r h => ⟨fun c => (h c).2, sem_eq_zero_of_no_sems rfl _⟩) (Cert.ExpertsRefIdeal.Value.run m ρ),
  fun m ρ _ => (θ_run _ _ _).mono (fun r h => ⟨fun c => (h c).2, sem_eq_zero_of_no_sems rfl _⟩) (Cert.ExpertsRefIdeal.Value.run m ρ),
  fun m ρ _ => Cert.Cross.Gen.frame m ρ,
  fun m ρ _ => Cert.CrossIdeal.Gen.frame m ρ,
  fun m ρ _ => (θ_run _ _ _).mono (fun r h => ⟨fun c => (h c).2, sem_eq_zero_of_no_sems rfl _⟩) (Cert.CrossRefIdeal.Value.run m ρ),
  fun m ρ _ => Cert.Merge.Gen.frame m ρ,
  fun m ρ _ => Cert.MergeIdeal.Gen.frame m ρ,
  fun m ρ _ => (θ_run _ _ _).mono (fun r h => ⟨fun c => (h c).2, sem_eq_zero_of_no_sems rfl _⟩) (Cert.MergeRefIdeal.Value.run m ρ),
  fun m ρ _ => Cert.Project.Gen.frame m ρ,
  fun m ρ _ => Cert.ProjectIdeal.Gen.frame m ρ,
  fun m ρ _ => (θ_run _ _ _).mono (fun r h => ⟨fun c => (h c).2, sem_eq_zero_of_no_sems rfl _⟩) (Cert.ProjectRefIdeal.Value.run m ρ),
  fun m ρ _ => Cert.Inner.Gen.frame m ρ,
  fun m ρ _ => Cert.InnerIdeal.Gen.frame m ρ,
  fun m ρ _ => Cert.InnerIdeal.Gen.frame m ρ,
  fun m ρ _ => (θ_run _ _ _).mono (fun r h => ⟨fun c => (h c).2, sem_eq_zero_of_no_sems rfl _⟩) (Cert.InnerRefIdeal.Value.run m ρ),
  fun m ρ _ => (θ_run _ _ _).mono (fun r h => ⟨fun c => (h c).2, sem_eq_zero_of_no_sems rfl _⟩) (Cert.InnerRefIdeal.Value.run m ρ),
  fun m ρ _ => Cert.Memory.Gen.frame m ρ,
  fun m ρ _ => Cert.MemoryIdeal.Gen.frame m ρ,
  fun m ρ _ => (θ_run _ _ _).mono (fun r h => ⟨fun c => (h c).2, sem_eq_zero_of_no_sems rfl _⟩) (Cert.MemoryRefIdeal.Value.run m ρ),
  fun m ρ _ => Cert.Conv.Gen.frame m ρ,
  fun m ρ _ => Cert.ConvIdeal.Gen.frame m ρ,
  fun m ρ _ => (θ_run _ _ _).mono (fun r h => ⟨fun c => (h c).2, sem_eq_zero_of_no_sems rfl _⟩) (Cert.ConvRefIdeal.Value.run m ρ),
  fun m ρ _ => Cert.Router.Gen.frame m ρ,
  fun m ρ _ => Cert.RouterIdeal.Gen.frame m ρ,
  fun m ρ _ => Cert.RouterIdeal.Gen.frame m ρ,
  fun m ρ _ => (θ_run _ _ _).mono (fun r h => ⟨fun c => (h c).2.2, sem_eq_zero_of_no_sems rfl _⟩) (Cert.RouterRefIdeal.Value.run m ρ),
  fun m ρ _ => (θ_run _ _ _).mono (fun r h => ⟨fun c => (h c).2.2, sem_eq_zero_of_no_sems rfl _⟩) (Cert.RouterRefIdeal.Value.run m ρ),
  fun m ρ _ => Cert.Gla.Gen.frame m ρ,
  fun m ρ _ => Cert.GlaIdeal.Gen.frame m ρ,
  fun m ρ _ => Cert.GlaIdeal.Gen.frame m ρ,
  fun m ρ _ => (θ_run _ _ _).mono (fun r h => ⟨fun c => (h c).2, sem_eq_zero_of_no_sems rfl _⟩) (glaRun m ρ),
  fun m ρ _ => (θ_run _ _ _).mono (fun r h => ⟨fun c => (h c).2, sem_eq_zero_of_no_sems rfl _⟩) (glaRun m ρ),
  trivial, experts, trivial, cross, trivial, merge, trivial, project, trivial, inner, trivial, memory, trivial, conv, trivial, router, trivial, gla⟩

end Cert.Proof

end
